-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨4, ![4, 1024, 8, 64]⟩ ⟨4, ![4, 1024, 32, 64]⟩ (Layout.meshBlock [2, 2, 4] ![[], [], [2], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![512, 2048]⟩ ⟨2, ![2048, 2048]⟩ (Layout.meshBlock [2, 2, 4] ![[2], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = Layout.blockN ⟨3, ![4, 256, 2048]⟩ ⟨3, ![4, 1024, 2048]⟩ (Layout.meshBlock [2, 2, 4] ![[], [2], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x1024x8x64 : Shape := ⟨4, ![4, 1024, 8, 64]⟩
abbrev S512x2048 : Shape := ⟨2, ![512, 2048]⟩
abbrev S4x1024x512 : Shape := ⟨3, ![4, 1024, 512]⟩
abbrev S4x512x1024 : Shape := ⟨3, ![4, 512, 1024]⟩
abbrev S_ : Shape := ⟨0, ![]⟩
abbrev S512x512 : Shape := ⟨2, ![512, 512]⟩
abbrev S4x256x2048 : Shape := ⟨3, ![4, 256, 2048]⟩
abbrev S2x4x256x512 : Shape := ⟨4, ![2, 4, 256, 512]⟩
abbrev S4x4x256x512 : Shape := ⟨4, ![4, 4, 256, 512]⟩
abbrev S12 : Shape := ⟨1, ![12]⟩
abbrev S4 : Shape := ⟨1, ![4]⟩
abbrev S2 : Shape := ⟨1, ![2]⟩
abbrev S1x512x256 : Shape := ⟨3, ![1, 512, 256]⟩
abbrev S1x256x512 : Shape := ⟨3, ![1, 256, 512]⟩
abbrev S1x1x256x512 : Shape := ⟨4, ![1, 1, 256, 512]⟩
abbrev S1 : Shape := ⟨1, ![1]⟩
abbrev S1x4x256x512 : Shape := ⟨4, ![1, 4, 256, 512]⟩
abbrev S4x256x512 : Shape := ⟨3, ![4, 256, 512]⟩

abbrev nBuf : Space → Nat
  | .hbm => 30
  | .vmem => 5
  | .smem => 0
  | _ => 0

abbrev bufTy : (tb : Table) → Fin (tcTables nBuf tb) → BufTy
  | .hbm, ⟨0, _⟩ => ⟨S4x1024x8x64, .f32⟩
  | .hbm, ⟨1, _⟩ => ⟨S512x2048, .f32⟩
  | .hbm, ⟨2, _⟩ => ⟨S4x1024x512, .f32⟩
  | .hbm, ⟨3, _⟩ => ⟨S4x512x1024, .f32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i1⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S512x512, .f32⟩
  | .hbm, ⟨29, _⟩ => ⟨S4x256x2048, .f32⟩
  | .local _ .vmem, ⟨0, _⟩ => ⟨S4x512x1024, .f32⟩
  | .local _ .vmem, ⟨1, _⟩ => ⟨S512x512, .f32⟩
  | .local _ .vmem, ⟨2, _⟩ => ⟨S4x256x2048, .f32⟩
  | .local _ .vmem, ⟨3, _⟩ => ⟨S2x4x256x512, .f32⟩
  | .local _ .vmem, ⟨4, _⟩ => ⟨S4x4x256x512, .f32⟩
  | _, _ => ⟨S4x1024x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 2 → Bool
  | ⟨0, _⟩ => true
  | ⟨1, _⟩ => false
  | _ => false

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  (ofTc nBuf bufTy 2 51 bufScoped semScoped dmaSemScoped tileCredit tileCredit_eq_zero tileCredit_pos).withBarriers [(0, 1)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev main_c : Ref sig .tc := ⟨.hbm, 4, rfl⟩
abbrev main_c_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c_1 : Ref sig .tc := ⟨.hbm, 10, rfl⟩
abbrev main_c_2 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_3 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c_4 : Ref sig .tc := ⟨.hbm, 20, rfl⟩
abbrev main_v14 : Ref sig .tc := ⟨.hbm, 21, rfl⟩
abbrev main_c_5 : Ref sig .tc := ⟨.hbm, 22, rfl⟩
abbrev main_v15 : Ref sig .tc := ⟨.hbm, 23, rfl⟩
abbrev main_c_6 : Ref sig .tc := ⟨.hbm, 24, rfl⟩
abbrev main_v16 : Ref sig .tc := ⟨.hbm, 25, rfl⟩
abbrev main_v17 : Ref sig .tc := ⟨.hbm, 26, rfl⟩
abbrev main_c_7 : Ref sig .tc := ⟨.hbm, 27, rfl⟩
abbrev main_v18 : Ref sig .tc := ⟨.hbm, 28, rfl⟩
abbrev main_v19 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 1

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_18 : BitVec 32 := 8#32
  let v29 : BitVec 32 := Scalar.muli v2 c8_i32_18
  let v30 : BitVec 32 := Scalar.addi c0_i32 v29
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_19 : BitVec 32 := 4#32
  let v31 : BitVec 32 := Scalar.muli v5 c4_i32_19
  let v32 : BitVec 32 := Scalar.addi v30 v31
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_5 : BitVec 32 := 4#32
  let v14 : BitVec 32 := Scalar.addi v8 c4_i32_5
  let c1_i32_6 : BitVec 32 := 1#32
  let v15 : BitVec 32 := Scalar.subi v14 c1_i32_6
  let c4_i32_7 : BitVec 32 := 4#32
  let v16 : BitVec 32 := Scalar.remsi v15 c4_i32_7
  let c1_i32_20 : BitVec 32 := 1#32
  let v33 : BitVec 32 := Scalar.muli v16 c1_i32_20
  let v34 : BitVec 32 := Scalar.addi v32 v33
  v34.toNat
def k0_dev2 (d0 : Dev nD) : Nat :=
  let c0_i32_23 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_22 : BitVec 32 := 8#32
  let v35 : BitVec 32 := Scalar.muli v2 c8_i32_22
  let v36 : BitVec 32 := Scalar.addi c0_i32_23 v35
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_24 : BitVec 32 := 4#32
  let v37 : BitVec 32 := Scalar.muli v5 c4_i32_24
  let v38 : BitVec 32 := Scalar.addi v36 v37
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v12 : BitVec 32 := Scalar.addi v8 c1_i32_3
  let c4_i32_4 : BitVec 32 := 4#32
  let v13 : BitVec 32 := Scalar.remsi v12 c4_i32_4
  let c1_i32_25 : BitVec 32 := 1#32
  let v39 : BitVec 32 := Scalar.muli v13 c1_i32_25
  let v40 : BitVec 32 := Scalar.addi v38 v39
  v40.toNat
def k0_dev3 (d0 : Dev nD) : Nat :=
  let c0_i32_28 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let c4_i32_12 : BitVec 32 := 4#32
  let v22 : BitVec 32 := Scalar.addi v11 c4_i32_12
  let c1_i32_13 : BitVec 32 := 1#32
  let v23 : BitVec 32 := Scalar.subi v22 c1_i32_13
  let c4_i32_14 : BitVec 32 := 4#32
  let v24 : BitVec 32 := Scalar.remsi v23 c4_i32_14
  let c2_i32_15 : BitVec 32 := 2#32
  let v25 : BitVec 32 := Scalar.divsi v24 c2_i32_15
  let c8_i32_27 : BitVec 32 := 8#32
  let v41 : BitVec 32 := Scalar.muli v25 c8_i32_27
  let v42 : BitVec 32 := Scalar.addi c0_i32_28 v41
  let c2_i32_16 : BitVec 32 := 2#32
  let v26 : BitVec 32 := Scalar.remsi v24 c2_i32_16
  let v27 : BitVec 32 := Scalar.xori v25 v26
  let c4_i32_29 : BitVec 32 := 4#32
  let v43 : BitVec 32 := Scalar.muli v27 c4_i32_29
  let v44 : BitVec 32 := Scalar.addi v42 v43
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_30 : BitVec 32 := 1#32
  let v45 : BitVec 32 := Scalar.muli v8 c1_i32_30
  let v46 : BitVec 32 := Scalar.addi v44 v45
  v46.toNat
def k0_dev4 (d0 : Dev nD) : Nat :=
  let c0_i32_33 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let c1_i32_8 : BitVec 32 := 1#32
  let v17 : BitVec 32 := Scalar.addi v11 c1_i32_8
  let c4_i32_9 : BitVec 32 := 4#32
  let v18 : BitVec 32 := Scalar.remsi v17 c4_i32_9
  let c2_i32_10 : BitVec 32 := 2#32
  let v19 : BitVec 32 := Scalar.divsi v18 c2_i32_10
  let c8_i32_32 : BitVec 32 := 8#32
  let v47 : BitVec 32 := Scalar.muli v19 c8_i32_32
  let v48 : BitVec 32 := Scalar.addi c0_i32_33 v47
  let c2_i32_11 : BitVec 32 := 2#32
  let v20 : BitVec 32 := Scalar.remsi v18 c2_i32_11
  let v21 : BitVec 32 := Scalar.xori v19 v20
  let c4_i32_34 : BitVec 32 := 4#32
  let v49 : BitVec 32 := Scalar.muli v21 c4_i32_34
  let v50 : BitVec 32 := Scalar.addi v48 v49
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_35 : BitVec 32 := 1#32
  let v51 : BitVec 32 := Scalar.muli v8 c1_i32_35
  let v52 : BitVec 32 := Scalar.addi v50 v51
  v52.toNat
def k0_off1 (d0 : Dev nD) (c1_i32_38 : BitVec 32) : Fin 3 → Nat :=
  let c0 : Index := 0#32
  let c0_45 : Index := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_37 : BitVec 32 := 4#32
  let v53 : BitVec 32 := Scalar.addi v8 c4_i32_37
  let v54 : BitVec 32 := Scalar.subi v53 c1_i32_38
  let c4_i32_39 : BitVec 32 := 4#32
  let v55 : BitVec 32 := Scalar.remsi v54 c4_i32_39
  let c256_i32 : BitVec 32 := 256#32
  let v61 : BitVec 32 := Scalar.muli v55 c256_i32
  let v62 : Index := Scalar.indexCast v61
  ![0, 0, v62.toNat]
def k0_dev5 (d0 : Dev nD) : Nat :=
  let c0_i32_57 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_56 : BitVec 32 := 8#32
  let v71 : BitVec 32 := Scalar.muli v2 c8_i32_56
  let v72 : BitVec 32 := Scalar.addi c0_i32_57 v71
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_58 : BitVec 32 := 4#32
  let v73 : BitVec 32 := Scalar.muli v5 c4_i32_58
  let v74 : BitVec 32 := Scalar.addi v72 v73
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v12 : BitVec 32 := Scalar.addi v8 c1_i32_3
  let c4_i32_4 : BitVec 32 := 4#32
  let v13 : BitVec 32 := Scalar.remsi v12 c4_i32_4
  let c1_i32_59 : BitVec 32 := 1#32
  let v75 : BitVec 32 := Scalar.muli v13 c1_i32_59
  let v76 : BitVec 32 := Scalar.addi v74 v75
  v76.toNat
def k0_off2 (d0 : Dev nD) (c1_i32_38 : BitVec 32) : Fin 3 → Nat :=
  let c1 : Index := 1#32
  let c0_67 : Index := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_37 : BitVec 32 := 4#32
  let v53 : BitVec 32 := Scalar.addi v8 c4_i32_37
  let v54 : BitVec 32 := Scalar.subi v53 c1_i32_38
  let c4_i32_39 : BitVec 32 := 4#32
  let v55 : BitVec 32 := Scalar.remsi v54 c4_i32_39
  let c256_i32_66 : BitVec 32 := 256#32
  let v85 : BitVec 32 := Scalar.muli v55 c256_i32_66
  let v86 : Index := Scalar.indexCast v85
  ![1, 0, v86.toNat]
def k0_dev6 (d0 : Dev nD) : Nat :=
  let c0_i32_80 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_79 : BitVec 32 := 8#32
  let v95 : BitVec 32 := Scalar.muli v2 c8_i32_79
  let v96 : BitVec 32 := Scalar.addi c0_i32_80 v95
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_81 : BitVec 32 := 4#32
  let v97 : BitVec 32 := Scalar.muli v5 c4_i32_81
  let v98 : BitVec 32 := Scalar.addi v96 v97
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v12 : BitVec 32 := Scalar.addi v8 c1_i32_3
  let c4_i32_4 : BitVec 32 := 4#32
  let v13 : BitVec 32 := Scalar.remsi v12 c4_i32_4
  let c1_i32_82 : BitVec 32 := 1#32
  let v99 : BitVec 32 := Scalar.muli v13 c1_i32_82
  let v100 : BitVec 32 := Scalar.addi v98 v99
  v100.toNat
def k0_off3 (d0 : Dev nD) (c1_i32_38 : BitVec 32) : Fin 3 → Nat :=
  let c2 : Index := 2#32
  let c0_90 : Index := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_37 : BitVec 32 := 4#32
  let v53 : BitVec 32 := Scalar.addi v8 c4_i32_37
  let v54 : BitVec 32 := Scalar.subi v53 c1_i32_38
  let c4_i32_39 : BitVec 32 := 4#32
  let v55 : BitVec 32 := Scalar.remsi v54 c4_i32_39
  let c256_i32_89 : BitVec 32 := 256#32
  let v109 : BitVec 32 := Scalar.muli v55 c256_i32_89
  let v110 : Index := Scalar.indexCast v109
  ![2, 0, v110.toNat]
def k0_dev7 (d0 : Dev nD) : Nat :=
  let c0_i32_103 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_102 : BitVec 32 := 8#32
  let v119 : BitVec 32 := Scalar.muli v2 c8_i32_102
  let v120 : BitVec 32 := Scalar.addi c0_i32_103 v119
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_104 : BitVec 32 := 4#32
  let v121 : BitVec 32 := Scalar.muli v5 c4_i32_104
  let v122 : BitVec 32 := Scalar.addi v120 v121
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v12 : BitVec 32 := Scalar.addi v8 c1_i32_3
  let c4_i32_4 : BitVec 32 := 4#32
  let v13 : BitVec 32 := Scalar.remsi v12 c4_i32_4
  let c1_i32_105 : BitVec 32 := 1#32
  let v123 : BitVec 32 := Scalar.muli v13 c1_i32_105
  let v124 : BitVec 32 := Scalar.addi v122 v123
  v124.toNat
def k0_off4 (d0 : Dev nD) (c1_i32_38 : BitVec 32) : Fin 3 → Nat :=
  let c3 : Index := 3#32
  let c0_113 : Index := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_37 : BitVec 32 := 4#32
  let v53 : BitVec 32 := Scalar.addi v8 c4_i32_37
  let v54 : BitVec 32 := Scalar.subi v53 c1_i32_38
  let c4_i32_39 : BitVec 32 := 4#32
  let v55 : BitVec 32 := Scalar.remsi v54 c4_i32_39
  let c256_i32_112 : BitVec 32 := 256#32
  let v133 : BitVec 32 := Scalar.muli v55 c256_i32_112
  let v134 : Index := Scalar.indexCast v133
  ![3, 0, v134.toNat]
def k0_dev8 (d0 : Dev nD) : Nat :=
  let c0_i32_125 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_124 : BitVec 32 := 8#32
  let v143 : BitVec 32 := Scalar.muli v2 c8_i32_124
  let v144 : BitVec 32 := Scalar.addi c0_i32_125 v143
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_126 : BitVec 32 := 4#32
  let v145 : BitVec 32 := Scalar.muli v5 c4_i32_126
  let v146 : BitVec 32 := Scalar.addi v144 v145
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v12 : BitVec 32 := Scalar.addi v8 c1_i32_3
  let c4_i32_4 : BitVec 32 := 4#32
  let v13 : BitVec 32 := Scalar.remsi v12 c4_i32_4
  let c1_i32_127 : BitVec 32 := 1#32
  let v147 : BitVec 32 := Scalar.muli v13 c1_i32_127
  let v148 : BitVec 32 := Scalar.addi v146 v147
  v148.toNat
def k0_dev9 (d0 : Dev nD) : Nat :=
  let c0_i32_175 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_174 : BitVec 32 := 8#32
  let v188 : BitVec 32 := Scalar.muli v2 c8_i32_174
  let v189 : BitVec 32 := Scalar.addi c0_i32_175 v188
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_176 : BitVec 32 := 4#32
  let v190 : BitVec 32 := Scalar.muli v5 c4_i32_176
  let v191 : BitVec 32 := Scalar.addi v189 v190
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_5 : BitVec 32 := 4#32
  let v14 : BitVec 32 := Scalar.addi v8 c4_i32_5
  let c1_i32_6 : BitVec 32 := 1#32
  let v15 : BitVec 32 := Scalar.subi v14 c1_i32_6
  let c4_i32_7 : BitVec 32 := 4#32
  let v16 : BitVec 32 := Scalar.remsi v15 c4_i32_7
  let c1_i32_177 : BitVec 32 := 1#32
  let v192 : BitVec 32 := Scalar.muli v16 c1_i32_177
  let v193 : BitVec 32 := Scalar.addi v191 v192
  v193.toNat
def k0_dev10 (d0 : Dev nD) : Nat :=
  let c0_i32_185 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_184 : BitVec 32 := 8#32
  let v194 : BitVec 32 := Scalar.muli v2 c8_i32_184
  let v195 : BitVec 32 := Scalar.addi c0_i32_185 v194
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_186 : BitVec 32 := 4#32
  let v196 : BitVec 32 := Scalar.muli v5 c4_i32_186
  let v197 : BitVec 32 := Scalar.addi v195 v196
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v12 : BitVec 32 := Scalar.addi v8 c1_i32_3
  let c4_i32_4 : BitVec 32 := 4#32
  let v13 : BitVec 32 := Scalar.remsi v12 c4_i32_4
  let c1_i32_187 : BitVec 32 := 1#32
  let v198 : BitVec 32 := Scalar.muli v13 c1_i32_187
  let v199 : BitVec 32 := Scalar.addi v197 v198
  v199.toNat
def k0_dev11 (d0 : Dev nD) : Nat :=
  let c0_i32_235 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_234 : BitVec 32 := 8#32
  let v239 : BitVec 32 := Scalar.muli v2 c8_i32_234
  let v240 : BitVec 32 := Scalar.addi c0_i32_235 v239
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_236 : BitVec 32 := 4#32
  let v241 : BitVec 32 := Scalar.muli v5 c4_i32_236
  let v242 : BitVec 32 := Scalar.addi v240 v241
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_5 : BitVec 32 := 4#32
  let v14 : BitVec 32 := Scalar.addi v8 c4_i32_5
  let c1_i32_6 : BitVec 32 := 1#32
  let v15 : BitVec 32 := Scalar.subi v14 c1_i32_6
  let c4_i32_7 : BitVec 32 := 4#32
  let v16 : BitVec 32 := Scalar.remsi v15 c4_i32_7
  let c1_i32_237 : BitVec 32 := 1#32
  let v243 : BitVec 32 := Scalar.muli v16 c1_i32_237
  let v244 : BitVec 32 := Scalar.addi v242 v243
  v244.toNat
def k0_dev12 (d0 : Dev nD) : Nat :=
  let c0_i32_244 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_243 : BitVec 32 := 8#32
  let v245 : BitVec 32 := Scalar.muli v2 c8_i32_243
  let v246 : BitVec 32 := Scalar.addi c0_i32_244 v245
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_245 : BitVec 32 := 4#32
  let v247 : BitVec 32 := Scalar.muli v5 c4_i32_245
  let v248 : BitVec 32 := Scalar.addi v246 v247
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v12 : BitVec 32 := Scalar.addi v8 c1_i32_3
  let c4_i32_4 : BitVec 32 := 4#32
  let v13 : BitVec 32 := Scalar.remsi v12 c4_i32_4
  let c1_i32_246 : BitVec 32 := 1#32
  let v249 : BitVec 32 := Scalar.muli v13 c1_i32_246
  let v250 : BitVec 32 := Scalar.addi v248 v249
  v250.toNat
def k0_dev13 (d0 : Dev nD) : Nat :=
  let c0_i32_294 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_293 : BitVec 32 := 8#32
  let v290 : BitVec 32 := Scalar.muli v2 c8_i32_293
  let v291 : BitVec 32 := Scalar.addi c0_i32_294 v290
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_295 : BitVec 32 := 4#32
  let v292 : BitVec 32 := Scalar.muli v5 c4_i32_295
  let v293 : BitVec 32 := Scalar.addi v291 v292
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_5 : BitVec 32 := 4#32
  let v14 : BitVec 32 := Scalar.addi v8 c4_i32_5
  let c1_i32_6 : BitVec 32 := 1#32
  let v15 : BitVec 32 := Scalar.subi v14 c1_i32_6
  let c4_i32_7 : BitVec 32 := 4#32
  let v16 : BitVec 32 := Scalar.remsi v15 c4_i32_7
  let c1_i32_296 : BitVec 32 := 1#32
  let v294 : BitVec 32 := Scalar.muli v16 c1_i32_296
  let v295 : BitVec 32 := Scalar.addi v293 v294
  v295.toNat
def k0_dev14 (d0 : Dev nD) : Nat :=
  let c0_i32_303 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_302 : BitVec 32 := 8#32
  let v296 : BitVec 32 := Scalar.muli v2 c8_i32_302
  let v297 : BitVec 32 := Scalar.addi c0_i32_303 v296
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_304 : BitVec 32 := 4#32
  let v298 : BitVec 32 := Scalar.muli v5 c4_i32_304
  let v299 : BitVec 32 := Scalar.addi v297 v298
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v12 : BitVec 32 := Scalar.addi v8 c1_i32_3
  let c4_i32_4 : BitVec 32 := 4#32
  let v13 : BitVec 32 := Scalar.remsi v12 c4_i32_4
  let c1_i32_305 : BitVec 32 := 1#32
  let v300 : BitVec 32 := Scalar.muli v13 c1_i32_305
  let v301 : BitVec 32 := Scalar.addi v299 v300
  v301.toNat
def k0_dev15 (d0 : Dev nD) : Nat :=
  let c0_i32_353 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_352 : BitVec 32 := 8#32
  let v341 : BitVec 32 := Scalar.muli v2 c8_i32_352
  let v342 : BitVec 32 := Scalar.addi c0_i32_353 v341
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_354 : BitVec 32 := 4#32
  let v343 : BitVec 32 := Scalar.muli v5 c4_i32_354
  let v344 : BitVec 32 := Scalar.addi v342 v343
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_5 : BitVec 32 := 4#32
  let v14 : BitVec 32 := Scalar.addi v8 c4_i32_5
  let c1_i32_6 : BitVec 32 := 1#32
  let v15 : BitVec 32 := Scalar.subi v14 c1_i32_6
  let c4_i32_7 : BitVec 32 := 4#32
  let v16 : BitVec 32 := Scalar.remsi v15 c4_i32_7
  let c1_i32_355 : BitVec 32 := 1#32
  let v345 : BitVec 32 := Scalar.muli v16 c1_i32_355
  let v346 : BitVec 32 := Scalar.addi v344 v345
  v346.toNat
def k0_dev16 (d0 : Dev nD) : Nat :=
  let c0_i32_362 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_361 : BitVec 32 := 8#32
  let v347 : BitVec 32 := Scalar.muli v2 c8_i32_361
  let v348 : BitVec 32 := Scalar.addi c0_i32_362 v347
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_363 : BitVec 32 := 4#32
  let v349 : BitVec 32 := Scalar.muli v5 c4_i32_363
  let v350 : BitVec 32 := Scalar.addi v348 v349
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v12 : BitVec 32 := Scalar.addi v8 c1_i32_3
  let c4_i32_4 : BitVec 32 := 4#32
  let v13 : BitVec 32 := Scalar.remsi v12 c4_i32_4
  let c1_i32_364 : BitVec 32 := 1#32
  let v351 : BitVec 32 := Scalar.muli v13 c1_i32_364
  let v352 : BitVec 32 := Scalar.addi v350 v351
  v352.toNat
def k0_off5 (d0 : Dev nD) : Fin 3 → Nat :=
  let c0_372 : Index := 0#32
  let c0_373 : Index := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_43 : BitVec 32 := 1#32
  let v59 : BitVec 32 := Scalar.addi v8 c1_i32_43
  let c4_i32_44 : BitVec 32 := 4#32
  let v60 : BitVec 32 := Scalar.remsi v59 c4_i32_44
  let c256_i32_371 : BitVec 32 := 256#32
  let v361 : BitVec 32 := Scalar.muli v60 c256_i32_371
  let v362 : Index := Scalar.indexCast v361
  ![0, 0, v362.toNat]
def k0_dev17 (d0 : Dev nD) : Nat :=
  let c0_i32_412 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_411 : BitVec 32 := 8#32
  let v392 : BitVec 32 := Scalar.muli v2 c8_i32_411
  let v393 : BitVec 32 := Scalar.addi c0_i32_412 v392
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_413 : BitVec 32 := 4#32
  let v394 : BitVec 32 := Scalar.muli v5 c4_i32_413
  let v395 : BitVec 32 := Scalar.addi v393 v394
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_5 : BitVec 32 := 4#32
  let v14 : BitVec 32 := Scalar.addi v8 c4_i32_5
  let c1_i32_6 : BitVec 32 := 1#32
  let v15 : BitVec 32 := Scalar.subi v14 c1_i32_6
  let c4_i32_7 : BitVec 32 := 4#32
  let v16 : BitVec 32 := Scalar.remsi v15 c4_i32_7
  let c1_i32_414 : BitVec 32 := 1#32
  let v396 : BitVec 32 := Scalar.muli v16 c1_i32_414
  let v397 : BitVec 32 := Scalar.addi v395 v396
  v397.toNat
def k0_dev18 (d0 : Dev nD) : Nat :=
  let c0_i32_422 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_421 : BitVec 32 := 8#32
  let v398 : BitVec 32 := Scalar.muli v2 c8_i32_421
  let v399 : BitVec 32 := Scalar.addi c0_i32_422 v398
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_423 : BitVec 32 := 4#32
  let v400 : BitVec 32 := Scalar.muli v5 c4_i32_423
  let v401 : BitVec 32 := Scalar.addi v399 v400
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v12 : BitVec 32 := Scalar.addi v8 c1_i32_3
  let c4_i32_4 : BitVec 32 := 4#32
  let v13 : BitVec 32 := Scalar.remsi v12 c4_i32_4
  let c1_i32_424 : BitVec 32 := 1#32
  let v402 : BitVec 32 := Scalar.muli v13 c1_i32_424
  let v403 : BitVec 32 := Scalar.addi v401 v402
  v403.toNat
def k0_off6 (d0 : Dev nD) : Fin 3 → Nat :=
  let c1_432 : Index := 1#32
  let c0_433 : Index := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_43 : BitVec 32 := 1#32
  let v59 : BitVec 32 := Scalar.addi v8 c1_i32_43
  let c4_i32_44 : BitVec 32 := 4#32
  let v60 : BitVec 32 := Scalar.remsi v59 c4_i32_44
  let c256_i32_431 : BitVec 32 := 256#32
  let v412 : BitVec 32 := Scalar.muli v60 c256_i32_431
  let v413 : Index := Scalar.indexCast v412
  ![1, 0, v413.toNat]
def k0_dev19 (d0 : Dev nD) : Nat :=
  let c0_i32_472 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_471 : BitVec 32 := 8#32
  let v443 : BitVec 32 := Scalar.muli v2 c8_i32_471
  let v444 : BitVec 32 := Scalar.addi c0_i32_472 v443
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_473 : BitVec 32 := 4#32
  let v445 : BitVec 32 := Scalar.muli v5 c4_i32_473
  let v446 : BitVec 32 := Scalar.addi v444 v445
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_5 : BitVec 32 := 4#32
  let v14 : BitVec 32 := Scalar.addi v8 c4_i32_5
  let c1_i32_6 : BitVec 32 := 1#32
  let v15 : BitVec 32 := Scalar.subi v14 c1_i32_6
  let c4_i32_7 : BitVec 32 := 4#32
  let v16 : BitVec 32 := Scalar.remsi v15 c4_i32_7
  let c1_i32_474 : BitVec 32 := 1#32
  let v447 : BitVec 32 := Scalar.muli v16 c1_i32_474
  let v448 : BitVec 32 := Scalar.addi v446 v447
  v448.toNat
def k0_dev20 (d0 : Dev nD) : Nat :=
  let c0_i32_481 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_480 : BitVec 32 := 8#32
  let v449 : BitVec 32 := Scalar.muli v2 c8_i32_480
  let v450 : BitVec 32 := Scalar.addi c0_i32_481 v449
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_482 : BitVec 32 := 4#32
  let v451 : BitVec 32 := Scalar.muli v5 c4_i32_482
  let v452 : BitVec 32 := Scalar.addi v450 v451
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v12 : BitVec 32 := Scalar.addi v8 c1_i32_3
  let c4_i32_4 : BitVec 32 := 4#32
  let v13 : BitVec 32 := Scalar.remsi v12 c4_i32_4
  let c1_i32_483 : BitVec 32 := 1#32
  let v453 : BitVec 32 := Scalar.muli v13 c1_i32_483
  let v454 : BitVec 32 := Scalar.addi v452 v453
  v454.toNat
def k0_off7 (d0 : Dev nD) : Fin 3 → Nat :=
  let c2_491 : Index := 2#32
  let c0_492 : Index := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_43 : BitVec 32 := 1#32
  let v59 : BitVec 32 := Scalar.addi v8 c1_i32_43
  let c4_i32_44 : BitVec 32 := 4#32
  let v60 : BitVec 32 := Scalar.remsi v59 c4_i32_44
  let c256_i32_490 : BitVec 32 := 256#32
  let v463 : BitVec 32 := Scalar.muli v60 c256_i32_490
  let v464 : Index := Scalar.indexCast v463
  ![2, 0, v464.toNat]
def k0_dev21 (d0 : Dev nD) : Nat :=
  let c0_i32_531 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_530 : BitVec 32 := 8#32
  let v494 : BitVec 32 := Scalar.muli v2 c8_i32_530
  let v495 : BitVec 32 := Scalar.addi c0_i32_531 v494
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_532 : BitVec 32 := 4#32
  let v496 : BitVec 32 := Scalar.muli v5 c4_i32_532
  let v497 : BitVec 32 := Scalar.addi v495 v496
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_5 : BitVec 32 := 4#32
  let v14 : BitVec 32 := Scalar.addi v8 c4_i32_5
  let c1_i32_6 : BitVec 32 := 1#32
  let v15 : BitVec 32 := Scalar.subi v14 c1_i32_6
  let c4_i32_7 : BitVec 32 := 4#32
  let v16 : BitVec 32 := Scalar.remsi v15 c4_i32_7
  let c1_i32_533 : BitVec 32 := 1#32
  let v498 : BitVec 32 := Scalar.muli v16 c1_i32_533
  let v499 : BitVec 32 := Scalar.addi v497 v498
  v499.toNat
def k0_dev22 (d0 : Dev nD) : Nat :=
  let c0_i32_540 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_539 : BitVec 32 := 8#32
  let v500 : BitVec 32 := Scalar.muli v2 c8_i32_539
  let v501 : BitVec 32 := Scalar.addi c0_i32_540 v500
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_541 : BitVec 32 := 4#32
  let v502 : BitVec 32 := Scalar.muli v5 c4_i32_541
  let v503 : BitVec 32 := Scalar.addi v501 v502
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v12 : BitVec 32 := Scalar.addi v8 c1_i32_3
  let c4_i32_4 : BitVec 32 := 4#32
  let v13 : BitVec 32 := Scalar.remsi v12 c4_i32_4
  let c1_i32_542 : BitVec 32 := 1#32
  let v504 : BitVec 32 := Scalar.muli v13 c1_i32_542
  let v505 : BitVec 32 := Scalar.addi v503 v504
  v505.toNat
def k0_off8 (d0 : Dev nD) : Fin 3 → Nat :=
  let c3_550 : Index := 3#32
  let c0_551 : Index := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_43 : BitVec 32 := 1#32
  let v59 : BitVec 32 := Scalar.addi v8 c1_i32_43
  let c4_i32_44 : BitVec 32 := 4#32
  let v60 : BitVec 32 := Scalar.remsi v59 c4_i32_44
  let c256_i32_549 : BitVec 32 := 256#32
  let v514 : BitVec 32 := Scalar.muli v60 c256_i32_549
  let v515 : Index := Scalar.indexCast v514
  ![3, 0, v515.toNat]
def k0_dev23 (d0 : Dev nD) : Nat :=
  let c0_i32_590 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_589 : BitVec 32 := 8#32
  let v545 : BitVec 32 := Scalar.muli v2 c8_i32_589
  let v546 : BitVec 32 := Scalar.addi c0_i32_590 v545
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_591 : BitVec 32 := 4#32
  let v547 : BitVec 32 := Scalar.muli v5 c4_i32_591
  let v548 : BitVec 32 := Scalar.addi v546 v547
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_5 : BitVec 32 := 4#32
  let v14 : BitVec 32 := Scalar.addi v8 c4_i32_5
  let c1_i32_6 : BitVec 32 := 1#32
  let v15 : BitVec 32 := Scalar.subi v14 c1_i32_6
  let c4_i32_7 : BitVec 32 := 4#32
  let v16 : BitVec 32 := Scalar.remsi v15 c4_i32_7
  let c1_i32_592 : BitVec 32 := 1#32
  let v549 : BitVec 32 := Scalar.muli v16 c1_i32_592
  let v550 : BitVec 32 := Scalar.addi v548 v549
  v550.toNat
def k0_dev24 (d0 : Dev nD) : Nat :=
  let c0_i32_599 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_598 : BitVec 32 := 8#32
  let v551 : BitVec 32 := Scalar.muli v2 c8_i32_598
  let v552 : BitVec 32 := Scalar.addi c0_i32_599 v551
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_600 : BitVec 32 := 4#32
  let v553 : BitVec 32 := Scalar.muli v5 c4_i32_600
  let v554 : BitVec 32 := Scalar.addi v552 v553
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v12 : BitVec 32 := Scalar.addi v8 c1_i32_3
  let c4_i32_4 : BitVec 32 := 4#32
  let v13 : BitVec 32 := Scalar.remsi v12 c4_i32_4
  let c1_i32_601 : BitVec 32 := 1#32
  let v555 : BitVec 32 := Scalar.muli v13 c1_i32_601
  let v556 : BitVec 32 := Scalar.addi v554 v555
  v556.toNat
def k0_off9 (d0 : Dev nD) : Fin 3 → Nat :=
  let c0_614 : Index := 0#32
  let c0_615 : Index := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c256_i32_613 : BitVec 32 := 256#32
  let v570 : BitVec 32 := Scalar.muli v8 c256_i32_613
  let v571 : Index := Scalar.indexCast v570
  ![0, 0, v571.toNat]
def k0_off10 (d0 : Dev nD) : Fin 4 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v592 : Index := Scalar.indexCast v11
  let c0_637 : Index := 0#32
  let c0_638 : Index := 0#32
  let c0_639 : Index := 0#32
  ![v592.toNat, 0, 0, 0]
def k0_off11 (d0 : Dev nD) : Fin 4 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let c0_i32_646 : BitVec 32 := 0#32
  let c0_i32_647 : BitVec 32 := 0#32
  let c0_i32_648 : BitVec 32 := 0#32
  ![v11.toNat, 0, 0, 0]
def k0_dev25 (d0 : Dev nD) : Nat :=
  let c0_i32_643 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let c1_i32_8 : BitVec 32 := 1#32
  let v17 : BitVec 32 := Scalar.addi v11 c1_i32_8
  let c4_i32_9 : BitVec 32 := 4#32
  let v18 : BitVec 32 := Scalar.remsi v17 c4_i32_9
  let c2_i32_10 : BitVec 32 := 2#32
  let v19 : BitVec 32 := Scalar.divsi v18 c2_i32_10
  let c8_i32_642 : BitVec 32 := 8#32
  let v596 : BitVec 32 := Scalar.muli v19 c8_i32_642
  let v597 : BitVec 32 := Scalar.addi c0_i32_643 v596
  let c2_i32_11 : BitVec 32 := 2#32
  let v20 : BitVec 32 := Scalar.remsi v18 c2_i32_11
  let v21 : BitVec 32 := Scalar.xori v19 v20
  let c4_i32_644 : BitVec 32 := 4#32
  let v598 : BitVec 32 := Scalar.muli v21 c4_i32_644
  let v599 : BitVec 32 := Scalar.addi v597 v598
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_645 : BitVec 32 := 1#32
  let v600 : BitVec 32 := Scalar.muli v8 c1_i32_645
  let v601 : BitVec 32 := Scalar.addi v599 v600
  v601.toNat
def k0_dev26 (d0 : Dev nD) : Nat :=
  let c0_i32_655 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let c4_i32_12 : BitVec 32 := 4#32
  let v22 : BitVec 32 := Scalar.addi v11 c4_i32_12
  let c1_i32_13 : BitVec 32 := 1#32
  let v23 : BitVec 32 := Scalar.subi v22 c1_i32_13
  let c4_i32_14 : BitVec 32 := 4#32
  let v24 : BitVec 32 := Scalar.remsi v23 c4_i32_14
  let c2_i32_15 : BitVec 32 := 2#32
  let v25 : BitVec 32 := Scalar.divsi v24 c2_i32_15
  let c8_i32_654 : BitVec 32 := 8#32
  let v610 : BitVec 32 := Scalar.muli v25 c8_i32_654
  let v611 : BitVec 32 := Scalar.addi c0_i32_655 v610
  let c2_i32_16 : BitVec 32 := 2#32
  let v26 : BitVec 32 := Scalar.remsi v24 c2_i32_16
  let v27 : BitVec 32 := Scalar.xori v25 v26
  let c4_i32_656 : BitVec 32 := 4#32
  let v612 : BitVec 32 := Scalar.muli v27 c4_i32_656
  let v613 : BitVec 32 := Scalar.addi v611 v612
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_657 : BitVec 32 := 1#32
  let v614 : BitVec 32 := Scalar.muli v8 c1_i32_657
  let v615 : BitVec 32 := Scalar.addi v613 v614
  v615.toNat
def k0_off12 (d0 : Dev nD) : Fin 3 → Nat :=
  let c1_665 : Index := 1#32
  let c0_666 : Index := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c256_i32_664 : BitVec 32 := 256#32
  let v624 : BitVec 32 := Scalar.muli v8 c256_i32_664
  let v625 : Index := Scalar.indexCast v624
  ![1, 0, v625.toNat]
def k0_off13 (d0 : Dev nD) : Fin 4 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v646 : Index := Scalar.indexCast v11
  let c1_688 : Index := 1#32
  let c0_689 : Index := 0#32
  let c0_690 : Index := 0#32
  ![v646.toNat, 1, 0, 0]
def k0_off14 (d0 : Dev nD) : Fin 4 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let c1_i32_697 : BitVec 32 := 1#32
  let c0_i32_698 : BitVec 32 := 0#32
  let c0_i32_699 : BitVec 32 := 0#32
  ![v11.toNat, 1, 0, 0]
def k0_dev27 (d0 : Dev nD) : Nat :=
  let c0_i32_694 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let c1_i32_8 : BitVec 32 := 1#32
  let v17 : BitVec 32 := Scalar.addi v11 c1_i32_8
  let c4_i32_9 : BitVec 32 := 4#32
  let v18 : BitVec 32 := Scalar.remsi v17 c4_i32_9
  let c2_i32_10 : BitVec 32 := 2#32
  let v19 : BitVec 32 := Scalar.divsi v18 c2_i32_10
  let c8_i32_693 : BitVec 32 := 8#32
  let v650 : BitVec 32 := Scalar.muli v19 c8_i32_693
  let v651 : BitVec 32 := Scalar.addi c0_i32_694 v650
  let c2_i32_11 : BitVec 32 := 2#32
  let v20 : BitVec 32 := Scalar.remsi v18 c2_i32_11
  let v21 : BitVec 32 := Scalar.xori v19 v20
  let c4_i32_695 : BitVec 32 := 4#32
  let v652 : BitVec 32 := Scalar.muli v21 c4_i32_695
  let v653 : BitVec 32 := Scalar.addi v651 v652
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_696 : BitVec 32 := 1#32
  let v654 : BitVec 32 := Scalar.muli v8 c1_i32_696
  let v655 : BitVec 32 := Scalar.addi v653 v654
  v655.toNat
def k0_dev28 (d0 : Dev nD) : Nat :=
  let c0_i32_706 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let c4_i32_12 : BitVec 32 := 4#32
  let v22 : BitVec 32 := Scalar.addi v11 c4_i32_12
  let c1_i32_13 : BitVec 32 := 1#32
  let v23 : BitVec 32 := Scalar.subi v22 c1_i32_13
  let c4_i32_14 : BitVec 32 := 4#32
  let v24 : BitVec 32 := Scalar.remsi v23 c4_i32_14
  let c2_i32_15 : BitVec 32 := 2#32
  let v25 : BitVec 32 := Scalar.divsi v24 c2_i32_15
  let c8_i32_705 : BitVec 32 := 8#32
  let v664 : BitVec 32 := Scalar.muli v25 c8_i32_705
  let v665 : BitVec 32 := Scalar.addi c0_i32_706 v664
  let c2_i32_16 : BitVec 32 := 2#32
  let v26 : BitVec 32 := Scalar.remsi v24 c2_i32_16
  let v27 : BitVec 32 := Scalar.xori v25 v26
  let c4_i32_707 : BitVec 32 := 4#32
  let v666 : BitVec 32 := Scalar.muli v27 c4_i32_707
  let v667 : BitVec 32 := Scalar.addi v665 v666
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_708 : BitVec 32 := 1#32
  let v668 : BitVec 32 := Scalar.muli v8 c1_i32_708
  let v669 : BitVec 32 := Scalar.addi v667 v668
  v669.toNat
def k0_off15 (d0 : Dev nD) : Fin 3 → Nat :=
  let c2_716 : Index := 2#32
  let c0_717 : Index := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c256_i32_715 : BitVec 32 := 256#32
  let v678 : BitVec 32 := Scalar.muli v8 c256_i32_715
  let v679 : Index := Scalar.indexCast v678
  ![2, 0, v679.toNat]
def k0_off16 (d0 : Dev nD) : Fin 4 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v700 : Index := Scalar.indexCast v11
  let c2_739 : Index := 2#32
  let c0_740 : Index := 0#32
  let c0_741 : Index := 0#32
  ![v700.toNat, 2, 0, 0]
def k0_off17 (d0 : Dev nD) : Fin 4 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let c2_i32_748 : BitVec 32 := 2#32
  let c0_i32_749 : BitVec 32 := 0#32
  let c0_i32_750 : BitVec 32 := 0#32
  ![v11.toNat, 2, 0, 0]
def k0_dev29 (d0 : Dev nD) : Nat :=
  let c0_i32_745 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let c1_i32_8 : BitVec 32 := 1#32
  let v17 : BitVec 32 := Scalar.addi v11 c1_i32_8
  let c4_i32_9 : BitVec 32 := 4#32
  let v18 : BitVec 32 := Scalar.remsi v17 c4_i32_9
  let c2_i32_10 : BitVec 32 := 2#32
  let v19 : BitVec 32 := Scalar.divsi v18 c2_i32_10
  let c8_i32_744 : BitVec 32 := 8#32
  let v704 : BitVec 32 := Scalar.muli v19 c8_i32_744
  let v705 : BitVec 32 := Scalar.addi c0_i32_745 v704
  let c2_i32_11 : BitVec 32 := 2#32
  let v20 : BitVec 32 := Scalar.remsi v18 c2_i32_11
  let v21 : BitVec 32 := Scalar.xori v19 v20
  let c4_i32_746 : BitVec 32 := 4#32
  let v706 : BitVec 32 := Scalar.muli v21 c4_i32_746
  let v707 : BitVec 32 := Scalar.addi v705 v706
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_747 : BitVec 32 := 1#32
  let v708 : BitVec 32 := Scalar.muli v8 c1_i32_747
  let v709 : BitVec 32 := Scalar.addi v707 v708
  v709.toNat
def k0_dev30 (d0 : Dev nD) : Nat :=
  let c0_i32_757 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let c4_i32_12 : BitVec 32 := 4#32
  let v22 : BitVec 32 := Scalar.addi v11 c4_i32_12
  let c1_i32_13 : BitVec 32 := 1#32
  let v23 : BitVec 32 := Scalar.subi v22 c1_i32_13
  let c4_i32_14 : BitVec 32 := 4#32
  let v24 : BitVec 32 := Scalar.remsi v23 c4_i32_14
  let c2_i32_15 : BitVec 32 := 2#32
  let v25 : BitVec 32 := Scalar.divsi v24 c2_i32_15
  let c8_i32_756 : BitVec 32 := 8#32
  let v718 : BitVec 32 := Scalar.muli v25 c8_i32_756
  let v719 : BitVec 32 := Scalar.addi c0_i32_757 v718
  let c2_i32_16 : BitVec 32 := 2#32
  let v26 : BitVec 32 := Scalar.remsi v24 c2_i32_16
  let v27 : BitVec 32 := Scalar.xori v25 v26
  let c4_i32_758 : BitVec 32 := 4#32
  let v720 : BitVec 32 := Scalar.muli v27 c4_i32_758
  let v721 : BitVec 32 := Scalar.addi v719 v720
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_759 : BitVec 32 := 1#32
  let v722 : BitVec 32 := Scalar.muli v8 c1_i32_759
  let v723 : BitVec 32 := Scalar.addi v721 v722
  v723.toNat
def k0_off18 (d0 : Dev nD) : Fin 3 → Nat :=
  let c3_767 : Index := 3#32
  let c0_768 : Index := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c256_i32_766 : BitVec 32 := 256#32
  let v732 : BitVec 32 := Scalar.muli v8 c256_i32_766
  let v733 : Index := Scalar.indexCast v732
  ![3, 0, v733.toNat]
def k0_off19 (d0 : Dev nD) : Fin 4 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v754 : Index := Scalar.indexCast v11
  let c3_790 : Index := 3#32
  let c0_791 : Index := 0#32
  let c0_792 : Index := 0#32
  ![v754.toNat, 3, 0, 0]
def k0_off20 (d0 : Dev nD) : Fin 4 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let c3_i32_799 : BitVec 32 := 3#32
  let c0_i32_800 : BitVec 32 := 0#32
  let c0_i32_801 : BitVec 32 := 0#32
  ![v11.toNat, 3, 0, 0]
def k0_dev31 (d0 : Dev nD) : Nat :=
  let c0_i32_796 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let c1_i32_8 : BitVec 32 := 1#32
  let v17 : BitVec 32 := Scalar.addi v11 c1_i32_8
  let c4_i32_9 : BitVec 32 := 4#32
  let v18 : BitVec 32 := Scalar.remsi v17 c4_i32_9
  let c2_i32_10 : BitVec 32 := 2#32
  let v19 : BitVec 32 := Scalar.divsi v18 c2_i32_10
  let c8_i32_795 : BitVec 32 := 8#32
  let v758 : BitVec 32 := Scalar.muli v19 c8_i32_795
  let v759 : BitVec 32 := Scalar.addi c0_i32_796 v758
  let c2_i32_11 : BitVec 32 := 2#32
  let v20 : BitVec 32 := Scalar.remsi v18 c2_i32_11
  let v21 : BitVec 32 := Scalar.xori v19 v20
  let c4_i32_797 : BitVec 32 := 4#32
  let v760 : BitVec 32 := Scalar.muli v21 c4_i32_797
  let v761 : BitVec 32 := Scalar.addi v759 v760
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_798 : BitVec 32 := 1#32
  let v762 : BitVec 32 := Scalar.muli v8 c1_i32_798
  let v763 : BitVec 32 := Scalar.addi v761 v762
  v763.toNat
def k0_dev32 (d0 : Dev nD) : Nat :=
  let c0_i32_808 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let c4_i32_12 : BitVec 32 := 4#32
  let v22 : BitVec 32 := Scalar.addi v11 c4_i32_12
  let c1_i32_13 : BitVec 32 := 1#32
  let v23 : BitVec 32 := Scalar.subi v22 c1_i32_13
  let c4_i32_14 : BitVec 32 := 4#32
  let v24 : BitVec 32 := Scalar.remsi v23 c4_i32_14
  let c2_i32_15 : BitVec 32 := 2#32
  let v25 : BitVec 32 := Scalar.divsi v24 c2_i32_15
  let c8_i32_807 : BitVec 32 := 8#32
  let v772 : BitVec 32 := Scalar.muli v25 c8_i32_807
  let v773 : BitVec 32 := Scalar.addi c0_i32_808 v772
  let c2_i32_16 : BitVec 32 := 2#32
  let v26 : BitVec 32 := Scalar.remsi v24 c2_i32_16
  let v27 : BitVec 32 := Scalar.xori v25 v26
  let c4_i32_809 : BitVec 32 := 4#32
  let v774 : BitVec 32 := Scalar.muli v27 c4_i32_809
  let v775 : BitVec 32 := Scalar.addi v773 v774
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_810 : BitVec 32 := 1#32
  let v776 : BitVec 32 := Scalar.muli v8 c1_i32_810
  let v777 : BitVec 32 := Scalar.addi v775 v776
  v777.toNat
def k0_off21 (d0 : Dev nD) : Fin 4 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let c4_i32_608 : BitVec 32 := 4#32
  let v565 : BitVec 32 := Scalar.addi v11 c4_i32_608
  let c1_i32_609 : BitVec 32 := 1#32
  let v566 : BitVec 32 := Scalar.subi v565 c1_i32_609
  let c4_i32_610 : BitVec 32 := 4#32
  let v567 : BitVec 32 := Scalar.remsi v566 c4_i32_610
  let c0_i32_835 : BitVec 32 := 0#32
  let c0_i32_836 : BitVec 32 := 0#32
  let c0_i32_837 : BitVec 32 := 0#32
  ![v567.toNat, 0, 0, 0]
def k0_dev33 (d0 : Dev nD) : Nat :=
  let c0_i32_832 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let c1_i32_8 : BitVec 32 := 1#32
  let v17 : BitVec 32 := Scalar.addi v11 c1_i32_8
  let c4_i32_9 : BitVec 32 := 4#32
  let v18 : BitVec 32 := Scalar.remsi v17 c4_i32_9
  let c2_i32_10 : BitVec 32 := 2#32
  let v19 : BitVec 32 := Scalar.divsi v18 c2_i32_10
  let c8_i32_831 : BitVec 32 := 8#32
  let v798 : BitVec 32 := Scalar.muli v19 c8_i32_831
  let v799 : BitVec 32 := Scalar.addi c0_i32_832 v798
  let c2_i32_11 : BitVec 32 := 2#32
  let v20 : BitVec 32 := Scalar.remsi v18 c2_i32_11
  let v21 : BitVec 32 := Scalar.xori v19 v20
  let c4_i32_833 : BitVec 32 := 4#32
  let v800 : BitVec 32 := Scalar.muli v21 c4_i32_833
  let v801 : BitVec 32 := Scalar.addi v799 v800
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_834 : BitVec 32 := 1#32
  let v802 : BitVec 32 := Scalar.muli v8 c1_i32_834
  let v803 : BitVec 32 := Scalar.addi v801 v802
  v803.toNat
def k0_off22 (d0 : Dev nD) : Fin 4 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let c4_i32_608 : BitVec 32 := 4#32
  let v565 : BitVec 32 := Scalar.addi v11 c4_i32_608
  let c1_i32_609 : BitVec 32 := 1#32
  let v566 : BitVec 32 := Scalar.subi v565 c1_i32_609
  let c4_i32_610 : BitVec 32 := 4#32
  let v567 : BitVec 32 := Scalar.remsi v566 c4_i32_610
  let c1_i32_859 : BitVec 32 := 1#32
  let c0_i32_860 : BitVec 32 := 0#32
  let c0_i32_861 : BitVec 32 := 0#32
  ![v567.toNat, 1, 0, 0]
def k0_dev34 (d0 : Dev nD) : Nat :=
  let c0_i32_856 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let c1_i32_8 : BitVec 32 := 1#32
  let v17 : BitVec 32 := Scalar.addi v11 c1_i32_8
  let c4_i32_9 : BitVec 32 := 4#32
  let v18 : BitVec 32 := Scalar.remsi v17 c4_i32_9
  let c2_i32_10 : BitVec 32 := 2#32
  let v19 : BitVec 32 := Scalar.divsi v18 c2_i32_10
  let c8_i32_855 : BitVec 32 := 8#32
  let v824 : BitVec 32 := Scalar.muli v19 c8_i32_855
  let v825 : BitVec 32 := Scalar.addi c0_i32_856 v824
  let c2_i32_11 : BitVec 32 := 2#32
  let v20 : BitVec 32 := Scalar.remsi v18 c2_i32_11
  let v21 : BitVec 32 := Scalar.xori v19 v20
  let c4_i32_857 : BitVec 32 := 4#32
  let v826 : BitVec 32 := Scalar.muli v21 c4_i32_857
  let v827 : BitVec 32 := Scalar.addi v825 v826
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_858 : BitVec 32 := 1#32
  let v828 : BitVec 32 := Scalar.muli v8 c1_i32_858
  let v829 : BitVec 32 := Scalar.addi v827 v828
  v829.toNat
def k0_off23 (d0 : Dev nD) : Fin 4 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let c1_i32_611 : BitVec 32 := 1#32
  let v568 : BitVec 32 := Scalar.addi v11 c1_i32_611
  let c4_i32_612 : BitVec 32 := 4#32
  let v569 : BitVec 32 := Scalar.remsi v568 c4_i32_612
  let c2_i32_883 : BitVec 32 := 2#32
  let c0_i32_884 : BitVec 32 := 0#32
  let c0_i32_885 : BitVec 32 := 0#32
  ![v569.toNat, 2, 0, 0]
def k0_dev35 (d0 : Dev nD) : Nat :=
  let c0_i32_880 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let c4_i32_12 : BitVec 32 := 4#32
  let v22 : BitVec 32 := Scalar.addi v11 c4_i32_12
  let c1_i32_13 : BitVec 32 := 1#32
  let v23 : BitVec 32 := Scalar.subi v22 c1_i32_13
  let c4_i32_14 : BitVec 32 := 4#32
  let v24 : BitVec 32 := Scalar.remsi v23 c4_i32_14
  let c2_i32_15 : BitVec 32 := 2#32
  let v25 : BitVec 32 := Scalar.divsi v24 c2_i32_15
  let c8_i32_879 : BitVec 32 := 8#32
  let v850 : BitVec 32 := Scalar.muli v25 c8_i32_879
  let v851 : BitVec 32 := Scalar.addi c0_i32_880 v850
  let c2_i32_16 : BitVec 32 := 2#32
  let v26 : BitVec 32 := Scalar.remsi v24 c2_i32_16
  let v27 : BitVec 32 := Scalar.xori v25 v26
  let c4_i32_881 : BitVec 32 := 4#32
  let v852 : BitVec 32 := Scalar.muli v27 c4_i32_881
  let v853 : BitVec 32 := Scalar.addi v851 v852
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_882 : BitVec 32 := 1#32
  let v854 : BitVec 32 := Scalar.muli v8 c1_i32_882
  let v855 : BitVec 32 := Scalar.addi v853 v854
  v855.toNat
def k0_off24 (d0 : Dev nD) : Fin 4 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let c1_i32_611 : BitVec 32 := 1#32
  let v568 : BitVec 32 := Scalar.addi v11 c1_i32_611
  let c4_i32_612 : BitVec 32 := 4#32
  let v569 : BitVec 32 := Scalar.remsi v568 c4_i32_612
  let c3_i32_907 : BitVec 32 := 3#32
  let c0_i32_908 : BitVec 32 := 0#32
  let c0_i32_909 : BitVec 32 := 0#32
  ![v569.toNat, 3, 0, 0]
def k0_dev36 (d0 : Dev nD) : Nat :=
  let c0_i32_904 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let c4_i32_12 : BitVec 32 := 4#32
  let v22 : BitVec 32 := Scalar.addi v11 c4_i32_12
  let c1_i32_13 : BitVec 32 := 1#32
  let v23 : BitVec 32 := Scalar.subi v22 c1_i32_13
  let c4_i32_14 : BitVec 32 := 4#32
  let v24 : BitVec 32 := Scalar.remsi v23 c4_i32_14
  let c2_i32_15 : BitVec 32 := 2#32
  let v25 : BitVec 32 := Scalar.divsi v24 c2_i32_15
  let c8_i32_903 : BitVec 32 := 8#32
  let v876 : BitVec 32 := Scalar.muli v25 c8_i32_903
  let v877 : BitVec 32 := Scalar.addi c0_i32_904 v876
  let c2_i32_16 : BitVec 32 := 2#32
  let v26 : BitVec 32 := Scalar.remsi v24 c2_i32_16
  let v27 : BitVec 32 := Scalar.xori v25 v26
  let c4_i32_905 : BitVec 32 := 4#32
  let v878 : BitVec 32 := Scalar.muli v27 c4_i32_905
  let v879 : BitVec 32 := Scalar.addi v877 v878
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_906 : BitVec 32 := 1#32
  let v880 : BitVec 32 := Scalar.muli v8 c1_i32_906
  let v881 : BitVec 32 := Scalar.addi v879 v880
  v881.toNat
abbrev stage0_0 : Fin 1 → Memref sig .tc .vmem S4x512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4x1024x32x64 : Shape := ⟨4, ![4, 1024, 32, 64]⟩
abbrev S2048x2048 : Shape := ⟨2, ![2048, 2048]⟩
abbrev S4x1024x2048 : Shape := ⟨3, ![4, 1024, 2048]⟩

abbrev nBuf : Space → Nat
  | .hbm => 4
  | .vmem => 0
  | .smem => 0
  | _ => 0

abbrev bufTy : (tb : Table) → Fin (tcTables nBuf tb) → BufTy
  | .hbm, ⟨0, _⟩ => ⟨S4x1024x32x64, .f32⟩
  | .hbm, ⟨1, _⟩ => ⟨S2048x2048, .f32⟩
  | .hbm, ⟨2, _⟩ => ⟨S4x1024x2048, .f32⟩
  | .hbm, ⟨3, _⟩ => ⟨S4x1024x2048, .f32⟩
  | _, _ => ⟨S4x1024x32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Ring.Mesh.lean ====
/-
  The mesh of the kernel and its transfers: sixteen devices on two families of rings, the twenty-four remote copies each
  device starts, and for each copy the slot it reads, the slot it writes, the device it goes to and its two semaphores.
-/
module

public import proofs.«01_k».proof.Proof.Gen.KernelIdeal

@[expose] public section

noncomputable section

namespace Cert.KernelIdeal.Ring

open Idealize.ShloMosaic Idealize.SL.Sem
open Cert.KernelIdeal.Gen

/-! ## Devices

A device is named by its place `z` on its ring of four along the last mesh axis, and its place `q` on the ring of four
that goes around the two first axes. -/

/-- The device at place `q` of the outer ring and place `z` of the inner one. -/
def dv (q z : Fin 4) : Dev nD :=
  ⟨8 * (q.val / 2) + 4 * ((q.val / 2 + q.val % 2) % 2) + z.val, by have := q.isLt; have := z.isLt; show _ < 16; omega⟩
/-- A device's place on the outer ring. -/
def qv (c : Dev nD) : Fin 4 := ⟨(2 * (c.val / 8) + (c.val / 8 + c.val / 4 % 2) % 2) % 4, Nat.mod_lt _ (by decide)⟩
/-- A device's place on the inner ring. -/
def zv (c : Dev nD) : Fin 4 := ⟨c.val % 4, Nat.mod_lt _ (by decide)⟩

theorem dv_qv_zv : ∀ c : Dev nD, dv (qv c) (zv c) = c := by decide +kernel
theorem qv_dv : ∀ q z : Fin 4, qv (dv q z) = q := by decide +kernel
theorem zv_dv : ∀ q z : Fin 4, zv (dv q z) = z := by decide +kernel

/-- The next and the previous device on the inner ring, the next and the previous on the outer one. -/
def zr (c : Dev nD) : Dev nD := dv (qv c) (zv c + 1)
def zl (c : Dev nD) : Dev nD := dv (qv c) (zv c + 3)
def qr (c : Dev nD) : Dev nD := dv (qv c + 1) (zv c)
def ql (c : Dev nD) : Dev nD := dv (qv c + 3) (zv c)

theorem zl_zr : ∀ c : Dev nD, zl (zr c) = c := by decide +kernel
theorem zr_zl : ∀ c : Dev nD, zr (zl c) = c := by decide +kernel
theorem ql_qr : ∀ c : Dev nD, ql (qr c) = c := by decide +kernel
theorem qr_ql : ∀ c : Dev nD, qr (ql c) = c := by decide +kernel

/-! ## Slots -/

/-- A slot of one of the two scratch arrays: slot `(s, k)` of the first, or part `k` of the block of the second that is
    `r` places after the device's own place on the outer ring. -/
inductive Slot
  | cm (s : Fin 2) (k : Fin 4)
  | bk (r k : Fin 4)
  deriving DecidableEq

/-- The slots, listed. -/
def Slot.all : List Slot :=
  [.cm 0 0, .cm 0 1, .cm 0 2, .cm 0 3, .cm 1 0, .cm 1 1, .cm 1 2, .cm 1 3,
   .bk 0 0, .bk 0 1, .bk 0 2, .bk 0 3, .bk 1 0, .bk 1 1, .bk 1 2, .bk 1 3,
   .bk 2 0, .bk 2 1, .bk 2 2, .bk 2 3, .bk 3 0, .bk 3 1, .bk 3 2, .bk 3 3]

theorem Slot.mem_all (a : Slot) : a ∈ Slot.all := by
  cases a with
  | cm s k => revert s k; decide
  | bk r k => revert r k; decide

instance : Fintype Slot := ⟨⟨Quot.mk _ Slot.all, (by decide : Slot.all.Nodup)⟩, Slot.mem_all⟩

theorem cm_inb (s : Fin 2) (k : Fin 4) : ∀ a, (![s.val, k.val, 0, 0] : Fin 4 → Nat) a + S1x1x256x512.size a ≤ S2x4x256x512.size a := by
  revert s k; decide
theorem bk_inb (o k : Fin 4) : ∀ a, (![o.val, k.val, 0, 0] : Fin 4 → Nat) a + S1x1x256x512.size a ≤ S4x4x256x512.size a := by
  revert o k; decide

/-- The memref of a slot on device `c`. -/
def mem (c : Dev nD) : Slot → Memref sig .tc .vmem S1x1x256x512 .f32
  | .cm s k => (Memref.whole cc0_scratch0).slice (Rect.unit (s := S2x4x256x512) ![s.val, k.val, 0, 0] S1x1x256x512.size (cm_inb s k)) (fun _ => rfl)
  | .bk r k => (Memref.whole cc0_scratch1).slice (Rect.unit (s := S4x4x256x512) ![(qv c + r).val, k.val, 0, 0] S1x1x256x512.size (bk_inb (qv c + r) k)) (fun _ => rfl)

/-- A slot with one leading axis dropped, as the remote copies name it. -/
def sq (m : Memref sig .tc .vmem S1x1x256x512 .f32) : Memref sig .tc .vmem S1x256x512 .f32 :=
  m.squeeze S1x256x512 squeezes_S1x1x256x512_S1x256x512

/-! ## Transfers -/

/-- The remote copies of one device: `p h k` sends partial sum `k` of hop `h` along the inner ring; `sr k`, `sl k` send
    finished block `k` both ways along the outer ring; `tr i`, `tl i` pass on a block received from a neighbour there. -/
inductive Xf
  | p (h : Fin 3) (k : Fin 4)
  | sr (k : Fin 4)
  | sl (k : Fin 4)
  | tr (i : Fin 2)
  | tl (i : Fin 2)
  deriving DecidableEq

/-- The twenty-four transfers, listed. -/
def Xf.all : List Xf :=
  [.p 0 0, .p 0 1, .p 0 2, .p 0 3, .p 1 0, .p 1 1, .p 1 2, .p 1 3, .p 2 0, .p 2 1, .p 2 2, .p 2 3,
   .sr 0, .sr 1, .sr 2, .sr 3, .sl 0, .sl 1, .sl 2, .sl 3, .tr 0, .tr 1, .tl 0, .tl 1]

theorem Xf.mem_all (t : Xf) : t ∈ Xf.all := by
  cases t with
  | p h k => revert h k; decide
  | sr k => revert k; decide
  | sl k => revert k; decide
  | tr k => revert k; decide
  | tl k => revert k; decide

instance : Fintype Xf := ⟨⟨Quot.mk _ Xf.all, (by decide : Xf.all.Nodup)⟩, Xf.mem_all⟩

/-- The semaphore a transfer raises on its own device once its source is read. -/
def sndS : Xf → DmaSem sig
  | .p h k => ⟨3 + (4 * h.val + k.val), by have := h.isLt; have := k.isLt; show _ < 51; omega⟩
  | .sr k => ⟨27 + k.val, by have := k.isLt; show _ < 51; omega⟩
  | .sl k => ⟨39 + k.val, by have := k.isLt; show _ < 51; omega⟩
  | .tr i => ⟨35 + i.val, by have := i.isLt; show _ < 51; omega⟩
  | .tl i => ⟨47 + i.val, by have := i.isLt; show _ < 51; omega⟩

/-- The semaphore it raises on the device it goes to once its destination is written. -/
def rcvS : Xf → DmaSem sig
  | .p h k => ⟨15 + (4 * h.val + k.val), by have := h.isLt; have := k.isLt; show _ < 51; omega⟩
  | .sr k => ⟨31 + k.val, by have := k.isLt; show _ < 51; omega⟩
  | .sl k => ⟨43 + k.val, by have := k.isLt; show _ < 51; omega⟩
  | .tr i => ⟨37 + i.val, by have := i.isLt; show _ < 51; omega⟩
  | .tl i => ⟨49 + i.val, by have := i.isLt; show _ < 51; omega⟩

/-- The device a transfer of device `c` goes to, and the device whose transfer comes to `c`. -/
def tgt : Xf → Dev nD → Dev nD
  | .p _ _, c => zr c
  | .sr _, c => qr c
  | .tr _, c => qr c
  | .sl _, c => ql c
  | .tl _, c => ql c
def org : Xf → Dev nD → Dev nD
  | .p _ _, c => zl c
  | .sr _, c => ql c
  | .tr _, c => ql c
  | .sl _, c => qr c
  | .tl _, c => qr c

theorem tgt_org (t : Xf) (c : Dev nD) : tgt t (org t c) = c := by cases t <;> simp only [tgt, org, zr_zl, qr_ql, ql_qr]
theorem org_tgt (t : Xf) (c : Dev nD) : org t (tgt t c) = c := by cases t <;> simp only [tgt, org, zl_zr, qr_ql, ql_qr]

/-- The blocks passed on: the first two to the right, the last two to the left. -/
def lo (i : Fin 2) : Fin 4 := ⟨i.val, by omega⟩
def hi (i : Fin 2) : Fin 4 := ⟨2 + i.val, by omega⟩

/-- Which half of the first scratch array a hop reads and which it writes. -/
def hs (h : Fin 3) : Fin 2 := if h = 1 then 1 else 0
def hd (h : Fin 3) : Fin 2 := if h = 1 then 0 else 1

/-- The slot a transfer reads on its own device, and the slot it writes on the device it goes to. -/
def src : Xf → Slot
  | .p h k => .cm (hs h) k
  | .sr k => .bk 0 k
  | .sl k => .bk 0 k
  | .tr i => .bk 3 (lo i)
  | .tl i => .bk 1 (hi i)
def dst : Xf → Slot
  | .p h k => .cm (hd h) k
  | .sr k => .bk 3 k
  | .sl k => .bk 1 k
  | .tr i => .bk 2 (lo i)
  | .tl i => .bk 2 (hi i)

theorem snd_inj : ∀ t t' : Xf, sndS t = sndS t' → t = t' := by decide +kernel
theorem rcv_inj : ∀ t t' : Xf, rcvS t = rcvS t' → t = t' := by decide +kernel
theorem snd_ne_rcv : ∀ t t' : Xf, sndS t ≠ rcvS t' := by decide +kernel

/-! ## What the program computes of its device number -/

/-- The device numbers the program computes for the previous device on the inner ring. -/
theorem dev_zl : ∀ c : Dev nD,
    (⟨k0_dev1 c, k0_dev1_lt c⟩ : Dev nD) = zl c ∧
    (⟨k0_dev9 c, k0_dev9_lt c⟩ : Dev nD) = zl c ∧
    (⟨k0_dev11 c, k0_dev11_lt c⟩ : Dev nD) = zl c ∧
    (⟨k0_dev13 c, k0_dev13_lt c⟩ : Dev nD) = zl c ∧
    (⟨k0_dev15 c, k0_dev15_lt c⟩ : Dev nD) = zl c ∧
    (⟨k0_dev17 c, k0_dev17_lt c⟩ : Dev nD) = zl c ∧
    (⟨k0_dev19 c, k0_dev19_lt c⟩ : Dev nD) = zl c ∧
    (⟨k0_dev21 c, k0_dev21_lt c⟩ : Dev nD) = zl c ∧
    (⟨k0_dev23 c, k0_dev23_lt c⟩ : Dev nD) = zl c := by
  decide +kernel

/-- The device numbers the program computes for the next device on the inner ring. -/
theorem dev_zr : ∀ c : Dev nD,
    (⟨k0_dev2 c, k0_dev2_lt c⟩ : Dev nD) = zr c ∧
    (⟨k0_dev5 c, k0_dev5_lt c⟩ : Dev nD) = zr c ∧
    (⟨k0_dev6 c, k0_dev6_lt c⟩ : Dev nD) = zr c ∧
    (⟨k0_dev7 c, k0_dev7_lt c⟩ : Dev nD) = zr c ∧
    (⟨k0_dev8 c, k0_dev8_lt c⟩ : Dev nD) = zr c ∧
    (⟨k0_dev10 c, k0_dev10_lt c⟩ : Dev nD) = zr c ∧
    (⟨k0_dev12 c, k0_dev12_lt c⟩ : Dev nD) = zr c ∧
    (⟨k0_dev14 c, k0_dev14_lt c⟩ : Dev nD) = zr c ∧
    (⟨k0_dev16 c, k0_dev16_lt c⟩ : Dev nD) = zr c ∧
    (⟨k0_dev18 c, k0_dev18_lt c⟩ : Dev nD) = zr c ∧
    (⟨k0_dev20 c, k0_dev20_lt c⟩ : Dev nD) = zr c ∧
    (⟨k0_dev22 c, k0_dev22_lt c⟩ : Dev nD) = zr c ∧
    (⟨k0_dev24 c, k0_dev24_lt c⟩ : Dev nD) = zr c := by
  decide +kernel

/-- The device numbers the program computes for the next device on the outer ring. -/
theorem dev_qr : ∀ c : Dev nD,
    (⟨k0_dev4 c, k0_dev4_lt c⟩ : Dev nD) = qr c ∧
    (⟨k0_dev25 c, k0_dev25_lt c⟩ : Dev nD) = qr c ∧
    (⟨k0_dev27 c, k0_dev27_lt c⟩ : Dev nD) = qr c ∧
    (⟨k0_dev29 c, k0_dev29_lt c⟩ : Dev nD) = qr c ∧
    (⟨k0_dev31 c, k0_dev31_lt c⟩ : Dev nD) = qr c ∧
    (⟨k0_dev33 c, k0_dev33_lt c⟩ : Dev nD) = qr c ∧
    (⟨k0_dev34 c, k0_dev34_lt c⟩ : Dev nD) = qr c := by
  decide +kernel

/-- The device numbers the program computes for the previous device on the outer ring. -/
theorem dev_ql : ∀ c : Dev nD,
    (⟨k0_dev3 c, k0_dev3_lt c⟩ : Dev nD) = ql c ∧
    (⟨k0_dev26 c, k0_dev26_lt c⟩ : Dev nD) = ql c ∧
    (⟨k0_dev28 c, k0_dev28_lt c⟩ : Dev nD) = ql c ∧
    (⟨k0_dev30 c, k0_dev30_lt c⟩ : Dev nD) = ql c ∧
    (⟨k0_dev32 c, k0_dev32_lt c⟩ : Dev nD) = ql c ∧
    (⟨k0_dev35 c, k0_dev35_lt c⟩ : Dev nD) = ql c ∧
    (⟨k0_dev36 c, k0_dev36_lt c⟩ : Dev nD) = ql c := by
  decide +kernel

/-- The addresses of the device's own block in the second scratch array. -/
theorem off_own : ∀ c : Dev nD,
    k0_off10 c = ![(qv c + 0).val, 0, 0, 0] ∧
    k0_off11 c = ![(qv c + 0).val, 0, 0, 0] ∧
    k0_off13 c = ![(qv c + 0).val, 1, 0, 0] ∧
    k0_off14 c = ![(qv c + 0).val, 1, 0, 0] ∧
    k0_off16 c = ![(qv c + 0).val, 2, 0, 0] ∧
    k0_off17 c = ![(qv c + 0).val, 2, 0, 0] ∧
    k0_off19 c = ![(qv c + 0).val, 3, 0, 0] ∧
    k0_off20 c = ![(qv c + 0).val, 3, 0, 0] := by
  decide +kernel

/-- The addresses of the blocks it passes on to the right. -/
theorem off_right : ∀ c : Dev nD,
    k0_off21 c = ![(qv c + 3).val, 0, 0, 0] ∧
    k0_off22 c = ![(qv c + 3).val, 1, 0, 0] := by
  decide +kernel

/-- The addresses of the blocks it passes on to the left. -/
theorem off_left : ∀ c : Dev nD,
    k0_off23 c = ![(qv c + 1).val, 2, 0, 0] ∧
    k0_off24 c = ![(qv c + 1).val, 3, 0, 0] := by
  decide +kernel

/-- A block sent keeps its address: seen from the device it goes to, it is the block the sender holds. -/
theorem qv_tgt : ∀ c : Dev nD, qv (qr c) + 3 = qv c + 0 ∧ qv (ql c) + 1 = qv c + 0 ∧ qv (qr c) + 2 = qv c + 3 ∧ qv (ql c) + 2 = qv c + 1 := by
  decide +kernel

end Cert.KernelIdeal.Ring

end
-- ==== Proof.Ring.Alg.lean ====
/-
  The resources the proof is written over, and the two memory operations on a slot: a load from an owned part of a buffer
  reads what is owned there, and a store into it leaves what was stored.
-/
module

public import proofs.«01_k».proof.Proof.Ring.Mesh
public import Idealize.ShloMosaic.Lib.Pipeline.Launch
public import Idealize.ShloMosaic.Lib.Tactic

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

/-- What a semaphore unit may be due for: one of the four neighbours' barrier signals, the end of a transfer at its own
    device or at the other one, or one of the eight go-aheads of the inner ring. -/
inductive Duty
  | bar (i : Fin 4)
  | snd (t : Xf)
  | rcv (t : Xf)
  | cr (k : ℕ)
  deriving DecidableEq

/-- The two rounds algebras: the pipeline's, and the ring's. -/
abbrev UU : Type := URounds (GSem nD τ sig) Unit × URounds (GSem nD τ sig) Duty

local notation "𝕄" => MT nD τ sig ℕ (Elt F) ℕ UU ℕ

/-- The pipeline's algebra inside the machine's, and the ring's. -/
def EP : Emb (URounds (GSem nD τ sig) Unit) (MT nD τ sig ℕ (Elt F) ℕ UU ℕ) :=
  (Emb.inl : Emb (URounds (GSem nD τ sig) Unit) UU).trans (uEmb (nD := nD) (sig := sig) (Ix := ℕ) (Val := Elt F) (Name := ℕ) (U := UU) (Lvl := ℕ)).toEmb
def ER : Emb (URounds (GSem nD τ sig) Duty) (MT nD τ sig ℕ (Elt F) ℕ UU ℕ) :=
  (Emb.inr : Emb (URounds (GSem nD τ sig) Duty) UU).trans (uEmb (nD := nD) (sig := sig) (Ix := ℕ) (Val := Elt F) (Name := ℕ) (U := UU) (Lvl := ℕ)).toEmb

instance EP_landsIn : (EP : Emb (URounds (GSem nD τ sig) Unit) 𝕄).LandsIn (upEmb : UEmb _ 𝕄) := by unfold EP; infer_instance
instance ER_landsIn : (ER : Emb (URounds (GSem nD τ sig) Duty) 𝕄).LandsIn (upEmb : UEmb _ 𝕄) := by unfold ER; infer_instance

abbrev 𝒱₀ : Variants := Variants.none

/-- A program of device `c` runs to `Q`. -/
abbrev W (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable (c : Dev nD)

/-- A load through a rectangle reads what is owned of it. -/
theorem wp_ld {α : Type} {Q : α → sProp 𝕄} {s : Shape} {e : EltTy} {m : Memref sig .tc .vmem s e} {r : Rect s} (hr : ∀ a, r.stride a = 1) {hl : m.view.LoadsAt r.toLoadRect}
    {k : (r.shape.Idx → Elt F e) → Prog (TpuEff nD τ sig (Elt F) Λ₀ .tc) α} {q : PosShare TreeShare} {X : r.shape.Idx → Elt F e} :
    (owns (c : Thread nD τ) (m.slice r hr) q X : sProp 𝕄)
      ⊢ iprop((owns (c : Thread nD τ) (m.slice r hr) q X -∗ W c (k X) Q) -∗ W c (.op (.load m r.toLoadRect hl) k) Q) := by
  iintro H Hk
  ihave H' := (show owns (c : Thread nD τ) (m.slice r hr) q X
    ⊢ iprop(∃ f, ⌜(m.slice r hr).view.read (Elt F) f = X⌝ ∗ (m.access r).loc (c : Thread nD τ) ↦[(m.access r).set]{q} f) from .rfl) $$ H
  icases H' with ⟨%f, %hf, H⟩
  iapply (wp_load_rect 𝒱₀ (c : Thread nD τ) none Set.univ (m := m) (r := r) (Finset.Subset.refl _)) $$ H
  iintro H
  rw [show (m.access r).read (Elt F) f = X from hf]
  iapply Hk
  rw [← hf]
  iapply (owns_intro (c : Thread nD τ) (m.slice r hr) q f)
  iexact H

/-- A store through a rectangle leaves what is stored. -/
theorem wp_st {α : Type} {Q : α → sProp 𝕄} {s : Shape} {e : EltTy} {m : Memref sig .tc .vmem s e} {r : Rect s} (hr : ∀ a, r.stride a = 1)
    {w X : r.shape.Idx → Elt F e} {hx : (m.access r).Stores Finset.univ} {hm}
    {k : PUnit → Prog (TpuEff nD τ sig (Elt F) Λ₀ .tc) α} :
    (owns (c : Thread nD τ) (m.slice r hr) fullShare X : sProp 𝕄)
      ⊢ iprop((owns (c : Thread nD τ) (m.slice r hr) fullShare w -∗ W c (k ⟨⟩) Q) -∗ W c (.op (.store m r w Finset.univ hx hm) k) Q) := by
  iintro H Hk
  ihave H' := (show owns (c : Thread nD τ) (m.slice r hr) fullShare X
    ⊢ iprop(∃ f, ⌜(m.slice r hr).view.read (Elt F) f = X⌝ ∗ (m.access r).loc (c : Thread nD τ) ↦[(m.access r).set]{fullShare} f) from .rfl) $$ H
  icases H' with ⟨%f, %hf, H⟩
  iapply (wp_store 𝒱₀ (c : Thread nD τ) none Set.univ (m := m) (r := r) (w := w) (Mk := Finset.univ) (S := (m.access r).set) (Finset.Subset.refl _)) $$ H
  iintro H
  iapply Hk
  ihave H2 := (owns_intro (c : Thread nD τ) (m.slice r hr) fullShare ((m.access r).write (Elt F) f w Finset.univ)) $$ [H]
  · iexact H
  rw [show (m.slice r hr).view.read (Elt F) ((m.access r).write (Elt F) f w Finset.univ) = w from View.read_write_univ f w]
  iexact H2

/-- Owning a slot is owning it with one leading axis dropped, at the same contents so reshaped. -/
theorem owns_sq (m : Memref sig .tc .vmem S1x1x256x512 .f32) (q : PosShare TreeShare) (X : S1x1x256x512.Idx → Elt F .f32) :
    (owns (c : Thread nD τ) m q X : sProp 𝕄)
      ⊣⊢ iprop(∃ f, ⌜m.view.read (Elt F) f = X⌝ ∗ (sq m).view.loc (c : Thread nD τ) ↦[(sq m).view.set]{q} f) := by
  rw [show (sq m).view.set = m.view.set from View.set_reshape ..]
  exact .rfl

end Cert.KernelIdeal.Ring

end
-- ==== Proof.Ring.Sched.lean ====
/-
  The protocol between the devices: which units each semaphore cell is due, who pays them and what comes with them; what a
  device still owes at each moment; and the levels that keep every wait below what the waiting device then owes.
-/
module

public import proofs.«01_k».proof.Proof.Ring.Alg

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ

/-! ## Cells -/

/-- The barrier semaphore and the go-ahead semaphore. -/
abbrev barS : Sem sig := (SemArray.scalar (sig.barrier 0 rfl) : Sems sig S_).sem
abbrev crS : Sem sig := cc0_scratch4.sem

theorem bar_ne_cr : barS ≠ crS := by decide

abbrev barCell (c : Dev nD) : GSem nD τ sig := ((c : Thread nD τ), .reg barS)
abbrev crCell (c : Dev nD) : GSem nD τ sig := ((c : Thread nD τ), .reg crS)
abbrev sndCell (t : Xf) (c : Dev nD) : GSem nD τ sig := ((c : Thread nD τ), .dma (sndS t))
abbrev rcvCell (t : Xf) (c : Dev nD) : GSem nD τ sig := ((c : Thread nD τ), .dma (rcvS t))

/-- The units a transfer of one slot raises a semaphore by. -/
def N : ℕ := (sq (mem 0 (.cm 0 0))).view.dmaCredit

theorem N_pos : 0 < N := View.dmaCredit_pos _ (by decide)
theorem credit_slot (c : Dev nD) (a : Slot) : (sq (mem c a)).view.dmaCredit = N := by cases a <;> rfl

/-! ## The neighbours -/

/-- The four devices a device meets at the barrier, in the order it signals them. -/
def nb : Fin 4 → Dev nD → Dev nD
  | 0, c => zl c
  | 1, c => zr c
  | 2, c => ql c
  | 3, c => qr c
/-- What a neighbour calls the device. -/
def op : Fin 4 → Fin 4
  | 0 => 1
  | 1 => 0
  | 2 => 3
  | 3 => 2

theorem nb_op (i : Fin 4) (c : Dev nD) : nb (op i) (nb i c) = c := by
  revert i; intro i; fin_cases i <;> [exact zr_zl c; exact zl_zr c; exact qr_ql c; exact ql_qr c]
theorem op_op : ∀ i : Fin 4, op (op i) = i := by decide

/-- The neighbour a transfer goes to, and the transfers that go to a neighbour. -/
def side : Xf → Fin 4
  | .p _ _ => 1
  | .sl _ => 2
  | .tl _ => 2
  | .sr _ => 3
  | .tr _ => 3
def grp (i : Fin 4) : Finset Xf := Finset.univ.filter (side · = i)

theorem tgt_side (t : Xf) (c : Dev nD) : tgt t c = nb (side t) c := by cases t <;> rfl

/-- Whether a transfer's destination is free from the start: of the inner ring's, those of the first hop. -/
def early : Xf → Bool
  | .p h _ => h = 0
  | _ => true

/-! ## What the units carry -/

/-- The share of its source a transfer takes: all of it on the inner ring, a part of it on the outer one, where the device
    reads the block itself too. -/
def shr : Xf → PosShare TreeShare
  | .p _ _ => fullShare
  | .sr _ => fullShare.left
  | .sl _ => fullShare.right.left
  | .tr _ => fullShare.left
  | .tl _ => fullShare.left

/-- Slot `a` of device `c` held at share `q` and contents `X`. -/
abbrev slotAt (c : Dev nD) (a : Slot) (q : PosShare TreeShare) (X : Vec F S1x1x256x512 .f32) : sProp 𝕄 :=
  owns (c : Thread nD τ) (mem c a) q X

/-- The destination of a transfer of `c`, held whole at whatever contents. -/
def lz (t : Xf) (c : Dev nD) : sProp 𝕄 := iprop(∃ Y, slotAt (tgt t c) (dst t) fullShare Y)

/-- What comes with a barrier signal: the destinations of the device's transfers to that neighbour, and from the previous
    device of the inner ring the right to give it its go-aheads. -/
def barPay (c : Dev nD) (i : Fin 4) : sProp 𝕄 :=
  iprop((if i = 0 then paying ER (crCell (zl c)) 0 (.cr 0) 0 else emp)
    ∗ bigSep (grp i) fun t => iprop((if early t then lz t c else emp) ∗ reached ER (rcvCell t (tgt t c)) 0))

instance lz_storable (t : Xf) (c : Dev nD) : BI.Storable (upEmb : UEmb _ 𝕄) (lz (F := F) t c) := by unfold lz; infer_instance
instance early_storable (t : Xf) (c : Dev nD) : BI.Storable (upEmb : UEmb _ 𝕄) (if early t then lz (F := F) t c else iprop(emp)) := by
  split <;> infer_instance
instance barPay_storable (c : Dev nD) (i : Fin 4) : BI.Storable (upEmb : UEmb _ 𝕄) (barPay (F := F) c i) := by
  unfold barPay
  have h : BI.Storable (upEmb : UEmb _ 𝕄) (if i = 0 then paying ER (crCell (zl c)) 0 (.cr 0) 0 else iprop(emp)) := by split <;> infer_instance
  infer_instance

variable (val : Xf → Dev nD → Vec F S1x1x256x512 .f32)

/-- What each unit carries. -/
def pay (c : Dev nD) : Duty → sProp 𝕄
  | .bar i => barPay c i
  | .snd t => slotAt c (src t) (shr t) (val t c)
  | .rcv t => slotAt c (dst t) fullShare (val t (org t c))
  | .cr _ => iprop(emp)

/-- The duties of a semaphore. -/
def dut : SemLoc sig → Finset Duty
  | .reg s => if s = barS then Finset.univ.image Duty.bar else ∅
  | .dma s => (Finset.univ.filter (sndS · = s)).image Duty.snd ∪ (Finset.univ.filter (rcvS · = s)).image Duty.rcv

theorem dut_snd : ∀ t, dut (.dma (sndS t)) = {Duty.snd t} := by decide +kernel
theorem dut_rcv : ∀ t, dut (.dma (rcvS t)) = {Duty.rcv t} := by decide +kernel
theorem dut_bar : dut (.reg barS) = Finset.univ.image Duty.bar := by unfold dut; exact if_pos rfl

/-- The units a duty pays. -/
def amt : Duty → ℕ
  | .bar _ => 1
  | .cr _ => 1
  | _ => N

/-- The schedule: one round on every cell. -/
def Rd : Rounds.Schedule (GSem nD τ sig) Duty 𝕄 where
  duties g r := if r = 0 ∧ g.1.2 = .tc then dut g.2 else ∅
  unitless _ := False
  amount _ _ d := amt d
  payload g _ d := pay val g.1.1 d
  amount_pos _ _ d _ := by cases d <;> first | exact Nat.one_pos | exact N_pos

instance Rd_payload_storable (g : GSem nD τ sig) (r : ℕ) (d : Duty) :
    BI.Storable (upEmb : UEmb _ 𝕄) ((Rd (F := F) val).payload g r d) := by
  show BI.Storable upEmb (pay val g.1.1 d)
  cases d with
  | bar i => unfold pay; infer_instance
  | snd t => unfold pay; infer_instance
  | rcv t => unfold pay; infer_instance
  | cr k => unfold pay; infer_instance

theorem duties_zero (c : Dev nD) (s : SemLoc sig) : (Rd (F := F) val).duties ((c : Thread nD τ), s) 0 = dut s := by
  dsimp only [Rd]; exact if_pos ⟨rfl, rfl⟩
theorem duties_later (g : GSem nD τ sig) : ∀ r, 1 ≤ r → (Rd (F := F) val).duties g r = ∅ :=
  fun r hr => by dsimp only [Rd]; exact if_neg fun h => by omega

theorem expect_snd (c : Dev nD) (t : Xf) : (Rd (F := F) val).expect (sndCell t c) 0 = N := by
  unfold Schedule.expect Schedule.amountOf; rw [duties_zero, dut_snd, Finset.sum_singleton]; rfl
theorem expect_rcv (c : Dev nD) (t : Xf) : (Rd (F := F) val).expect (rcvCell t c) 0 = N := by
  unfold Schedule.expect Schedule.amountOf; rw [duties_zero, dut_rcv, Finset.sum_singleton]; rfl
theorem expect_bar (c : Dev nD) : (Rd (F := F) val).expect (barCell c) 0 = 4 := by
  unfold Schedule.expect Schedule.amountOf; rw [duties_zero, dut_bar]
  show ∑ d ∈ Finset.univ.image Duty.bar, amt d = 4
  rw [Finset.sum_image (fun a _ b _ h => by cases h; rfl)]; rfl

theorem rest_snd (c : Dev nD) (t : Xf) :
    bigSep ((Rd (F := F) val).duties (sndCell t c) 0 \ ∅) (fun u => (Rd val).payload (sndCell t c) 0 u) = slotAt c (src t) (shr t) (val t c) := by
  rw [Finset.sdiff_empty, duties_zero, dut_snd, bigSep_singleton]; rfl
theorem rest_rcv (c : Dev nD) (t : Xf) :
    bigSep ((Rd (F := F) val).duties (rcvCell t c) 0 \ ∅) (fun u => (Rd val).payload (rcvCell t c) 0 u) = slotAt c (dst t) fullShare (val t (org t c)) := by
  rw [Finset.sdiff_empty, duties_zero, dut_rcv, bigSep_singleton]; rfl

/-! ## What a device owes, in program order -/

/-- A payment: a barrier signal, a go-ahead, or a transfer. -/
inductive Pay
  | bar (i : Fin 4)
  | cr (k : Fin 8)
  | x (t : Xf)
  deriving DecidableEq

/-- The payments of a device, in program order. -/
def Pay.all : List Pay :=
  [.bar 0, .bar 1, .bar 2, .bar 3, .x (.p 0 0), .x (.p 0 1), .x (.p 0 2), .x (.p 0 3),
   .cr 0, .x (.p 1 0), .cr 1, .x (.p 1 1), .cr 2, .x (.p 1 2), .cr 3, .x (.p 1 3),
   .cr 4, .x (.p 2 0), .cr 5, .x (.p 2 1), .cr 6, .x (.p 2 2), .cr 7, .x (.p 2 3),
   .x (.sr 0), .x (.sl 0), .x (.sr 1), .x (.sl 1), .x (.sr 2), .x (.sl 2), .x (.sr 3), .x (.sl 3),
   .x (.tr 0), .x (.tr 1), .x (.tl 0), .x (.tl 1)]

/-- The cell, the index and the units of a payment. -/
def Pay.cell (c : Dev nD) : Pay → GSem nD τ sig
  | .bar i => barCell (nb i c)
  | .cr _ => crCell (zl c)
  | .x t => rcvCell t (tgt t c)
def Pay.ix : Pay → ℕ
  | .cr k => k.val
  | _ => 0
def Pay.amt : Pay → ℕ
  | .x _ => N
  | _ => 1

/-- What is owed of a list of payments. -/
def owed (c : Dev nD) : List Pay → CellTallies nD τ sig ℕ
  | [] => 0
  | p :: l => owed c l + tallyAt (p.cell c) p.ix p.amt

theorem owed_pos (c : Dev nD) (l : List Pay) (g : GSem nD τ sig) (i : ℕ) (h : 0 < owed c l g i) :
    ∃ p ∈ l, g = Pay.cell c p ∧ i = p.ix := by
  induction l with
  | nil => exact absurd h (Nat.lt_irrefl 0)
  | cons p l ih =>
    have h' : 0 < owed c l g i + tallyAt (Pay.cell c p) p.ix p.amt g i := h
    by_cases h0 : 0 < owed c l g i
    · obtain ⟨p', hp, e⟩ := ih h0; exact ⟨p', List.mem_cons_of_mem _ hp, e⟩
    · rw [tallyAt_apply] at h'
      by_cases e : g = Pay.cell c p ∧ i = p.ix
      · exact ⟨p, List.mem_cons_self .., e⟩
      · rw [if_neg e] at h'; omega

/-! ## Levels -/

/-- The level of a DMA semaphore: zero for the ones a device raises itself, then by the order of the copies. -/
def dlv (s : ℕ) : ℕ :=
  if s < 15 then 0 else if s < 19 then 2 else if s < 23 then 20 else if s < 27 then 40
  else if s < 31 then 0 else if s < 35 then 50 else if s < 37 then 0 else if s < 39 then 60
  else if s < 43 then 0 else if s < 47 then 50 else if s < 49 then 0 else 60
def slv : SemLoc sig → ℕ → ℕ
  | .reg s, i => if s = barS then 1 else if i < 4 then 10 + i else 30 + i
  | .dma s, _ => dlv s.val

def L (g : GSem nD τ sig) : Finset ℕ := if g.1.2 = .tc then Finset.range 8 else ∅
def lv (g : GSem nD τ sig) (i : ℕ) : ℕ := slv g.2 i

theorem L_of_ne (g : GSem nD τ sig) (h : g.1.2 ≠ .tc) : L g = ∅ := if_neg h
theorem L_tc (c : Dev nD) (sm : SemLoc sig) : L ((c : Thread nD τ), sm) = Finset.range 8 := if_pos rfl

def Pay.lev : Pay → ℕ
  | .bar _ => 1
  | .cr k => if k.val < 4 then 10 + k.val else 30 + k.val
  | .x t => dlv (rcvS t).val

theorem Pay.ix_lt (p : Pay) : p.ix < 8 := by cases p <;> first | exact Nat.zero_lt_succ _ | exact Fin.isLt _
theorem Pay.lv_cell (c : Dev nD) (p : Pay) : lv (p.cell c) p.ix = p.lev := by
  cases p with
  | bar i => rfl
  | cr k => show (if crS = barS then 1 else _) = _; exact if_neg bar_ne_cr.symm
  | x t => rfl

/-- A device may wait at a level below that of everything it still owes. -/
theorem mayWait (c : Dev nD) (s : SemLoc sig) (i : ℕ) (l : List Pay) (hi : i < 8) (h : ∀ p ∈ l, slv s i < p.lev) :
    (levAts L lv : sProp 𝕄) ⊢ MayWait (c : Thread nD τ) s i (owed c l) :=
  MayOwe.of_cut (L := L) (lev := lv) (slv s i)
    (fun p hp => by rw [Finset.mem_singleton.mp hp, L_tc]; exact Finset.mem_range.mpr hi)
    (fun g u hg => by
      obtain ⟨p, -, rfl, rfl⟩ := owed_pos c l g u hg
      rw [show L (p.cell c) = Finset.range 8 by cases p <;> exact if_pos rfl]; exact Finset.mem_range.mpr p.ix_lt)
    (fun p hp => by rw [Finset.mem_singleton.mp hp]; exact le_refl _)
    (fun g u hg => by
      obtain ⟨p, hp, rfl, rfl⟩ := owed_pos c l g u hg
      rw [p.lv_cell c]; exact h p hp)

end Cert.KernelIdeal.Ring

end
-- ==== Proof.Ring.Credit.lean ====
/-
  The go-ahead semaphore. Its one payer signals it eight times and its owner takes one unit eight times. Two signals on
  their way may arrive in either order, so what the k-th one hands over is put down when the signal is made, and the units
  are only counted: whoever has taken t units knows that at least t + 1 signals were made once another unit is there.
-/
module

public import proofs.«01_k».proof.Proof.Ring.Sched

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ

/-- One summand of a separating product set apart, and one added to it. -/
theorem bs_erase {I : Type} [DecidableEq I] {s : Finset I} {a : I} (h : a ∈ s) (Φ : I → sProp 𝕄) :
    bigSep s Φ = iprop(Φ a ∗ bigSep (s.erase a) Φ) := BI.bigSep_erase h
theorem bs_insert {I : Type} [DecidableEq I] {s : Finset I} {a : I} (h : a ∉ s) (Φ : I → sProp 𝕄) :
    bigSep (insert a s) Φ = iprop(Φ a ∗ bigSep s Φ) := BI.bigSep_insert h

/-- A run of consecutive numbers with its first or its last set apart. -/
theorem bs_first {a b : ℕ} (h : a < b) (Φ : ℕ → sProp 𝕄) :
    bigSep (Finset.Ico a b) Φ = iprop(Φ a ∗ bigSep (Finset.Ico (a + 1) b) Φ) := by
  rw [show Finset.Ico a b = insert a (Finset.Ico (a + 1) b) by ext x; simp only [Finset.mem_Ico, Finset.mem_insert]; omega]
  exact bs_insert (by rw [Finset.mem_Ico]; omega) Φ
theorem bs_last {a b : ℕ} (h : a ≤ b) (Φ : ℕ → sProp 𝕄) :
    bigSep (Finset.Ico a (b + 1)) Φ = iprop(Φ b ∗ bigSep (Finset.Ico a b) Φ) := by
  rw [Nat.Ico_succ_right_eq_insert_Ico h]
  exact bs_insert Finset.right_notMem_Ico Φ

section body
variable (g : GSem nD τ sig)

/-- The permission to let the `k`-th signal arrive. -/
abbrev tok (k : ℕ) : sProp 𝕄 := dutyTok ER g 0 (.cr k)

/-- Before the owner has started: nothing made, nothing taken. -/
def crDormant : sProp 𝕄 :=
  iprop(unopenedAuth ER g ∗ ledgerAuth ER g 0 ∅ (fun _ => 0) ∗ bigSep (Finset.Ico 0 8) (tok g))

/-- While the eight signals are made and taken: `p` made, the ones of `A` arrived, `t` taken, the counter at `v`. -/
def crOpen (R : ℕ → sProp 𝕄) : sProp 𝕄 :=
  iprop(∃ (p t v : ℕ) (A : Finset ℕ) (P : Duty → ℕ), ⌜A ⊆ Finset.range p ∧ A.card = t + v ∧ p ≤ 8 ∧ P (.cr 0) = p⌝
    ∗ semVal g v ∗ roundAuth ER g t ∅ 0 ∗ ledgerAuth ER g 0 {.cr 0} P
    ∗ bigSep A (tok g) ∗ bigSep (Finset.Ico p 8) (tok g) ∗ bigSep (Finset.Ico t p) R)

/-- After the owner has taken all eight and gone. -/
def crClosed : sProp 𝕄 :=
  iprop(∃ P : Duty → ℕ, ⌜P (.cr 0) = 8⌝ ∗ atPos ER g 8 ∅ 0 ∗ ledgerAuth ER g 0 {.cr 0} P ∗ bigSep (Finset.Ico 0 8) (tok g))

def crBody (R : ℕ → sProp 𝕄) : sProp 𝕄 := iprop(crDormant g ∨ crOpen g R ∨ crClosed g)

instance crBody_storable (R : ℕ → sProp 𝕄) [∀ k, BI.Storable (upEmb : UEmb _ 𝕄) (R k)] : BI.Storable (upEmb : UEmb _ 𝕄) (crBody g R) := by
  have h1 : BI.Storable (upEmb : UEmb _ 𝕄) (crDormant (F := F) g) := by unfold crDormant; infer_instance
  have h2 : BI.Storable (upEmb : UEmb _ 𝕄) (crOpen g R) := by
    have h4 (t p : ℕ) : BI.Storable (upEmb : UEmb _ 𝕄) (bigSep (Finset.Ico t p) R) := BI.Storable.bigSep _ _ _
    have h5 (A : Finset ℕ) : BI.Storable (upEmb : UEmb _ 𝕄) (bigSep A (tok (F := F) g)) := BI.Storable.bigSep _ _ _
    unfold crOpen
    repeat refine @BI.Storable.exists _ _ _ _ _ _ _ _ fun _ => ?_
    infer_instance
  have h3 : BI.Storable (upEmb : UEmb _ 𝕄) (crClosed (F := F) g) := by unfold crClosed; infer_instance
  unfold crBody; infer_instance

/-- The shared record of the semaphore. -/
abbrev crInv (R : ℕ → sProp 𝕄) (κ : ℕ) : sProp 𝕄 := inv κ (crBody g R)

/-- Any eight-signal set of permissions excludes one more of them. -/
theorem toks_false {S : Finset ℕ} {k : ℕ} (h : k ∈ S) : iprop(bigSep S (tok (F := F) g) ∗ tok g k) ⊢ (False : sProp 𝕄) := by
  rw [bs_erase h]
  iintro ⟨⟨H, -⟩, H'⟩
  iapply (dutyTok_dutyTok_false ER (g := g) (r := 0) (d := Duty.cr k))
  isplitl [H] <;> iassumption

/-- The owner starts. -/
theorem cr_start (R : ℕ → sProp 𝕄) (κ : ℕ) : iprop(crInv g R κ ∗ openTok ER g ∗ semVal g 0) ⊢ iprop(|={Set.univ}=> (atPos ER g 0 ∅ 0 ∗ paying ER g 0 (.cr 0) 0)) := by
  iintro ⟨Hg, Ho, Hv⟩
  imod (inv_acc (Set.mem_univ κ)) $$ Hg with ⟨Hb, Hclose⟩
  unfold crBody
  icases Hb with (Hd | Hop | Hcl)
  · unfold crDormant
    icases Hd with ⟨Hu, Hl, Ht⟩
    icombine Hu Ho as H
    imod (unopenedAuth_openTok_open ER) $$ H with ⟨Ha, Hp⟩
    imod (ledgerAuth_alloc ER (d := Duty.cr 0) (Finset.notMem_empty _) 0) $$ Hl with ⟨Hl, Hpay⟩
    ihave Hc := Hclose $$ [Hv Ha Hl Ht]
    · iright; ileft
      unfold crOpen
      iexists 0, 0, 0, ∅, (Function.update (fun _ => 0) (Duty.cr 0) 0)
      isplitr
      · ipureintro
        exact ⟨Finset.empty_subset _, rfl, by omega, by rw [Function.update_self]⟩
      rw [Finset.Ico_self, BI.bigSep_empty, BI.bigSep_empty, insert_empty_eq]
      isplitl [Hv]; · iexact Hv
      isplitl [Ha]; · iexact Ha
      isplitl [Hl]; · iexact Hl
      isplitr; · iempintro
      isplitl [Ht]; · iexact Ht
      iempintro
    imod Hc
    imodintro
    isplitl [Hp] <;> iassumption
  · unfold crOpen
    icases Hop with ⟨%p, %t, %v, %A, %P, -, Hv', -⟩
    iexfalso; iapply (semVal_semVal_false (g := g)); isplitl [Hv'] <;> iassumption
  · unfold crClosed
    icases Hcl with ⟨%P, -, Hp, -⟩
    iexfalso; iapply (atPos_openTok_false ER (g := g)); isplitl [Hp] <;> iassumption

/-- The payer puts down what its next signal hands over, and gets the permission to let it arrive. -/
theorem cr_give (R : ℕ → sProp 𝕄) (κ : ℕ) (k : ℕ) (hk : k < 8) :
    iprop(crInv g R κ ∗ paying ER g 0 (.cr 0) k ∗ R k) ⊢ iprop(|={Set.univ}=> (paying ER g 0 (.cr 0) (k + 1) ∗ tok g k)) := by
  iintro ⟨Hg, Hp, HR⟩
  imod (inv_acc (Set.mem_univ κ)) $$ Hg with ⟨Hb, Hclose⟩
  unfold crBody
  icases Hb with (Hd | Hop | Hcl)
  · unfold crDormant
    icases Hd with ⟨-, Hl, -⟩
    icombine Hl Hp as H
    ihave %h := (ledgerAuth_paying_agree ER) $$ H
    exact absurd h.2.1 (Finset.notMem_empty _)
  · unfold crOpen
    icases Hop with ⟨%p, %t, %v, %A, %P, %h, Hv, Ha, Hl, HA, Ht, HRs⟩
    obtain ⟨h1, h2, h3, h4⟩ := h
    icombine Hl Hp as H
    ihave %hP := (ledgerAuth_paying_agree ER) $$ H
    obtain ⟨-, -, hP⟩ := hP
    obtain rfl : p = k := h4.symm.trans hP
    imod (ledgerAuth_paying_update ER (Finset.mem_singleton_self _) hP (p + 1)) $$ H with ⟨Hl, Hp⟩
    have hc : t + v ≤ p := h2 ▸ (Finset.card_le_card h1).trans_eq (Finset.card_range p)
    icases (Entails.of_eq (bs_first hk _)) $$ Ht with ⟨Hk, Ht⟩
    ihave Hc := Hclose $$ [Hv Ha Hl HA Ht HRs HR]
    · iright; ileft
      iexists (p + 1), t, v, A, (Function.update P (Duty.cr 0) (p + 1))
      isplitr
      · ipureintro
        exact ⟨h1.trans (Finset.range_mono (Nat.le_succ p)), h2, hk, by rw [Function.update_self]⟩
      rw [bs_last (show t ≤ p by omega)]
      isplitl [Hv]; · iexact Hv
      isplitl [Ha]; · iexact Ha
      isplitl [Hl]; · iexact Hl
      isplitl [HA]; · iexact HA
      isplitl [Ht]; · iexact Ht
      isplitl [HR]; · iexact HR
      iexact HRs
    imod Hc
    imodintro
    isplitl [Hp] <;> iassumption
  · unfold crClosed
    icases Hcl with ⟨%P, %h, -, Hl, -⟩
    icombine Hl Hp as H
    ihave %hP := (ledgerAuth_paying_agree ER) $$ H
    exact absurd (h.symm.trans hP.2.2) (by omega)

/-- With the permission the signal arrives. -/
theorem cr_land (R : ℕ → sProp 𝕄) (κ : ℕ) (k : ℕ) (hk : k < 8) : iprop(crInv g R κ ∗ tok g k) ⊢ landingUpdate g 1 (iprop(emp) : sProp 𝕄) := by
  rw [landingUpdate_def]
  iintro ⟨Hg, Hk⟩ -
  imod (inv_acc (Set.mem_univ κ)) $$ Hg with ⟨Hb, Hclose⟩
  unfold crBody
  icases Hb with (Hd | Hop | Hcl)
  · unfold crDormant
    icases Hd with ⟨-, -, Ht⟩
    iexfalso; iapply (toks_false g (k := k) (Finset.mem_Ico.mpr ⟨Nat.zero_le _, hk⟩)); isplitl [Ht] <;> iassumption
  · unfold crOpen
    icases Hop with ⟨%p, %t, %v, %A, %P, %h, Hv, Ha, Hl, HA, Ht, HRs⟩
    obtain ⟨h1, h2, h3, h4⟩ := h
    by_cases hp : p ≤ k
    · iexfalso; iapply (toks_false g (k := k) (Finset.mem_Ico.mpr ⟨hp, hk⟩)); isplitl [Ht] <;> iassumption
    by_cases hA : k ∈ A
    · iexfalso; iapply (toks_false g hA); isplitl [HA] <;> iassumption
    imodintro
    rw [raiseSpec_apply]
    iexists v
    isplitl [Hv]; · iexact Hv
    iintro Hv
    ihave Hc := Hclose $$ [Hv Ha Hl HA Ht HRs Hk]
    · iright; ileft
      iexists p, t, (v + 1), (insert k A), P
      isplitr
      · ipureintro
        exact ⟨Finset.insert_subset (Finset.mem_range.mpr (by omega)) h1, by rw [Finset.card_insert_of_notMem hA, h2, Nat.add_assoc], h3, h4⟩
      rw [bs_insert hA]
      isplitl [Hv]; · iexact Hv
      isplitl [Ha]; · iexact Ha
      isplitl [Hl]; · iexact Hl
      isplitl [HA Hk]
      · isplitl [Hk] <;> iassumption
      isplitl [Ht]; · iexact Ht
      iexact HRs
    imod Hc
    imodintro
    iempintro
  · unfold crClosed
    icases Hcl with ⟨%P, -, -, -, Ht⟩
    iexfalso; iapply (toks_false g (k := k) (Finset.mem_Ico.mpr ⟨Nat.zero_le _, hk⟩)); isplitl [Ht] <;> iassumption

/-- The owner takes its next unit, and what the signal of that number handed over. -/
theorem cr_take (R : ℕ → sProp 𝕄) (κ : ℕ) (t : ℕ) (K : PUnit → sProp 𝕄) :
    iprop(crInv g R κ ∗ atPos ER g t ∅ 0 ∗ (iprop(atPos ER g (t + 1) ∅ 0 ∗ R t) -∗ K ⟨⟩)) ⊢ atomically frame Set.univ (lowerSpec g 1) K := by
  iintro ⟨Hg, Hp, HK⟩
  imod (inv_acc (Set.mem_univ κ)) $$ Hg with ⟨Hb, Hclose⟩
  unfold crBody
  icases Hb with (Hd | Hop | Hcl)
  · unfold crDormant
    icases Hd with ⟨Hu, -⟩
    iexfalso; iapply (unopenedAuth_atPos_false ER (g := g)); isplitl [Hu] <;> iassumption
  · unfold crOpen
    icases Hop with ⟨%p, %t', %v, %A, %P, %h, Hv, Ha, Hl, HA, Ht, HRs⟩
    obtain ⟨h1, h2, h3, h4⟩ := h
    icombine Ha Hp as H
    ihave %ht := (roundAuth_atPos_agree ER) $$ H
    obtain rfl : t = t' := ht.1
    have hc : t + v ≤ p := h2 ▸ (Finset.card_le_card h1).trans_eq (Finset.card_range p)
    imodintro
    iapply lowerSpec_intro $$ Hv
    iintro %hle Hv
    imod (roundAuth_atPos_move ER (t + 1) ∅ 0 (Nat.le_succ t)) $$ H with ⟨Ha, Hp⟩
    icases (Entails.of_eq (bs_first (show t < p by omega) _)) $$ HRs with ⟨HR, HRs⟩
    ihave Hc := Hclose $$ [Hv Ha Hl HA Ht HRs]
    · iright; ileft
      iexists p, (t + 1), (v - 1), A, P
      isplitr
      · ipureintro
        exact ⟨h1, by omega, h3, h4⟩
      isplitl [Hv]; · iexact Hv
      isplitl [Ha]; · iexact Ha
      isplitl [Hl]; · iexact Hl
      isplitl [HA]; · iexact HA
      isplitl [Ht]; · iexact Ht
      iexact HRs
    imod Hc
    imodintro
    iapply HK
    isplitl [Hp] <;> iassumption
  · unfold crClosed
    icases Hcl with ⟨%P, -, Hp', -⟩
    iexfalso; iapply (atPos_atPos_false ER (g := g)); isplitl [Hp'] <;> iassumption

/-- The owner, having taken all eight units, leaves with the counter at zero. -/
theorem cr_stop (R : ℕ → sProp 𝕄) (κ : ℕ) : iprop(crInv g R κ ∗ atPos ER g 8 ∅ 0) ⊢ iprop(|={Set.univ}=> semVal g 0) := by
  iintro ⟨Hg, Hp⟩
  imod (inv_acc (Set.mem_univ κ)) $$ Hg with ⟨Hb, Hclose⟩
  unfold crBody
  icases Hb with (Hd | Hop | Hcl)
  · unfold crDormant
    icases Hd with ⟨Hu, -⟩
    iexfalso; iapply (unopenedAuth_atPos_false ER (g := g)); isplitl [Hu] <;> iassumption
  · unfold crOpen
    icases Hop with ⟨%p, %t, %v, %A, %P, %h, Hv, Ha, Hl, HA, Ht, -⟩
    obtain ⟨h1, h2, h3, h4⟩ := h
    icombine Ha Hp as H
    ihave %ht := (roundAuth_atPos_agree ER) $$ H
    icases H with ⟨Ha, Hp⟩
    have hc : A.card ≤ p := (Finset.card_le_card h1).trans_eq (Finset.card_range p)
    obtain rfl : p = 8 := by omega
    obtain rfl : v = 0 := by omega
    obtain rfl : A = Finset.range 8 := Finset.eq_of_subset_of_card_le h1 (by rw [Finset.card_range]; omega)
    ihave Hc := Hclose $$ [Hp Hl HA]
    · iright; iright
      unfold crClosed
      iexists P
      isplitr; · ipureintro; exact h4
      isplitl [Hp]; · iexact Hp
      isplitl [Hl]; · iexact Hl
      rw [Finset.range_eq_Ico]; iexact HA
    imod Hc
    imodintro
    iexact Hv
  · unfold crClosed
    icases Hcl with ⟨%P, -, Hp', -⟩
    iexfalso; iapply (atPos_atPos_false ER (g := g)); isplitl [Hp'] <;> iassumption

end body

end Cert.KernelIdeal.Ring

end
-- ==== Proof.Ring.Own.lean ====
/-
  Ownership of a slot: splitting its share, and what a remote copy of one slot over another leaves there.
-/
module

public import proofs.«01_k».proof.Proof.Ring.Credit

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ

/-- Ownership at a share is ownership at its two halves. -/
theorem owns_halves (c : Dev nD) {s : Shape} {e : EltTy} (m : Memref sig .tc .vmem s e) (q : PosShare TreeShare) (X : s.Idx → Elt F e) :
    (owns (c : Thread nD τ) m q X : sProp 𝕄) ⊣⊢ iprop(owns (c : Thread nD τ) m q.left X ∗ owns (c : Thread nD τ) m q.right X) := by
  unfold owns
  constructor
  · iintro ⟨%f, %hf, H⟩
    icases (pointsTo_share (PosShare.mem_left_op_right q)).1 $$ H with ⟨H1, H2⟩
    isplitl [H1]
    · iexists f
      isplitr; · ipureintro; exact hf
      iexact H1
    · iexists f
      isplitr; · ipureintro; exact hf
      iexact H2
  · iintro ⟨⟨%f, %hf, H1⟩, ⟨%f', %hf', H2⟩⟩
    iexists f
    isplitr; · ipureintro; exact hf
    have h : ∀ i ∈ m.view.set, f' i = f i := by
      intro i hi
      rw [View.set, Finset.mem_map] at hi
      obtain ⟨x, -, rfl⟩ := hi
      have h1 := congrFun hf x
      have h2 := congrFun hf' x
      exact (cast_inj _).mp (h2.trans h1.symm)
    iapply (pointsTo_share (PosShare.mem_left_op_right q)).2
    isplitl [H1]; · iexact H1
    iapply (Entails.of_eq (pointsTo_congr h)); iexact H2

/-- Reading a slot with one axis dropped is reading the slot, reshaped. -/
theorem read_sq (m : Memref sig .tc .vmem S1x1x256x512 .f32) (f : m.view.ty.Contents (Elt F)) :
    (sq m).view.read (Elt F) f = fun j => m.view.read (Elt F) f (Shape.reshapeEquiv squeezes_S1x1x256x512_S1x256x512.numel_eq j) := rfl

/-- A slot overwritten by the contents of another holds what the other holds. -/
theorem read_landed (m m' : Memref sig .tc .vmem S1x1x256x512 .f32) (f : (sq m).view.ty.Contents (Elt F)) (f' : (sq m').view.ty.Contents (Elt F)) :
    m.view.read (Elt F) ((sq m).view.write (Elt F) f ((sq m').view.read (Elt F) f') Finset.univ) = m'.view.read (Elt F) f' := by
  funext x
  obtain ⟨j, rfl⟩ := (Shape.reshapeEquiv squeezes_S1x1x256x512_S1x256x512.numel_eq).surjective x
  exact congrFun (View.read_write_univ (v := (sq m).view) f ((sq m').view.read (Elt F) f')) j

end Cert.KernelIdeal.Ring

end
-- ==== Proof.Ring.State.lean ====
/-
  What a device holds, slot by slot and transfer by transfer, and how it moves: which slots it owns and what is in them,
  how far each transfer has come, which destinations it may write, and what it still owes.
-/
module

public import proofs.«01_k».proof.Proof.Ring.Own

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ

/-! ## The state, as plain data -/

/-- How much of a slot the device holds: all of it, or what is left after one copy or two started reading it. -/
inductive Sh | f | r | rr
  deriving DecidableEq
def Sh.sh : Sh → PosShare TreeShare
  | .f => fullShare
  | .r => fullShare.right
  | .rr => fullShare.right.right

/-- What is in a slot: anything, the contents the device sends in a transfer, or those it received in one. -/
inductive Cnt | unk | own (t : Xf) | got (t : Xf)
  deriving DecidableEq

/-- How far a transfer is at its sender: not started, started, read out (its share of the source back), closed. -/
inductive Ph | ready | flight | back | done
  deriving DecidableEq

structure St where
  slot : Slot → Option (Sh × Cnt)
  snd : Xf → Ph
  got : Xf → Bool
  zone : Xf → Bool
  made : ℕ
  taken : ℕ
  rem : List Pay

/-- A function changed at one place. -/
def upd {I A : Type} [DecidableEq I] (f : I → A) (a : I) (b : A) : I → A := fun i => if i = a then b else f i

theorem upd_same {I A : Type} [DecidableEq I] (f : I → A) (a : I) (b : A) : upd f a b a = b := if_pos rfl
theorem upd_other {I A : Type} [DecidableEq I] (f : I → A) (a : I) (b : A) {i : I} (h : i ≠ a) : upd f a b i = f i := if_neg h

/-- What is left of the source of a transfer once it has started. -/
def need : Xf → Sh
  | .sl _ => .r
  | _ => .f
def left : Xf → Option Sh
  | .p _ _ => none
  | .sl _ => some .rr
  | _ => some .r

/-- The transfer whose destination the `k`-th go-ahead frees. -/
def crx (k : ℕ) : Xf := if k < 4 then .p 1 (Fin.ofNat 4 k) else .p 2 (Fin.ofNat 4 k)

/-- The device's moves. -/
def St.put (σ : St) (a : Slot) (x : Cnt) : St := { σ with slot := upd σ.slot a (some (.f, x)) }
def St.sent (σ : St) (t : Xf) (x : Cnt) : St :=
  { σ with slot := upd σ.slot (src t) ((left t).map (·, x)), snd := upd σ.snd t .flight, zone := upd σ.zone t false, rem := σ.rem.tail }
def St.read (σ : St) (t : Xf) : St := { σ with snd := upd σ.snd t .back }
def St.whole (σ : St) (t : Xf) : St := { σ with slot := upd σ.slot (src t) (some (.f, .own t)), snd := upd σ.snd t .done }
def St.recv (σ : St) (t : Xf) : St := { σ with slot := upd σ.slot (dst t) (some (.f, .got t)), got := upd σ.got t true }
def St.give (σ : St) : St := { σ with slot := upd σ.slot (dst (crx σ.made)) none, made := σ.made + 1, rem := σ.rem.tail }
def St.take (σ : St) : St := { σ with zone := upd σ.zone (crx σ.taken) true, taken := σ.taken + 1 }

/-! ## What it asserts -/

/-- What the `k`-th go-ahead hands to the owner of the semaphore. -/
def crR (c : Dev nD) (k : ℕ) : sProp 𝕄 := lz (crx k) c

instance crR_storable (c : Dev nD) (k : ℕ) : BI.Storable (upEmb : UEmb _ 𝕄) (crR (F := F) c k) := by unfold crR; infer_instance

section
variable (val : Xf → Dev nD → Vec F S1x1x256x512 .f32) (c : Dev nD)

def Cnt.ok (X : Vec F S1x1x256x512 .f32) : Cnt → Prop
  | .unk => True
  | .own t => X = val t c
  | .got t => X = val t (org t c)

def slotR (a : Slot) : Option (Sh × Cnt) → sProp 𝕄
  | none => iprop(emp)
  | some (s, x) => iprop(∃ X, ⌜x.ok val c X⌝ ∗ slotAt c a s.sh X)

def sndR (t : Xf) : Ph → sProp 𝕄
  | .ready => iprop(dutyTok ER (sndCell t c) 0 (.snd t) ∗ reached ER (sndCell t c) 0
      ∗ dutyTok ER (rcvCell t (tgt t c)) 0 (.rcv t) ∗ reached ER (rcvCell t (tgt t c)) 0 ∗ atPos ER (sndCell t c) 0 ∅ 0)
  | .flight => iprop(cred (tallyAt (sndCell t c) 0 N) ∗ atPos ER (sndCell t c) 0 ∅ 0)
  | .back => iprop(atPos ER (sndCell t c) 1 ∅ 0 ∗ slotAt c (src t) (shr t) (val t c))
  | .done => atPos ER (sndCell t c) 1 ∅ 0

def rcvR (t : Xf) : Bool → sProp 𝕄
  | false => iprop(cred (tallyAt (rcvCell t c) 0 N) ∗ atPos ER (rcvCell t c) 0 ∅ 0)
  | true => atPos ER (rcvCell t c) 1 ∅ 0

def zoneR (t : Xf) : Bool → sProp 𝕄
  | false => iprop(emp)
  | true => lz t c

/-- What every device may rely on throughout: the shared records of all cells, and the levels. -/
def cellRec (κ : GSem nD τ sig → ℕ) (c : Dev nD) : sProp 𝕄 :=
  iprop((cellInv ER (Rd val) (κ (barCell c)) (barCell c) ∗ reached ER (barCell c) 0 ∗ crInv (crCell c) (crR c) (κ (crCell c)))
    ∗ bigSep Finset.univ fun t => iprop(cellInv ER (Rd val) (κ (sndCell t c)) (sndCell t c) ∗ cellInv ER (Rd val) (κ (rcvCell t c)) (rcvCell t c)))
def recs (κ : GSem nD τ sig → ℕ) : sProp 𝕄 := iprop(levAts L lv ∗ bigSep Finset.univ fun c => cellRec val κ c)

instance cellRec_persistent (κ : GSem nD τ sig → ℕ) (c : Dev nD) : Persistent (cellRec (F := F) val κ c) := by unfold cellRec; infer_instance
instance recs_persistent (κ : GSem nD τ sig → ℕ) : Persistent (recs (F := F) val κ) := by unfold recs; infer_instance

theorem recs_lev (κ : GSem nD τ sig → ℕ) : (recs val κ : sProp 𝕄) ⊢ levAts L lv := by
  unfold recs; iintro ⟨H, -⟩; iexact H
theorem recs_dev (κ : GSem nD τ sig → ℕ) (d : Dev nD) : (recs val κ : sProp 𝕄) ⊢ cellRec val κ d := by
  unfold recs; iintro ⟨-, H⟩
  icases (Entails.of_eq (bs_erase (Finset.mem_univ d) _)) $$ H with ⟨H, -⟩
  iexact H
theorem recs_bar (κ : GSem nD τ sig → ℕ) (d : Dev nD) :
    (recs val κ : sProp 𝕄) ⊢ iprop(cellInv ER (Rd val) (κ (barCell d)) (barCell d) ∗ reached ER (barCell d) 0) := by
  refine (recs_dev val κ d).trans ?_
  unfold cellRec; iintro ⟨⟨H, H', -⟩, -⟩
  isplitl [H] <;> iassumption
theorem recs_cr (κ : GSem nD τ sig → ℕ) (d : Dev nD) : (recs val κ : sProp 𝕄) ⊢ crInv (crCell d) (crR d) (κ (crCell d)) := by
  refine (recs_dev val κ d).trans ?_
  unfold cellRec; iintro ⟨⟨-, -, H⟩, -⟩; iexact H
theorem recs_x (κ : GSem nD τ sig → ℕ) (d : Dev nD) (t : Xf) :
    (recs val κ : sProp 𝕄) ⊢ iprop(cellInv ER (Rd val) (κ (sndCell t d)) (sndCell t d) ∗ cellInv ER (Rd val) (κ (rcvCell t d)) (rcvCell t d)) := by
  refine (recs_dev val κ d).trans ?_
  unfold cellRec; iintro ⟨-, H⟩
  icases (Entails.of_eq (bs_erase (Finset.mem_univ t) _)) $$ H with ⟨H, -⟩
  iexact H
theorem recs_snd (κ : GSem nD τ sig → ℕ) (d : Dev nD) (t : Xf) : (recs val κ : sProp 𝕄) ⊢ cellInv ER (Rd val) (κ (sndCell t d)) (sndCell t d) := by
  refine (recs_x val κ d t).trans ?_
  iintro ⟨H, -⟩; iexact H
theorem recs_rcv (κ : GSem nD τ sig → ℕ) (d : Dev nD) (t : Xf) : (recs val κ : sProp 𝕄) ⊢ cellInv ER (Rd val) (κ (rcvCell t d)) (rcvCell t d) := by
  refine (recs_x val κ d t).trans ?_
  iintro ⟨-, H⟩; iexact H

/-- The go-aheads: the right to make the next one, the position among those received, the units still to come. -/
def goR (made taken : ℕ) : sProp 𝕄 :=
  iprop(paying ER (crCell (zl c)) 0 (.cr 0) made ∗ atPos ER (crCell c) taken ∅ 0
    ∗ bigSep (Finset.Ico taken 8) fun k => cred (tallyAt (crCell c) k 1))

/-- All a device holds in state `σ`, its operands `Fr` included. -/
def M (κ : GSem nD τ sig → ℕ) (Fr : sProp 𝕄) (σ : St) : sProp 𝕄 :=
  iprop(recs val κ ∗ (∃ W, owes (c : Thread nD τ) (owed c σ.rem) W)
    ∗ bigSep Finset.univ (fun a => slotR val c a (σ.slot a)) ∗ bigSep Finset.univ (fun t => sndR val c t (σ.snd t))
    ∗ bigSep Finset.univ (fun t => rcvR c t (σ.got t)) ∗ bigSep Finset.univ (fun t => zoneR c t (σ.zone t))
    ∗ goR c σ.made σ.taken ∗ Fr)

end

/-- One component of a family set apart, to come back changed. -/
theorem bs_move {I A : Type} [Fintype I] [DecidableEq I] (R : I → A → sProp 𝕄) (f : I → A) (a : I) :
    bigSep Finset.univ (fun i => R i (f i)) ⊢ iprop(R a (f a) ∗ (∀ b, R a b -∗ bigSep Finset.univ (fun i => R i (upd f a b i)))) := by
  have h (b : A) : bigSep (Finset.univ.erase a) (fun i => R i (f i)) = bigSep (Finset.univ.erase a) (fun i => R i (upd f a b i)) :=
    bigSep_congr fun i hi => by rw [upd_other f a b (Finset.ne_of_mem_erase hi)]
  iintro H
  icases (Entails.of_eq (bs_erase (Finset.mem_univ a) _)) $$ H with ⟨H, Hr⟩
  isplitl [H]; · iexact H
  iintro %b Hb
  iapply (Entails.of_eq (bs_erase (Finset.mem_univ a) (fun i => R i (upd f a b i))).symm)
  isplitl [Hb]
  · rw [upd_same]; iexact Hb
  · iapply (Entails.of_eq (h b)); iexact Hr

end Cert.KernelIdeal.Ring

end
-- ==== Proof.Ring.Steps.lean ====
/-
  The rules: what one operation of the program asks of the device's state and what it makes of it.
-/
module

public import proofs.«01_k».proof.Proof.Ring.State

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ

variable {val : Xf → Dev nD → Vec F S1x1x256x512 .f32} {c : Dev nD} {κ : GSem nD τ sig → ℕ}

/-! ## One part of the state at a time -/

theorem M_recs {Fr : sProp 𝕄} (σ : St) : M val c κ Fr σ ⊢ iprop(recs val κ ∗ M val c κ Fr σ) := by
  unfold M; iintro ⟨#HR, H⟩
  isplitr; · iexact HR
  isplitr; · iexact HR
  iexact H

theorem M_slot {Fr : sProp 𝕄} (σ : St) (a : Slot) : M val c κ Fr σ ⊢ iprop(slotR val c a (σ.slot a)
    ∗ (∀ b, slotR val c a b -∗ M val c κ Fr { σ with slot := upd σ.slot a b })) := by
  unfold M; iintro ⟨HR, HO, H, H'⟩
  icases (bs_move (slotR val c) σ.slot a) $$ H with ⟨Ha, H⟩
  isplitl [Ha]; · iexact Ha
  iintro %b Hb
  isplitl [HR]; · iexact HR
  isplitl [HO]; · iexact HO
  isplitl [H Hb]; · iapply H; iexact Hb
  iexact H'

theorem upd_id {I A : Type} [DecidableEq I] (f : I → A) (a : I) {b : A} (h : f a = b) : upd f a b = f := by
  funext i; unfold upd; split
  · next e => rw [e, h]
  · rfl

variable {α : Type} {β : Type}

/-! ## Loads and stores of a slot -/

/-- A load of a slot the device holds some share of. -/
theorem step_ld {Fr : sProp 𝕄} {σ : St} (a : Slot) {q : Sh} {x : Cnt} (hs : σ.slot a = some (q, x)) {d : Fin 4 → ℕ} {m : Memref sig .tc .vmem ⟨4, d⟩ .f32}
    {off : Fin 4 → ℕ} {inb} (hm : m.slice (Rect.unit (s := ⟨4, d⟩) off S1x1x256x512.size inb) (fun _ => rfl) = mem c a)
    {hl : m.view.LoadsAt (Rect.unit (s := ⟨4, d⟩) off S1x1x256x512.size inb).toLoadRect}
    {k : Vec F S1x1x256x512 .f32 → Prog (TpuEff nD τ sig (Elt F) Λ₀ .tc) α} {Q : α → sProp 𝕄}
    (hk : ∀ X, x.ok val c X → (M val c κ Fr σ ⊢ W c (k X) Q)) :
    M val c κ Fr σ ⊢ W c (.op (.load m (Rect.unit (s := ⟨4, d⟩) off S1x1x256x512.size inb).toLoadRect hl) k) Q := by
  have e : slotR val c a (σ.slot a) = iprop(∃ X, ⌜x.ok val c X⌝ ∗ slotAt c a q.sh X) := by rw [hs]; rfl
  iintro H
  icases (M_slot σ a) $$ H with ⟨Ha, H⟩
  icases (Entails.of_eq e) $$ Ha with ⟨%X, %hX, Ha⟩
  iapply (wp_ld c (m := m) (r := Rect.unit (s := ⟨4, d⟩) off S1x1x256x512.size inb) (fun _ => rfl) (q := q.sh) (X := X)) $$ [Ha]
  · iapply (show slotAt c a q.sh X ⊢ owns (c : Thread nD τ) (m.slice (Rect.unit (s := ⟨4, d⟩) off S1x1x256x512.size inb) (fun _ => rfl)) q.sh X from by rw [hm])
    iexact Ha
  iintro Ha
  iapply (hk X hX)
  ihave H := H $$ %(σ.slot a)
  ihave H := H $$ [Ha]
  · iapply (Entails.of_eq e.symm)
    iexists X
    isplitr; · ipureintro; exact hX
    iapply (show owns (c : Thread nD τ) (m.slice (Rect.unit (s := ⟨4, d⟩) off S1x1x256x512.size inb) (fun _ => rfl)) q.sh X ⊢ slotAt c a q.sh X from by rw [hm])
    iexact Ha
  iapply (Entails.of_eq (congrArg (M val c κ Fr) (show ({ σ with slot := upd σ.slot a (σ.slot a) } : St) = σ by rw [upd_id _ _ rfl])))
  iexact H

/-- A store over a slot the device holds whole. -/
theorem step_st {Fr : sProp 𝕄} {σ : St} (a : Slot) {x : Cnt} (x' : Cnt) (hs : σ.slot a = some (.f, x)) {d : Fin 4 → ℕ} {m : Memref sig .tc .vmem ⟨4, d⟩ .f32}
    {off : Fin 4 → ℕ} {inb} (hm : m.slice (Rect.unit (s := ⟨4, d⟩) off S1x1x256x512.size inb) (fun _ => rfl) = mem c a)
    {w : Vec F S1x1x256x512 .f32} (hw : x'.ok val c w)
    {hx : (m.access (Rect.unit (s := ⟨4, d⟩) off S1x1x256x512.size inb)).Stores Finset.univ} {hm'}
    {k : PUnit → Prog (TpuEff nD τ sig (Elt F) Λ₀ .tc) α} {Q : α → sProp 𝕄}
    (hk : M val c κ Fr (σ.put a x') ⊢ W c (k ⟨⟩) Q) :
    M val c κ Fr σ ⊢ W c (.op (.store m (Rect.unit (s := ⟨4, d⟩) off S1x1x256x512.size inb) w Finset.univ hx hm') k) Q := by
  have e : slotR val c a (σ.slot a) = iprop(∃ X, ⌜x.ok val c X⌝ ∗ slotAt c a fullShare X) := by rw [hs]; rfl
  iintro H
  icases (M_slot σ a) $$ H with ⟨Ha, H⟩
  icases (Entails.of_eq e) $$ Ha with ⟨%X, -, Ha⟩
  iapply (wp_st c (m := m) (r := Rect.unit (s := ⟨4, d⟩) off S1x1x256x512.size inb) (fun _ => rfl) (X := X)) $$ [Ha]
  · iapply (show slotAt c a fullShare X ⊢ owns (c : Thread nD τ) (m.slice (Rect.unit (s := ⟨4, d⟩) off S1x1x256x512.size inb) (fun _ => rfl)) fullShare X from by rw [hm])
    iexact Ha
  iintro Ha
  iapply hk
  unfold St.put
  iapply H
  iapply (show iprop(∃ X, ⌜x'.ok val c X⌝ ∗ slotAt c a fullShare X) ⊢ slotR val c a (some (Sh.f, x')) from .rfl)
  iexists w
  isplitr; · ipureintro; exact hw
  iapply (show owns (c : Thread nD τ) (m.slice (Rect.unit (s := ⟨4, d⟩) off S1x1x256x512.size inb) (fun _ => rfl)) fullShare w ⊢ slotAt c a fullShare w from by rw [hm])
  iexact Ha

/-- A load of the device's operands. -/
theorem wp_in {s : Shape} {e : EltTy} {m : Memref sig .tc .vmem s e} {r : Rect s} {hl : m.view.LoadsAt r.toLoadRect}
    {k : (r.shape.Idx → Elt F e) → Prog (TpuEff nD τ sig (Elt F) Λ₀ .tc) α} {Q : α → sProp 𝕄} {q : PosShare TreeShare} {X : s.Idx → Elt F e} :
    (owns (c : Thread nD τ) m q X : sProp 𝕄)
      ⊢ iprop((owns (c : Thread nD τ) m q X -∗ W c (k fun j => X (r.emb j)) Q) -∗ W c (.op (.load m r.toLoadRect hl) k) Q) := by
  iintro H Hk
  ihave H' := (show owns (c : Thread nD τ) m q X
    ⊢ iprop(∃ f, ⌜m.view.read (Elt F) f = X⌝ ∗ (m.access r).loc (c : Thread nD τ) ↦[m.view.set]{q} f) from .rfl) $$ H
  icases H' with ⟨%f, %hf, H⟩
  iapply (wp_load_rect 𝒱₀ (c : Thread nD τ) none Set.univ (m := m) (r := r) (S := m.view.set) (View.set_slice_subset _ _)) $$ H
  iintro H
  rw [show (m.access r).read (Elt F) f = fun j => X (r.emb j) from funext fun j => congrFun hf (r.emb j)]
  iapply Hk
  rw [← hf]
  iapply (owns_intro (c : Thread nD τ) m q f)
  iexact H

/-- The frame is carried along. -/
theorem M_frame {Fr : sProp 𝕄} (σ : St) : M val c κ Fr σ ⊣⊢ iprop(M val c κ iprop(emp) σ ∗ Fr) := by
  unfold M
  constructor
  · iintro ⟨HR, HO, Hs, Hn, Hr, Hz, Hg, HF⟩
    isplitr [HF]
    · isplitl [HR]; · iexact HR
      isplitl [HO]; · iexact HO
      isplitl [Hs]; · iexact Hs
      isplitl [Hn]; · iexact Hn
      isplitl [Hr]; · iexact Hr
      isplitl [Hz]; · iexact Hz
      isplitl [Hg]; · iexact Hg
      iempintro
    · iexact HF
  · iintro ⟨⟨HR, HO, Hs, Hn, Hr, Hz, Hg, -⟩, HF⟩
    isplitl [HR]; · iexact HR
    isplitl [HO]; · iexact HO
    isplitl [Hs]; · iexact Hs
    isplitl [Hn]; · iexact Hn
    isplitl [Hr]; · iexact Hr
    isplitl [Hz]; · iexact Hz
    isplitl [Hg]; · iexact Hg
    iexact HF

/-- The operands: the device's rows and weights, which it only reads, and the result; and that the barrier is passed. -/
abbrev Ops (c : Dev nD) (m0 : Memref sig .tc .vmem S4x512x1024 .f32) (m1 : Memref sig .tc .vmem S512x512 .f32) (m2 : Memref sig .tc .vmem S4x256x2048 .f32)
    (O : Vec F S4x512x1024 .f32) (G : Vec F S512x512 .f32) (Y : Vec F S4x256x2048 .f32) : sProp 𝕄 :=
  iprop(owns (c : Thread nD τ) m0 fullShare O ∗ owns (c : Thread nD τ) m1 fullShare G ∗ owns (c : Thread nD τ) m2 fullShare Y
    ∗ atPos ER (barCell c) 1 ∅ 0)

section
variable {m0 : Memref sig .tc .vmem S4x512x1024 .f32} {m1 : Memref sig .tc .vmem S512x512 .f32} {m2 : Memref sig .tc .vmem S4x256x2048 .f32}
  {O : Vec F S4x512x1024 .f32} {G : Vec F S512x512 .f32} {Y : Vec F S4x256x2048 .f32}

theorem step_o {σ : St} {r : Rect S4x512x1024} {hl : m0.view.LoadsAt r.toLoadRect}
    {k : (r.shape.Idx → Elt F .f32) → Prog (TpuEff nD τ sig (Elt F) Λ₀ .tc) α} {Q : α → sProp 𝕄}
    (hk : M val c κ (Ops c m0 m1 m2 O G Y) σ ⊢ W c (k fun j => O (r.emb j)) Q) :
    M val c κ (Ops c m0 m1 m2 O G Y) σ ⊢ W c (.op (.load m0 r.toLoadRect hl) k) Q := by
  iintro H
  icases (M_frame σ).1 $$ H with ⟨H, H0, H1, H2⟩
  iapply wp_in $$ H0
  iintro H0
  iapply hk
  iapply (M_frame σ).2
  isplitl [H]; · iexact H
  isplitl [H0]; · iexact H0
  isplitl [H1] <;> iassumption

theorem step_w {σ : St} {r : Rect S512x512} {hl : m1.view.LoadsAt r.toLoadRect}
    {k : (r.shape.Idx → Elt F .f32) → Prog (TpuEff nD τ sig (Elt F) Λ₀ .tc) α} {Q : α → sProp 𝕄}
    (hk : M val c κ (Ops c m0 m1 m2 O G Y) σ ⊢ W c (k fun j => G (r.emb j)) Q) :
    M val c κ (Ops c m0 m1 m2 O G Y) σ ⊢ W c (.op (.load m1 r.toLoadRect hl) k) Q := by
  iintro H
  icases (M_frame σ).1 $$ H with ⟨H, H0, H1, H2⟩
  iapply wp_in $$ H1
  iintro H1
  iapply hk
  iapply (M_frame σ).2
  isplitl [H]; · iexact H
  isplitl [H0]; · iexact H0
  isplitl [H1] <;> iassumption

end

/-! ## Waits -/

set_option maxRecDepth 65536 in
theorem recs_wait (κ : GSem nD τ sig → ℕ) (c : Dev nD) (s : SemLoc sig) (i : ℕ) (l : List Pay) (hi : i < 8) (h : ∀ p ∈ l, slv s i < p.lev) :
    (recs val κ : sProp 𝕄) ⊢ MayWait (c : Thread nD τ) s i (owed c l) := (recs_lev val κ).trans (mayWait (F := F) c s i l hi h)

/-- Waiting for a transfer's source to be read out. -/
theorem step_read {Fr : sProp 𝕄} {σ : St} (t : Xf) (ht : σ.snd t = .flight) {q : DmaSem sig} (hq : q = sndS t)
    (hlow : ∀ p ∈ σ.rem, slv (.dma (sndS t)) 0 < p.lev) {s s' : Shape} {e e' : EltTy}
    {m : Memref sig .tc .vmem s e} {m' : Memref sig .tc .vmem s' e'} {hsrc : m.view.WordExact} {hdst : m'.view.WordExact} (hN : m'.view.dmaCredit = N)
    {k : PUnit → Prog (TpuEff nD τ sig (Elt F) Λ₀ .tc) α} {Q : α → sProp 𝕄} (hk : M val c κ Fr (σ.read t) ⊢ W c (k ⟨⟩) Q) :
    M val c κ Fr σ ⊢ W c (.op (.waitDma2 q m m' hsrc hdst) k) Q := by
  subst hq
  have e : sndR val c t (σ.snd t) = iprop(cred (tallyAt (sndCell t c) 0 N) ∗ atPos ER (sndCell t c) 0 ∅ 0) := by rw [ht]; rfl
  unfold M
  iintro ⟨#HR, ⟨%Wt, HO⟩, Hs, Hn, H⟩
  icases (bs_move (sndR val c) σ.snd t) $$ Hn with ⟨Ht, Hn⟩
  icases (Entails.of_eq e) $$ Ht with ⟨Hc, Hp⟩
  iapply (Rounds.wp_wait_rest_token 𝒱₀ ER (Rd val) (c : Thread nD τ) none (κ := κ (sndCell t c))
      (wpE_waitDma2_eq 𝒱₀ (c : Thread nD τ) none Set.univ) (Set.mem_univ _) 0 (O := owed c σ.rem) (W := Wt) (R := 0) (m := 0) (T := ∅)
      ((Nat.zero_add _).trans (hN.trans (expect_snd val c t).symm))) $$ [Hc HO Hp]
  · isplitr; · iapply (recs_snd val κ c t); iexact HR
    isplitl [Hc]; · iapply (Entails.of_eq (congrArg (fun n => (cred (tallyAt (sndCell t c) 0 n) : sProp 𝕄)) hN.symm)); iexact Hc
    isplitl [HO]; · iexact HO
    isplitr; · iapply (recs_wait κ c (.dma (sndS t)) 0 σ.rem (by omega) hlow); iexact HR
    iexact Hp
  iintro ⟨HO, Hp, -, Hpay⟩
  iapply hk
  unfold M
  isplitr; · iexact HR
  isplitl [HO]; · iexists _; iexact HO
  isplitl [Hs]; · iexact Hs
  isplitl [Hn Hp Hpay]
  · iapply Hn $$ %Ph.back
    iapply (show iprop(atPos ER (sndCell t c) 1 ∅ 0 ∗ slotAt c (src t) (shr t) (val t c)) ⊢ sndR val c t .back from .rfl)
    isplitl [Hp]; · iexact Hp
    iapply (Entails.of_eq (rest_snd val c t)); iexact Hpay
  iexact H

/-- Waiting for the transfer that comes in. -/
theorem step_recv {Fr : sProp 𝕄} {σ : St} (t : Xf) (ht : σ.got t = false) (hs : σ.slot (dst t) = none) {q : DmaSem sig} (hq : q = rcvS t)
    (hlow : ∀ p ∈ σ.rem, slv (.dma (rcvS t)) 0 < p.lev) {s s' : Shape} {e e' : EltTy}
    {m : Memref sig .tc .vmem s e} {m' : Memref sig .tc .vmem s' e'} {hsrc : m.view.WordExact} {hdst : m'.view.WordExact} (hN : m'.view.dmaCredit = N)
    {k : PUnit → Prog (TpuEff nD τ sig (Elt F) Λ₀ .tc) α} {Q : α → sProp 𝕄} (hk : M val c κ Fr (σ.recv t) ⊢ W c (k ⟨⟩) Q) :
    M val c κ Fr σ ⊢ W c (.op (.waitDma2 q m m' hsrc hdst) k) Q := by
  subst hq
  have e : rcvR c t (σ.got t) = (iprop(cred (tallyAt (rcvCell t c) 0 N) ∗ atPos ER (rcvCell t c) 0 ∅ 0) : sProp 𝕄) := by rw [ht]; rfl
  unfold M
  iintro ⟨#HR, ⟨%Wt, HO⟩, Hs, Hn, Hr, H⟩
  icases (bs_move (rcvR c) σ.got t) $$ Hr with ⟨Ht, Hr⟩
  icases (bs_move (slotR val c) σ.slot (dst t)) $$ Hs with ⟨-, Hs⟩
  icases (Entails.of_eq e) $$ Ht with ⟨Hc, Hp⟩
  iapply (Rounds.wp_wait_rest_token 𝒱₀ ER (Rd val) (c : Thread nD τ) none (κ := κ (rcvCell t c))
      (wpE_waitDma2_eq 𝒱₀ (c : Thread nD τ) none Set.univ) (Set.mem_univ _) 0 (O := owed c σ.rem) (W := Wt) (R := 0) (m := 0) (T := ∅)
      ((Nat.zero_add _).trans (hN.trans (expect_rcv val c t).symm))) $$ [Hc HO Hp]
  · isplitr; · iapply (recs_rcv val κ c t); iexact HR
    isplitl [Hc]; · iapply (Entails.of_eq (congrArg (fun n => (cred (tallyAt (rcvCell t c) 0 n) : sProp 𝕄)) hN.symm)); iexact Hc
    isplitl [HO]; · iexact HO
    isplitr; · iapply (recs_wait κ c (.dma (rcvS t)) 0 σ.rem (by omega) hlow); iexact HR
    iexact Hp
  iintro ⟨HO, Hp, -, Hpay⟩
  iapply hk
  unfold M
  isplitr; · iexact HR
  isplitl [HO]; · iexists _; iexact HO
  isplitl [Hs Hpay]
  · iapply Hs $$ %(some (Sh.f, Cnt.got t))
    iapply (show iprop(∃ X, ⌜X = val t (org t c)⌝ ∗ slotAt c (dst t) fullShare X) ⊢ slotR val c (dst t) (some (Sh.f, Cnt.got t)) from .rfl)
    iexists _
    isplitr; · ipureintro; rfl
    iapply (Entails.of_eq (rest_rcv val c t)); iexact Hpay
  isplitl [Hn]; · iexact Hn
  isplitl [Hr Hp]
  · iapply Hr $$ %true
    iapply (show (atPos ER (rcvCell t c) 1 ∅ 0 : sProp 𝕄) ⊢ rcvR c t true from .rfl); iexact Hp
  iexact H

/-- A source read out and wholly given back. -/
theorem step_whole {Fr : sProp 𝕄} {σ : St} (h : Fin 3) (k : Fin 4) (ht : σ.snd (.p h k) = .back) :
    M val c κ Fr σ ⊢ M val c κ Fr (σ.whole (.p h k)) := by
  have e : sndR val c (.p h k) (σ.snd (.p h k))
      = iprop(atPos ER (sndCell (.p h k) c) 1 ∅ 0 ∗ slotAt c (src (.p h k)) fullShare (val (.p h k) c)) := by rw [ht]; rfl
  unfold M
  iintro ⟨#HR, HO, Hs, Hn, H⟩
  icases (bs_move (sndR val c) σ.snd (.p h k)) $$ Hn with ⟨Ht, Hn⟩
  icases (bs_move (slotR val c) σ.slot (src (.p h k))) $$ Hs with ⟨-, Hs⟩
  icases (Entails.of_eq e) $$ Ht with ⟨Hp, Ha⟩
  isplitr; · iexact HR
  isplitl [HO]; · iexact HO
  isplitl [Hs Ha]
  · iapply Hs $$ %(some (Sh.f, Cnt.own (.p h k)))
    iapply (show iprop(∃ X, ⌜X = val (.p h k) c⌝ ∗ slotAt c (src (.p h k)) fullShare X) ⊢ slotR val c (src (.p h k)) (some (Sh.f, Cnt.own (.p h k))) from .rfl)
    iexists _
    isplitr; · ipureintro; rfl
    iexact Ha
  isplitl [Hn Hp]
  · iapply Hn $$ %Ph.done
    iapply (show (atPos ER (sndCell (.p h k) c) 1 ∅ 0 : sProp 𝕄) ⊢ sndR val c (.p h k) .done from .rfl); iexact Hp
  iexact H

/-! ## Go-aheads -/

theorem tgt_crx (k : ℕ) (c : Dev nD) : tgt (crx k) (zl c) = c := by
  unfold crx; split <;> exact zr_zl c

/-- Telling the previous device of the inner ring that a slot is free. -/
theorem step_give {Fr : sProp 𝕄} {σ : St} (hm : σ.made < 8) {x : Cnt} (hs : σ.slot (dst (crx σ.made)) = some (.f, x))
    (hl : σ.rem = .cr ⟨σ.made, hm⟩ :: σ.rem.tail) {d : Dev nD} (hd : d = zl c) {s : Sem sig} (hs' : s = crS) {n : ℤ} (hn : n = ((1 : ℕ) : ℤ))
    {k : PUnit → Prog (TpuEff nD τ sig (Elt F) Λ₀ .tc) α} {Q : α → sProp 𝕄} (hk : M val c κ Fr σ.give ⊢ W c (k ⟨⟩) Q) :
    M val c κ Fr σ ⊢ W c (.op (.semSignal (d, .tc) s n) k) Q := by
  subst hd; subst hs'; subst hn
  have e : slotR val c (dst (crx σ.made)) (σ.slot (dst (crx σ.made))) = iprop(∃ X, ⌜x.ok val c X⌝ ∗ slotAt c (dst (crx σ.made)) fullShare X) := by
    rw [hs]; rfl
  have hz : (iprop(∃ X, slotAt c (dst (crx σ.made)) fullShare X) : sProp 𝕄) = crR (zl c) σ.made := by
    unfold crR lz; rw [tgt_crx]
  unfold M goR
  iintro ⟨#HR, ⟨%Wt, HO⟩, Hs, Hn, Hr, Hz, ⟨Hg, Ht⟩, HF⟩
  icases (bs_move (slotR val c) σ.slot (dst (crx σ.made))) $$ Hs with ⟨Ha, Hs⟩
  icases (Entails.of_eq e) $$ Ha with ⟨%X, -, Ha⟩
  imod (cr_give (crCell (zl c)) (crR (zl c)) (κ (crCell (zl c))) σ.made hm) $$ [Hg Ha] with ⟨Hg, Hk⟩
  · isplitr; · iapply (recs_cr val κ (zl c)); iexact HR
    isplitl [Hg]; · iexact Hg
    iapply (Entails.of_eq hz); iexists X; iexact Ha
  iapply (wp_semSignal 𝒱₀ (c : Thread nD τ) none Set.univ (dst := (zl c : Thread nD τ)) (sem := crS) (k' := 1) σ.made (O₀ := owed c σ.rem) (owed c σ.rem.tail)
    (by rw [hl]; rfl) (W := Wt)) $$ HO [Hk]
  · iapply (cr_land (crCell (zl c)) (crR (zl c)) (κ (crCell (zl c))) σ.made hm)
    isplitr; · iapply (recs_cr val κ (zl c)); iexact HR
    iexact Hk
  iintro HO
  iapply hk
  unfold M goR
  isplitr; · iexact HR
  isplitl [HO]; · iexists _; iexact HO
  isplitl [Hs]
  · iapply Hs $$ %none
    iapply (show (iprop(emp) : sProp 𝕄) ⊢ slotR val c (dst (crx σ.made)) none from .rfl)
    iempintro
  isplitl [Hn]; · iexact Hn
  isplitl [Hr]; · iexact Hr
  isplitl [Hz]; · iexact Hz
  isplitl [Hg Ht]
  · isplitl [Hg]; · iexact Hg
    iexact Ht
  iexact HF

/-- Waiting for the next go-ahead. -/
theorem step_take {Fr : sProp 𝕄} {σ : St} (hm : σ.taken < 8) (hlow : ∀ p ∈ σ.rem, slv (.reg crS) σ.taken < p.lev) {s : Sem sig} (hs' : s = crS) {n : ℕ} (hn : n = 1)
    {k : PUnit → Prog (TpuEff nD τ sig (Elt F) Λ₀ .tc) α} {Q : α → sProp 𝕄} (hk : M val c κ Fr σ.take ⊢ W c (k ⟨⟩) Q) :
    M val c κ Fr σ ⊢ W c (.op (.semWait s n) k) Q := by
  subst hs'; subst hn
  unfold M goR
  iintro ⟨#HR, ⟨%Wt, HO⟩, Hs, Hn, Hr, Hz, ⟨Hg, Hp, Hc⟩, HF⟩
  icases (Entails.of_eq (bs_first hm _)) $$ Hc with ⟨Hc, Hcs⟩
  icases (bs_move (zoneR c) σ.zone (crx σ.taken)) $$ Hz with ⟨-, Hz⟩
  iapply (Idealize.ShloMosaic.wp_wait 𝒱₀ (c : Thread nD τ) none Set.univ (wpE_semWait_eq 𝒱₀ (c : Thread nD τ) none Set.univ) (sm := .reg crS) (k' := 1)
    (κ := Finsupp.single σ.taken 1) (O := owed c σ.rem) (W := Wt) {(.reg crS, σ.taken)} (by rw [Util.total_single]) (image_single_subset _ _ _)) $$ [Hc HO]
  · isplitl [Hc]; · iexact Hc
    isplitl [HO]; · iexact HO
    iapply (recs_wait κ c (.reg crS) σ.taken σ.rem hm hlow); iexact HR
  iapply (cr_take (crCell c) (crR c) (κ (crCell c)) σ.taken)
  isplitr; · iapply (recs_cr val κ c); iexact HR
  isplitl [Hp]; · iexact Hp
  iintro ⟨Hp, HZ⟩ HO
  iapply hk
  unfold M goR
  isplitr; · iexact HR
  isplitl [HO]; · iexists _; iexact HO
  isplitl [Hs]; · iexact Hs
  isplitl [Hn]; · iexact Hn
  isplitl [Hr]; · iexact Hr
  isplitl [Hz HZ]
  · iapply Hz $$ %true
    iapply (show (crR c σ.taken : sProp 𝕄) ⊢ zoneR c (crx σ.taken) true from .rfl); iexact HZ
  isplitl [Hg Hp Hcs]
  · isplitl [Hg]; · iexact Hg
    isplitl [Hp]; · iexact Hp
    iexact Hcs
  iexact HF

/-! ## Transfers -/

/-- What a transfer takes of its source, and what is left of it. -/
theorem need_split (t : Xf) (X : Vec F S1x1x256x512 .f32) :
    (slotAt c (src t) (need t).sh X : sProp 𝕄)
      ⊢ iprop(slotAt c (src t) (shr t) X ∗ (match left t with | none => iprop(emp) | some q => slotAt c (src t) q.sh X)) := by
  cases t with
  | p h k => iintro H; isplitl [H]; · iexact H
             iempintro
  | sr k => exact (owns_halves c _ _ X).1
  | sl k => exact (owns_halves c _ _ X).1
  | tr k => exact (owns_halves c _ _ X).1
  | tl k => exact (owns_halves c _ _ X).1

theorem rest_ok (t : Xf) (x : Cnt) (X : Vec F S1x1x256x512 .f32) (hX : x.ok val c X) :
    (match left t with | none => iprop(emp) | some q => slotAt c (src t) q.sh X) ⊢ slotR val c (src t) ((left t).map (·, x)) := by
  cases h : left t with
  | none => exact .rfl
  | some q =>
    iintro H
    iapply (show iprop(∃ X, ⌜x.ok val c X⌝ ∗ slotAt c (src t) q.sh X) ⊢ slotR val c (src t) ((some q).map (·, x)) from .rfl)
    iexists X
    isplitr; · ipureintro; exact hX
    iexact H

/-- The source comes back, and the destination arrives, holding what was sent. -/
theorem snd_pay (t : Xf) {X : Vec F S1x1x256x512 .f32} (hv : X = val t c) (f : (sq (mem c (src t))).view.ty.Contents (Elt F))
    (hf : (mem c (src t)).view.read (Elt F) f = X) :
    ((sq (mem c (src t))).view.loc (c : Thread nD τ) ↦[(sq (mem c (src t))).view.set]{shr t} f : sProp 𝕄)
      ⊢ (Rd val).payload (sndCell t c) 0 (.snd t) := by
  have e : (Rd val).payload (sndCell t c) 0 (.snd t) = (slotAt c (src t) (shr t) (val t c) : sProp 𝕄) := rfl
  subst hv
  rw [e]
  iintro H
  iapply (owns_sq c (mem c (src t)) (shr t) (val t c)).2
  iexists f
  isplitr; · ipureintro; exact hf
  iexact H
theorem rcv_pay (t : Xf) {X : Vec F S1x1x256x512 .f32} (hv : X = val t c) (f : (sq (mem c (src t))).view.ty.Contents (Elt F))
    (hf : (mem c (src t)).view.read (Elt F) f = X) (f' : (sq (mem (tgt t c) (dst t))).view.ty.Contents (Elt F)) :
    ((sq (mem (tgt t c) (dst t))).view.loc (tgt t c : Thread nD τ) ↦[(sq (mem (tgt t c) (dst t))).view.set]{fullShare}
        (sq (mem (tgt t c) (dst t))).view.write (Elt F) f' ((sq (mem c (src t))).view.read (Elt F) f) Finset.univ : sProp 𝕄)
      ⊢ (Rd val).payload (rcvCell t (tgt t c)) 0 (.rcv t) := by
  have e : (Rd val).payload (rcvCell t (tgt t c)) 0 (.rcv t) = (slotAt (tgt t c) (dst t) fullShare X : sProp 𝕄) := by
    show slotAt (tgt t c) (dst t) fullShare (val t (org t (tgt t c))) = _
    rw [org_tgt, hv]
  rw [e]
  iintro H
  iapply (owns_sq (tgt t c) (mem (tgt t c) (dst t)) fullShare X).2
  iexists ((sq (mem (tgt t c) (dst t))).view.write (Elt F) f' ((sq (mem c (src t))).view.read (Elt F) f) Finset.univ)
  isplitr
  · ipureintro; exact (read_landed (mem (tgt t c) (dst t)) (mem c (src t)) f' f).trans hf
  iexact H

/-- Starting a transfer. -/
theorem step_send {Fr : sProp 𝕄} {σ : St} (t : Xf) {x : Cnt} (ht : σ.snd t = .ready) (hs : σ.slot (src t) = some (need t, x)) (hx : ∀ X, x.ok val c X → X = val t c)
    (hz : σ.zone t = true) (hl : σ.rem = .x t :: σ.rem.tail) {d : Dev nD} (hd : d = tgt t c)
    {m : Memref sig .tc .vmem S1x256x512 .f32} {m' : Memref sig (Dev.tc d : Thread nD τ).2.kind .vmem S1x256x512 .f32}
    (hm : m = sq (mem c (src t))) (hm' : m' = sq (mem (tgt t c) (dst t))) {q q' : DmaSem sig} (hq : q = sndS t) (hq' : q' = rcvS t)
    {hsc : m'.view.ref.isScScratch = false} {hsrc : m.view.WordExact} {hdst : m'.view.WordExact}
    {hsem : DmaTarget.Typed .vmem (.dma q') (.remote (Dev.tc d : Thread nD τ) m' (.dma q) hsc)}
    {k : PUnit → Prog (TpuEff nD τ sig (Elt F) Λ₀ .tc) α} {Q : α → sProp 𝕄} (hk : M val c κ Fr (σ.sent t x) ⊢ W c (k ⟨⟩) Q) :
    M val c κ Fr σ ⊢ W c (.op (.enqueueDma m (.remote (Dev.tc d : Thread nD τ) m' (.dma q) hsc) (.dma q') hsrc hdst hsem) k) Q := by
  subst hd; subst hm; subst hm'; subst hq; subst hq'
  have e : sndR val c t (σ.snd t) = iprop(dutyTok ER (sndCell t c) 0 (.snd t) ∗ reached ER (sndCell t c) 0
      ∗ dutyTok ER (rcvCell t (tgt t c)) 0 (.rcv t) ∗ reached ER (rcvCell t (tgt t c)) 0 ∗ atPos ER (sndCell t c) 0 ∅ 0) := by rw [ht]; rfl
  have e' : slotR val c (src t) (σ.slot (src t)) = iprop(∃ X, ⌜x.ok val c X⌝ ∗ slotAt c (src t) (need t).sh X) := by rw [hs]; rfl
  have e'' : (zoneR c t (σ.zone t) : sProp 𝕄) = iprop(∃ Y, slotAt (tgt t c) (dst t) fullShare Y) := by rw [hz]; rfl
  unfold M
  iintro ⟨#HR, ⟨%Wt, HO⟩, Hs, Hn, Hr, Hz, Hg⟩
  icases (bs_move (slotR val c) σ.slot (src t)) $$ Hs with ⟨Ha, Hs⟩
  icases (Entails.of_eq e') $$ Ha with ⟨%X, %hX, Ha⟩
  icases (need_split t X) $$ Ha with ⟨Ha, Hrest⟩
  icases (bs_move (sndR val c) σ.snd t) $$ Hn with ⟨Ht, Hn⟩
  icases (Entails.of_eq e) $$ Ht with ⟨Hd1, Hr1, Hd2, Hr2, Hp⟩
  icases (bs_move (zoneR c) σ.zone t) $$ Hz with ⟨HY, Hz⟩
  icases (Entails.of_eq e'') $$ HY with ⟨%Y, HY⟩
  icases (owns_sq c (mem c (src t)) (shr t) X).1 $$ Ha with ⟨%f, %hf, Ha⟩
  icases (owns_sq (tgt t c) (mem (tgt t c) (dst t)) fullShare Y).1 $$ HY with ⟨%f', -, HY⟩
  have hv : X = val t c := hx X hX
  iapply (Rounds.wp_send_pointsTo 𝒱₀ ER (Rd val) (c : Thread nD τ) none (κ₁ := κ (sndCell t c)) (κ₂ := κ (rcvCell t (tgt t c)))
    (c' := (tgt t c : Thread nD τ)) (sS := .dma (sndS t)) (sem := .dma (rcvS t)) (src := sq (mem c (src t))) (dst := sq (mem (tgt t c) (dst t))) (q := shr t) (fs := f) (fd := f')
    (r₁ := 0) (r₂ := 0) (d₁ := .snd t) (d₂ := .rcv t)
    (by rw [duties_zero, dut_snd]; exact Finset.mem_singleton_self _) (by rw [duties_zero, dut_rcv]; exact Finset.mem_singleton_self _)
    0 0 N (credit_slot (tgt t c) (dst t)) rfl rfl (O₀ := owed c σ.rem) (owed c σ.rem.tail) (by rw [hl]; rfl) (W := Wt)
    (snd_pay t hv f hf) (rcv_pay t hv f hf f')) $$ [HO Ha HY Hd1 Hr1 Hd2 Hr2]
  · isplitr; · iapply (recs_snd val κ c t); iexact HR
    isplitr; · iapply (recs_rcv val κ (tgt t c) t); iexact HR
    isplitl [Ha]; · iexact Ha
    isplitl [HY]; · iexact HY
    isplitl [HO]; · iexact HO
    isplitl [Hd1]; · iexact Hd1
    isplitl [Hr1]; · iexact Hr1
    isplitl [Hd2]; · iexact Hd2
    iexact Hr2
  iintro ⟨Hc, HO⟩
  iapply hk
  unfold M St.sent
  isplitr; · iexact HR
  isplitl [HO]; · iexists _; iexact HO
  isplitl [Hs Hrest]
  · iapply Hs $$ %((left t).map (·, x))
    iapply (rest_ok t x X hX); iexact Hrest
  isplitl [Hn Hc Hp]
  · iapply Hn $$ %Ph.flight
    iapply (show iprop(cred (tallyAt (sndCell t c) 0 N) ∗ atPos ER (sndCell t c) 0 ∅ 0) ⊢ sndR val c t .flight from .rfl)
    isplitl [Hc] <;> iassumption
  isplitl [Hr]; · iexact Hr
  isplitl [Hz]
  · iapply Hz $$ %false
    iapply (show (iprop(emp) : sProp 𝕄) ⊢ zoneR c t false from .rfl)
    iempintro
  iexact Hg

end Cert.KernelIdeal.Ring

end
-- ==== Proof.Ring.Val.lean ====
/-
# What the device computes

The chunk of its first operand and the partial sums it sends, as functions of the operands of all devices.
-/
module

public import proofs.«01_k».proof.Proof.Ring.Steps
public import proofs.«01_k».proof.Proof.Gen.KernelIdeal.Skeleton

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ

/-- The chunk of rows a device works on in each step: it walks back through the chunks from the one before its own place
    on the inner ring, and ends at its own. -/
def ch (h : Fin 4) (c : Dev nD) : Fin 4 := zv c + (3 - h)

theorem ch_inb (k j : Fin 4) : ∀ a, (![k.val, 0, 256 * j.val] : Fin 3 → Nat) a + S1x512x256.size a ≤ S4x512x1024.size a := by
  revert k j; decide

/-- Batch `k`, chunk `j` of the first operand, and the second operand as it is read. -/
def oc (O : Vec F S4x512x1024 .f32) (k j : Fin 4) : Vec F S1x512x256 .f32 :=
  fun i => O ((Rect.unit (s := S4x512x1024) ![k.val, 0, 256 * j.val] S1x512x256.size (ch_inb k j)).emb i)
def gl (G : Vec F S512x512 .f32) : Vec F S512x512 .f32 :=
  fun i => G ((Rect.unit (s := S512x512) ![0, 0] S512x512.size inb_S512x512_S512x512_0_0).emb i)

theorem oc_eq (O : Vec F S4x512x1024 .f32) (k j : Fin 4) {off : Fin 3 → Nat} {inb} (h : off = ![k.val, 0, 256 * j.val]) :
    (fun i => O ((Rect.unit (s := S4x512x1024) off S1x512x256.size inb).emb i)) = oc O k j := by subst h; rfl

/-- The addresses of the chunks the program reads, step by step. -/
theorem off_ch : ∀ c : Dev nD,
    (k0_off1 c 1#32 = ![0, 0, 256 * (ch 0 c).val] ∧ k0_off2 c 1#32 = ![1, 0, 256 * (ch 0 c).val]
      ∧ k0_off3 c 1#32 = ![2, 0, 256 * (ch 0 c).val] ∧ k0_off4 c 1#32 = ![3, 0, 256 * (ch 0 c).val])
    ∧ (k0_off1 c 2#32 = ![0, 0, 256 * (ch 1 c).val] ∧ k0_off2 c 2#32 = ![1, 0, 256 * (ch 1 c).val]
      ∧ k0_off3 c 2#32 = ![2, 0, 256 * (ch 1 c).val] ∧ k0_off4 c 2#32 = ![3, 0, 256 * (ch 1 c).val])
    ∧ (k0_off5 c = ![0, 0, 256 * (ch 2 c).val] ∧ k0_off6 c = ![1, 0, 256 * (ch 2 c).val]
      ∧ k0_off7 c = ![2, 0, 256 * (ch 2 c).val] ∧ k0_off8 c = ![3, 0, 256 * (ch 2 c).val])
    ∧ (k0_off9 c = ![0, 0, 256 * (ch 3 c).val] ∧ k0_off12 c = ![1, 0, 256 * (ch 3 c).val]
      ∧ k0_off15 c = ![2, 0, 256 * (ch 3 c).val] ∧ k0_off18 c = ![3, 0, 256 * (ch 3 c).val]) := by
  decide +kernel

section
variable (O : Dev nD → Vec F S4x512x1024 .f32) (G : Dev nD → Vec F S512x512 .f32)

/-- The partial sum of batch `k` after `h` hops: a device's own product, added to the sum that came from its left. -/
def pv (k : Fin 4) : ℕ → Dev nD → Vec F S1x1x256x512 .f32
  | 0, c => k0_pay1 (oc (O c) k (ch 0 c)) (gl (G c))
  | h + 1, c => k0_pay15 (oc (O c) k (ch (Fin.ofNat 4 (h + 1)) c)) (gl (G c)) (pv k h (zl c))

/-- What each transfer carries. -/
def val : Xf → Dev nD → Vec F S1x1x256x512 .f32
  | .p h k, c => pv O G k h.val c
  | .sr k, c => pv O G k 3 c
  | .sl k, c => pv O G k 3 c
  | .tr i, c => pv O G (lo i) 3 (ql c)
  | .tl i, c => pv O G (hi i) 3 (qr c)

end

end Cert.KernelIdeal.Ring

end
-- ==== Proof.Ring.Rules.lean ====
/-
# Two rules for reading the operands

What the loads of the two operands read, by the names of the values.
-/
module

public import proofs.«01_k».proof.Proof.Ring.Val

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ

section
variable {O : Dev nD → Vec F S4x512x1024 .f32} {G : Dev nD → Vec F S512x512 .f32} {Y : Vec F S4x256x2048 .f32} {c : Dev nD} {κ : GSem nD τ sig → ℕ}
variable {m0 : Memref sig .tc .vmem S4x512x1024 .f32} {m1 : Memref sig .tc .vmem S512x512 .f32} {m2 : Memref sig .tc .vmem S4x256x2048 .f32}
variable {vl : Xf → Dev nD → Vec F S1x1x256x512 .f32} {α : Type}

/-- A load of chunk `j` of batch `k` of the first operand. -/
theorem step_oc {σ : St} (k j : Fin 4) {off : Fin 3 → Nat} {inb} (h : off = ![k.val, 0, 256 * j.val])
    {hl : m0.view.LoadsAt (Rect.unit (s := S4x512x1024) off S1x512x256.size inb).toLoadRect}
    {K : Vec F S1x512x256 .f32 → Prog (TpuEff nD τ sig (Elt F) Λ₀ .tc) α} {Q : α → sProp 𝕄}
    (hk : M vl c κ (Ops c m0 m1 m2 (O c) (G c) Y) σ ⊢ W c (K (oc (O c) k j)) Q) :
    M vl c κ (Ops c m0 m1 m2 (O c) (G c) Y) σ ⊢ W c (.op (.load m0 (Rect.unit (s := S4x512x1024) off S1x512x256.size inb).toLoadRect hl) K) Q := by
  refine step_o ?_
  rw [← oc_eq (O c) k j (inb := inb) h] at hk
  exact hk

/-- A load of the second operand. -/
theorem step_gl {σ : St} {hl : m1.view.LoadsAt (Rect.unit (s := S512x512) ![0, 0] S512x512.size inb_S512x512_S512x512_0_0).toLoadRect}
    {K : Vec F S512x512 .f32 → Prog (TpuEff nD τ sig (Elt F) Λ₀ .tc) α} {Q : α → sProp 𝕄}
    (hk : M vl c κ (Ops c m0 m1 m2 (O c) (G c) Y) σ ⊢ W c (K (gl (G c))) Q) :
    M vl c κ (Ops c m0 m1 m2 (O c) (G c) Y) σ
      ⊢ W c (.op (.load m1 (Rect.unit (s := S512x512) ![0, 0] S512x512.size inb_S512x512_S512x512_0_0).toLoadRect hl) K) Q := step_w hk

/-- The slot the program addresses in the second scratch array by a number it computes. -/
theorem bk_eq {c : Dev nD} {r k : Fin 4} {off : Fin 4 → Nat} {inb} (h : off = ![(qv c + r).val, k.val, 0, 0]) :
    (Memref.whole cc0_scratch1).slice (Rect.unit (s := S4x4x256x512) off S1x1x256x512.size inb) (fun _ => rfl) = mem c (.bk r k) := by
  subst h; rfl

/-- The same, as a copy names it: on the device itself, and on the four devices blocks go to. -/
theorem bk_sq {c : Dev nD} {r k : Fin 4} {off : Fin 4 → Nat} {inb} (h : off = ![(qv c + r).val, k.val, 0, 0]) :
    ((Memref.whole cc0_scratch1).slice (Rect.unit (s := S4x4x256x512) off S1x1x256x512.size inb) (fun _ => rfl)).squeeze S1x256x512
      squeezes_S1x1x256x512_S1x256x512 = sq (mem c (.bk r k)) := congrArg sq (bk_eq h)
theorem sr_sq {c : Dev nD} {k : Fin 4} {off : Fin 4 → Nat} {inb} (h : off = ![(qv c + 0).val, k.val, 0, 0]) :
    ((Memref.whole cc0_scratch1).slice (Rect.unit (s := S4x4x256x512) off S1x1x256x512.size inb) (fun _ => rfl)).squeeze S1x256x512
      squeezes_S1x1x256x512_S1x256x512 = sq (mem (qr c) (.bk 3 k)) := bk_sq (h.trans (by rw [(qv_tgt c).1]))
theorem sl_sq {c : Dev nD} {k : Fin 4} {off : Fin 4 → Nat} {inb} (h : off = ![(qv c + 0).val, k.val, 0, 0]) :
    ((Memref.whole cc0_scratch1).slice (Rect.unit (s := S4x4x256x512) off S1x1x256x512.size inb) (fun _ => rfl)).squeeze S1x256x512
      squeezes_S1x1x256x512_S1x256x512 = sq (mem (ql c) (.bk 1 k)) := bk_sq (h.trans (by rw [(qv_tgt c).2.1]))
theorem tr_sq {c : Dev nD} {k : Fin 4} {off : Fin 4 → Nat} {inb} (h : off = ![(qv c + 3).val, k.val, 0, 0]) :
    ((Memref.whole cc0_scratch1).slice (Rect.unit (s := S4x4x256x512) off S1x1x256x512.size inb) (fun _ => rfl)).squeeze S1x256x512
      squeezes_S1x1x256x512_S1x256x512 = sq (mem (qr c) (.bk 2 k)) := bk_sq (h.trans (by rw [(qv_tgt c).2.2.1]))
theorem tl_sq {c : Dev nD} {k : Fin 4} {off : Fin 4 → Nat} {inb} (h : off = ![(qv c + 1).val, k.val, 0, 0]) :
    ((Memref.whole cc0_scratch1).slice (Rect.unit (s := S4x4x256x512) off S1x1x256x512.size inb) (fun _ => rfl)).squeeze S1x256x512
      squeezes_S1x1x256x512_S1x256x512 = sq (mem (ql c) (.bk 2 k)) := bk_sq (h.trans (by rw [(qv_tgt c).2.2.2]))

end

end Cert.KernelIdeal.Ring

end
-- ==== Proof.Ring.BodyA.lean ====
/-
# The program, parts 3 to 13

The first two hops of the inner ring.
-/
module

public import proofs.«01_k».proof.Proof.Ring.Rules

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ

/-- The state once the barrier is passed: the device has its own slots, and the go-ahead for every copy of the first hop
    and of the outer ring. -/
def s2 : St where
  slot | .cm 0 _ => some (.f, .unk) | .bk 0 _ => some (.f, .unk) | _ => none
  snd _ := .ready
  got _ := false
  zone t := early t
  made := 0
  taken := 0
  rem := Pay.all.drop 4
/-- The state after part 3 of the program. -/
def s3 : St := (s2.put (.cm 0 0) (.own (.p 0 0))).sent (.p 0 0) (.own (.p 0 0))
/-- The state after part 4 of the program. -/
def s4 : St := ((s3.put (.cm 0 1) (.own (.p 0 1))).sent (.p 0 1) (.own (.p 0 1))).put (.cm 0 2) (.own (.p 0 2))
/-- The state after part 5 of the program. -/
def s5 : St := (s4.sent (.p 0 2) (.own (.p 0 2))).put (.cm 0 3) (.own (.p 0 3))
/-- The state after part 6 of the program. -/
def s6 : St := (s5.sent (.p 0 3) (.own (.p 0 3))).recv (.p 0 0)
/-- The state after part 7 of the program. -/
def s7 : St := ((((s6.put (.cm 1 0) (.own (.p 1 0))).read (.p 0 0)).whole (.p 0 0)).give).take
/-- The state after part 8 of the program. -/
def s8 : St := (s7.sent (.p 1 0) (.own (.p 1 0))).recv (.p 0 1)
/-- The state after part 9 of the program. -/
def s9 : St := ((((s8.put (.cm 1 1) (.own (.p 1 1))).read (.p 0 1)).whole (.p 0 1)).give).take
/-- The state after part 10 of the program. -/
def s10 : St := (s9.sent (.p 1 1) (.own (.p 1 1))).recv (.p 0 2)
/-- The state after part 11 of the program. -/
def s11 : St := ((((s10.put (.cm 1 2) (.own (.p 1 2))).read (.p 0 2)).whole (.p 0 2)).give).take
/-- The state after part 12 of the program. -/
def s12 : St := (s11.sent (.p 1 2) (.own (.p 1 2))).recv (.p 0 3)
/-- The state after part 13 of the program. -/
def s13 : St := ((((s12.put (.cm 1 3) (.own (.p 1 3))).read (.p 0 3)).whole (.p 0 3)).give).take

section
variable {O : Dev nD → Vec F S4x512x1024 .f32} {G : Dev nD → Vec F S512x512 .f32} {c : Dev nD} {κ : GSem nD τ sig → ℕ}
variable {m0 : Memref sig .tc .vmem S4x512x1024 .f32} {h0 : m0.IsWhole} {m1 : Memref sig .tc .vmem S512x512 .f32} {h1 : m1.IsWhole}
variable {m2 : Memref sig .tc .vmem S4x256x2048 .f32} {h2 : m2.IsWhole} {Y : Vec F S4x256x2048 .f32}
variable {h3 : (Memref.whole cc0_scratch0 : Memref sig .tc .vmem S2x4x256x512 .f32).IsWhole}
variable {h4 : (Memref.whole cc0_scratch1 : Memref sig .tc .vmem S4x4x256x512 .f32).IsWhole}

set_option maxRecDepth 65536 in
/-- Hop 0, batch 0: the product is stored and sent. -/
theorem part3 {v2 v5 v13 v55 v61 : BitVec 32} {Q : (Σ' (v88 : FVec F S1x512x256 .f32) (v90 : FVec F S512x512 .f32), FVec F S1x256x512 .f32) → sProp 𝕄} (hk : M (val O G) c κ (Ops c m0 m1 m2 (O c) (G c) Y) s3 ⊢ W c (.ret ⟨k0_pay2 (oc (O c) 1 (ch 0 c)), k0_pay3 (gl (G c)), constant S1x256x512 .f32 0x00000000#32⟩) Q) :
    M (val O G) c κ (Ops c m0 m1 m2 (O c) (G c) Y) s2 ⊢ W c (k0_part3 m0 h0 m1 h1 m2 h2 (Memref.whole cc0_scratch0) h3 (Memref.whole cc0_scratch1) h4 cc0_scratch2 cc0_scratch3 cc0_scratch4 cc0_scratch5 cc0_scratch6
      cc0_scratch7 cc0_scratch8 cc0_scratch9 cc0_scratch10 cc0_scratch11 cc0_scratch12 c v2 v5 v13 v55 v61) Q := by
  simp only [k0_part3_eq_skeleton]
  unfold k0_part3_skel
  simp only [semSignalWord, semWaitWord, Prog.lift, Prog.bind_op, Prog.bind_ret, Prog.pure_eq_ret, Prog.bind_assoc]
  refine step_oc 0 (ch 0 c) (off_ch c).1.1 ?_
  refine step_gl ?_
  refine step_ld (.cm 0 0) rfl rfl fun _ _ => ?_
  refine step_st (.cm 0 0) (.own (.p 0 0)) rfl rfl rfl ?_
  refine step_send (.p 0 0) rfl rfl (by exact fun _ h => h) rfl rfl (dev_zr c).2.1 rfl rfl rfl rfl ?_
  refine step_oc 1 (ch 0 c) (off_ch c).1.2.1 ?_
  refine step_gl ?_
  exact hk

set_option maxRecDepth 65536 in
/-- Hop 0, batch 1 stored and sent, batch 2 stored. -/
theorem part4 {v2 v5 v13 v55 : BitVec 32} {Q : (PUnit) → sProp 𝕄} (hk : M (val O G) c κ (Ops c m0 m1 m2 (O c) (G c) Y) s4 ⊢ W c (.ret ⟨⟩) Q) :
    M (val O G) c κ (Ops c m0 m1 m2 (O c) (G c) Y) s3 ⊢ W c (k0_part4 m0 h0 m1 h1 m2 h2 (Memref.whole cc0_scratch0) h3 (Memref.whole cc0_scratch1) h4 cc0_scratch2 cc0_scratch3 cc0_scratch4 cc0_scratch5 cc0_scratch6
      cc0_scratch7 cc0_scratch8 cc0_scratch9 cc0_scratch10 cc0_scratch11 cc0_scratch12 c v2 v5 v13 v55 (k0_pay2 (oc (O c) 1 (ch 0 c))) (k0_pay3 (gl (G c))) (constant S1x256x512 .f32 0x00000000#32)) Q := by
  simp only [k0_part4_eq_skeleton]
  unfold k0_part4_skel
  simp only [semSignalWord, semWaitWord, Prog.lift, Prog.bind_op, Prog.bind_ret, Prog.pure_eq_ret, Prog.bind_assoc]
  refine step_ld (.cm 0 1) rfl rfl fun _ _ => ?_
  refine step_st (.cm 0 1) (.own (.p 0 1)) rfl rfl rfl ?_
  refine step_send (.p 0 1) rfl rfl (by exact fun _ h => h) rfl rfl (dev_zr c).2.2.1 rfl rfl rfl rfl ?_
  refine step_oc 2 (ch 0 c) (off_ch c).1.2.2.1 ?_
  refine step_gl ?_
  refine step_ld (.cm 0 2) rfl rfl fun _ _ => ?_
  refine step_st (.cm 0 2) (.own (.p 0 2)) rfl rfl rfl ?_
  exact hk

set_option maxRecDepth 65536 in
/-- Hop 0, batch 2 sent, batch 3 stored. -/
theorem part5 {v2 v5 v13 v55 : BitVec 32} {Q : (BitVec 32) → sProp 𝕄} (hk : ∀ w, M (val O G) c κ (Ops c m0 m1 m2 (O c) (G c) Y) s5 ⊢ W c (.ret w) Q) :
    M (val O G) c κ (Ops c m0 m1 m2 (O c) (G c) Y) s4 ⊢ W c (k0_part5 m0 h0 m1 h1 m2 h2 (Memref.whole cc0_scratch0) h3 (Memref.whole cc0_scratch1) h4 cc0_scratch2 cc0_scratch3 cc0_scratch4 cc0_scratch5 cc0_scratch6
      cc0_scratch7 cc0_scratch8 cc0_scratch9 cc0_scratch10 cc0_scratch11 cc0_scratch12 c v2 v5 v13 v55) Q := by
  simp only [k0_part5_eq_skeleton]
  unfold k0_part5_skel
  simp only [semSignalWord, semWaitWord, Prog.lift, Prog.bind_op, Prog.bind_ret, Prog.pure_eq_ret, Prog.bind_assoc]
  refine step_send (.p 0 2) rfl rfl (by exact fun _ h => h) rfl rfl (dev_zr c).2.2.2.1 rfl rfl rfl rfl ?_
  refine step_oc 3 (ch 0 c) (off_ch c).1.2.2.2 ?_
  refine step_gl ?_
  refine step_ld (.cm 0 3) rfl rfl fun _ _ => ?_
  refine step_st (.cm 0 3) (.own (.p 0 3)) rfl rfl rfl ?_
  exact hk _

set_option maxRecDepth 65536 in
/-- Hop 0, batch 3 sent; batch 0 of the left neighbour arrives. -/
theorem part6 {v2 v5 v13 v58 v146 : BitVec 32} {Q : (FVec F S1x256x512 .f32) → sProp 𝕄} (hk : M (val O G) c κ (Ops c m0 m1 m2 (O c) (G c) Y) s6 ⊢ W c (.ret (k0_pay7 (oc (O c) 0 (ch 1 c)) (gl (G c)))) Q) :
    M (val O G) c κ (Ops c m0 m1 m2 (O c) (G c) Y) s5 ⊢ W c (k0_part6 m0 h0 m1 h1 m2 h2 (Memref.whole cc0_scratch0) h3 (Memref.whole cc0_scratch1) h4 cc0_scratch2 cc0_scratch3 cc0_scratch4 cc0_scratch5 cc0_scratch6
      cc0_scratch7 cc0_scratch8 cc0_scratch9 cc0_scratch10 cc0_scratch11 cc0_scratch12 c v2 v5 v13 v58 v146) Q := by
  simp only [k0_part6_eq_skeleton]
  unfold k0_part6_skel
  simp only [semSignalWord, semWaitWord, Prog.lift, Prog.bind_op, Prog.bind_ret, Prog.pure_eq_ret, Prog.bind_assoc]
  refine step_send (.p 0 3) rfl rfl (by exact fun _ h => h) rfl rfl (dev_zr c).2.2.2.2.1 rfl rfl rfl rfl ?_
  refine step_oc 0 (ch 1 c) (off_ch c).2.1.1 ?_
  refine step_gl ?_
  refine step_recv (.p 0 0) rfl rfl rfl (by decide) (by rfl) ?_
  exact hk

set_option maxRecDepth 65536 in
/-- Hop 1, batch 0: the sum is stored, and the slot of hop 0 is handed back. -/
theorem part7 {v2 v5 v13 v16 : BitVec 32} {Q : (PUnit) → sProp 𝕄} (hk : M (val O G) c κ (Ops c m0 m1 m2 (O c) (G c) Y) s7 ⊢ W c (.ret ⟨⟩) Q) :
    M (val O G) c κ (Ops c m0 m1 m2 (O c) (G c) Y) s6 ⊢ W c (k0_part7 m0 h0 m1 h1 m2 h2 (Memref.whole cc0_scratch0) h3 (Memref.whole cc0_scratch1) h4 cc0_scratch2 cc0_scratch3 cc0_scratch4 cc0_scratch5 cc0_scratch6
      cc0_scratch7 cc0_scratch8 cc0_scratch9 cc0_scratch10 cc0_scratch11 cc0_scratch12 c v2 v5 v13 v16 (k0_pay7 (oc (O c) 0 (ch 1 c)) (gl (G c)))) Q := by
  simp only [k0_part7_eq_skeleton]
  unfold k0_part7_skel
  simp only [semSignalWord, semWaitWord, Prog.lift, Prog.bind_op, Prog.bind_ret, Prog.pure_eq_ret, Prog.bind_assoc]
  refine step_ld (.cm 1 0) rfl rfl fun X hX => ?_
  refine step_ld (.cm 1 0) rfl rfl fun _ _ => ?_
  refine step_st (.cm 1 0) (.own (.p 1 0)) rfl rfl (by subst hX; rfl) ?_
  refine step_read (.p 0 0) rfl rfl (by decide) (by rfl) ?_
  refine (step_whole 0 0 rfl).trans ?_
  refine step_give (by decide) rfl rfl (dev_zl c).2.1 rfl rfl ?_
  refine step_take (by decide) (by decide) rfl rfl ?_
  exact hk

set_option maxRecDepth 65536 in
/-- Hop 1, batch 0 sent; batch 1 arrives and is read. -/
theorem part8 {v2 v5 v13 v58 : BitVec 32} {Q : (Σ' (v214 : FVec F S1x256x512 .f32), Vec F S1x1x256x512 .f32) → sProp 𝕄} (hk : M (val O G) c κ (Ops c m0 m1 m2 (O c) (G c) Y) s8 ⊢ W c (.ret ⟨k0_pay9 (oc (O c) 1 (ch 1 c)) (gl (G c)), val O G (.p 0 1) (zl c)⟩) Q) :
    M (val O G) c κ (Ops c m0 m1 m2 (O c) (G c) Y) s7 ⊢ W c (k0_part8 m0 h0 m1 h1 m2 h2 (Memref.whole cc0_scratch0) h3 (Memref.whole cc0_scratch1) h4 cc0_scratch2 cc0_scratch3 cc0_scratch4 cc0_scratch5 cc0_scratch6
      cc0_scratch7 cc0_scratch8 cc0_scratch9 cc0_scratch10 cc0_scratch11 cc0_scratch12 c v2 v5 v13 v58) Q := by
  simp only [k0_part8_eq_skeleton]
  unfold k0_part8_skel
  simp only [semSignalWord, semWaitWord, Prog.lift, Prog.bind_op, Prog.bind_ret, Prog.pure_eq_ret, Prog.bind_assoc]
  refine step_send (.p 1 0) rfl rfl (by exact fun _ h => h) rfl rfl (dev_zr c).2.2.2.2.2.1 rfl rfl rfl rfl ?_
  refine step_oc 1 (ch 1 c) (off_ch c).2.1.2.1 ?_
  refine step_gl ?_
  refine step_recv (.p 0 1) rfl rfl rfl (by decide) (by rfl) ?_
  refine step_ld (.cm 1 1) rfl rfl fun X hX => ?_
  subst hX
  exact hk

set_option maxRecDepth 65536 in
/-- Hop 1, batch 1 stored. -/
theorem part9 {v2 v5 v13 v16 : BitVec 32} {Q : (PUnit) → sProp 𝕄} (hk : M (val O G) c κ (Ops c m0 m1 m2 (O c) (G c) Y) s9 ⊢ W c (.ret ⟨⟩) Q) :
    M (val O G) c κ (Ops c m0 m1 m2 (O c) (G c) Y) s8 ⊢ W c (k0_part9 m0 h0 m1 h1 m2 h2 (Memref.whole cc0_scratch0) h3 (Memref.whole cc0_scratch1) h4 cc0_scratch2 cc0_scratch3 cc0_scratch4 cc0_scratch5 cc0_scratch6
      cc0_scratch7 cc0_scratch8 cc0_scratch9 cc0_scratch10 cc0_scratch11 cc0_scratch12 c v2 v5 v13 v16 (k0_pay9 (oc (O c) 1 (ch 1 c)) (gl (G c))) (val O G (.p 0 1) (zl c))) Q := by
  simp only [k0_part9_eq_skeleton]
  unfold k0_part9_skel
  simp only [semSignalWord, semWaitWord, Prog.lift, Prog.bind_op, Prog.bind_ret, Prog.pure_eq_ret, Prog.bind_assoc]
  refine step_ld (.cm 1 1) rfl rfl fun _ _ => ?_
  refine step_st (.cm 1 1) (.own (.p 1 1)) rfl rfl rfl ?_
  refine step_read (.p 0 1) rfl rfl (by decide) (by rfl) ?_
  refine (step_whole 0 1 rfl).trans ?_
  refine step_give (by decide) rfl rfl (dev_zl c).2.2.1 rfl rfl ?_
  refine step_take (by decide) (by decide) rfl rfl ?_
  exact hk

set_option maxRecDepth 65536 in
/-- Hop 1, batch 1 sent; batch 2 arrives and is added. -/
theorem part10 {v2 v5 v13 v58 : BitVec 32} {Q : (FVec F S1x256x512 .f32) → sProp 𝕄} (hk : M (val O G) c κ (Ops c m0 m1 m2 (O c) (G c) Y) s10 ⊢ W c (.ret (k0_pay11 (oc (O c) 2 (ch 1 c)) (gl (G c)) (val O G (.p 0 2) (zl c)))) Q) :
    M (val O G) c κ (Ops c m0 m1 m2 (O c) (G c) Y) s9 ⊢ W c (k0_part10 m0 h0 m1 h1 m2 h2 (Memref.whole cc0_scratch0) h3 (Memref.whole cc0_scratch1) h4 cc0_scratch2 cc0_scratch3 cc0_scratch4 cc0_scratch5 cc0_scratch6
      cc0_scratch7 cc0_scratch8 cc0_scratch9 cc0_scratch10 cc0_scratch11 cc0_scratch12 c v2 v5 v13 v58) Q := by
  simp only [k0_part10_eq_skeleton]
  unfold k0_part10_skel
  simp only [semSignalWord, semWaitWord, Prog.lift, Prog.bind_op, Prog.bind_ret, Prog.pure_eq_ret, Prog.bind_assoc]
  refine step_send (.p 1 1) rfl rfl (by exact fun _ h => h) rfl rfl (dev_zr c).2.2.2.2.2.2.1 rfl rfl rfl rfl ?_
  refine step_oc 2 (ch 1 c) (off_ch c).2.1.2.2.1 ?_
  refine step_gl ?_
  refine step_recv (.p 0 2) rfl rfl rfl (by decide) (by rfl) ?_
  refine step_ld (.cm 1 2) rfl rfl fun X hX => ?_
  subst hX
  exact hk

set_option maxRecDepth 65536 in
/-- Hop 1, batch 2 stored. -/
theorem part11 {v2 v5 v13 v16 : BitVec 32} {Q : (PUnit) → sProp 𝕄} (hk : M (val O G) c κ (Ops c m0 m1 m2 (O c) (G c) Y) s11 ⊢ W c (.ret ⟨⟩) Q) :
    M (val O G) c κ (Ops c m0 m1 m2 (O c) (G c) Y) s10 ⊢ W c (k0_part11 m0 h0 m1 h1 m2 h2 (Memref.whole cc0_scratch0) h3 (Memref.whole cc0_scratch1) h4 cc0_scratch2 cc0_scratch3 cc0_scratch4 cc0_scratch5 cc0_scratch6
      cc0_scratch7 cc0_scratch8 cc0_scratch9 cc0_scratch10 cc0_scratch11 cc0_scratch12 c v2 v5 v13 v16 (k0_pay11 (oc (O c) 2 (ch 1 c)) (gl (G c)) (val O G (.p 0 2) (zl c)))) Q := by
  simp only [k0_part11_eq_skeleton]
  unfold k0_part11_skel
  simp only [semSignalWord, semWaitWord, Prog.lift, Prog.bind_op, Prog.bind_ret, Prog.pure_eq_ret, Prog.bind_assoc]
  refine step_ld (.cm 1 2) rfl rfl fun _ _ => ?_
  refine step_st (.cm 1 2) (.own (.p 1 2)) rfl rfl rfl ?_
  refine step_read (.p 0 2) rfl rfl (by decide) (by rfl) ?_
  refine (step_whole 0 2 rfl).trans ?_
  refine step_give (by decide) rfl rfl (dev_zl c).2.2.2.1 rfl rfl ?_
  refine step_take (by decide) (by decide) rfl rfl ?_
  exact hk

set_option maxRecDepth 65536 in
/-- Hop 1, batch 2 sent; batch 3 arrives and is added. -/
theorem part12 {v2 v5 v13 v58 : BitVec 32} {Q : (FVec F S1x256x512 .f32) → sProp 𝕄} (hk : M (val O G) c κ (Ops c m0 m1 m2 (O c) (G c) Y) s12 ⊢ W c (.ret (k0_pay13 (oc (O c) 3 (ch 1 c)) (gl (G c)) (val O G (.p 0 3) (zl c)))) Q) :
    M (val O G) c κ (Ops c m0 m1 m2 (O c) (G c) Y) s11 ⊢ W c (k0_part12 m0 h0 m1 h1 m2 h2 (Memref.whole cc0_scratch0) h3 (Memref.whole cc0_scratch1) h4 cc0_scratch2 cc0_scratch3 cc0_scratch4 cc0_scratch5 cc0_scratch6
      cc0_scratch7 cc0_scratch8 cc0_scratch9 cc0_scratch10 cc0_scratch11 cc0_scratch12 c v2 v5 v13 v58) Q := by
  simp only [k0_part12_eq_skeleton]
  unfold k0_part12_skel
  simp only [semSignalWord, semWaitWord, Prog.lift, Prog.bind_op, Prog.bind_ret, Prog.pure_eq_ret, Prog.bind_assoc]
  refine step_send (.p 1 2) rfl rfl (by exact fun _ h => h) rfl rfl (dev_zr c).2.2.2.2.2.2.2.1 rfl rfl rfl rfl ?_
  refine step_oc 3 (ch 1 c) (off_ch c).2.1.2.2.2 ?_
  refine step_gl ?_
  refine step_recv (.p 0 3) rfl rfl rfl (by decide) (by rfl) ?_
  refine step_ld (.cm 1 3) rfl rfl fun X hX => ?_
  subst hX
  exact hk

set_option maxRecDepth 65536 in
/-- Hop 1, batch 3 stored. -/
theorem part13 {v2 v5 v13 v16 : BitVec 32} {Q : (PUnit) → sProp 𝕄} (hk : M (val O G) c κ (Ops c m0 m1 m2 (O c) (G c) Y) s13 ⊢ W c (.ret ⟨⟩) Q) :
    M (val O G) c κ (Ops c m0 m1 m2 (O c) (G c) Y) s12 ⊢ W c (k0_part13 m0 h0 m1 h1 m2 h2 (Memref.whole cc0_scratch0) h3 (Memref.whole cc0_scratch1) h4 cc0_scratch2 cc0_scratch3 cc0_scratch4 cc0_scratch5 cc0_scratch6
      cc0_scratch7 cc0_scratch8 cc0_scratch9 cc0_scratch10 cc0_scratch11 cc0_scratch12 c v2 v5 v13 v16 (k0_pay13 (oc (O c) 3 (ch 1 c)) (gl (G c)) (val O G (.p 0 3) (zl c)))) Q := by
  simp only [k0_part13_eq_skeleton]
  unfold k0_part13_skel
  simp only [semSignalWord, semWaitWord, Prog.lift, Prog.bind_op, Prog.bind_ret, Prog.pure_eq_ret, Prog.bind_assoc]
  refine step_ld (.cm 1 3) rfl rfl fun _ _ => ?_
  refine step_st (.cm 1 3) (.own (.p 1 3)) rfl rfl rfl ?_
  refine step_read (.p 0 3) rfl rfl (by decide) (by rfl) ?_
  refine (step_whole 0 3 rfl).trans ?_
  refine step_give (by decide) rfl rfl (dev_zl c).2.2.2.2.1 rfl rfl ?_
  refine step_take (by decide) (by decide) rfl rfl ?_
  exact hk

end

end Cert.KernelIdeal.Ring

end
-- ==== Proof.Ring.BodyB.lean ====
/-
# The program, parts 14 to 21

The third hop of the inner ring.
-/
module

public import proofs.«01_k».proof.Proof.Ring.BodyA

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ

/-- The state after part 14 of the program. -/
def s14 : St := (s13.sent (.p 1 3) (.own (.p 1 3))).recv (.p 1 0)
/-- The state after part 15 of the program. -/
def s15 : St := ((((s14.put (.cm 0 0) (.own (.p 2 0))).read (.p 1 0)).whole (.p 1 0)).give).take
/-- The state after part 16 of the program. -/
def s16 : St := ((s15.sent (.p 2 0) (.own (.p 2 0))).recv (.p 1 1)).put (.cm 0 1) (.own (.p 2 1))
/-- The state after part 17 of the program. -/
def s17 : St := ((((s16.read (.p 1 1)).whole (.p 1 1)).give).take).sent (.p 2 1) (.own (.p 2 1))
/-- The state after part 18 of the program. -/
def s18 : St := (s17.recv (.p 1 2)).put (.cm 0 2) (.own (.p 2 2))
/-- The state after part 19 of the program. -/
def s19 : St := ((((s18.read (.p 1 2)).whole (.p 1 2)).give).take).sent (.p 2 2) (.own (.p 2 2))
/-- The state after part 20 of the program. -/
def s20 : St := (s19.recv (.p 1 3)).put (.cm 0 3) (.own (.p 2 3))
/-- The state after part 21 of the program. -/
def s21 : St := ((((s20.read (.p 1 3)).whole (.p 1 3)).give).take).sent (.p 2 3) (.own (.p 2 3))

section
variable {O : Dev nD → Vec F S4x512x1024 .f32} {G : Dev nD → Vec F S512x512 .f32} {c : Dev nD} {κ : GSem nD τ sig → ℕ}
variable {m0 : Memref sig .tc .vmem S4x512x1024 .f32} {h0 : m0.IsWhole} {m1 : Memref sig .tc .vmem S512x512 .f32} {h1 : m1.IsWhole}
variable {m2 : Memref sig .tc .vmem S4x256x2048 .f32} {h2 : m2.IsWhole} {Y : Vec F S4x256x2048 .f32}
variable {h3 : (Memref.whole cc0_scratch0 : Memref sig .tc .vmem S2x4x256x512 .f32).IsWhole}
variable {h4 : (Memref.whole cc0_scratch1 : Memref sig .tc .vmem S4x4x256x512 .f32).IsWhole}

set_option maxRecDepth 65536 in
/-- Hop 1, batch 3 sent; hop 2, batch 0 arrives and is added. -/
theorem part14 {v2 v5 v13 v60 : BitVec 32} {Q : (FVec F S1x1x256x512 .f32) → sProp 𝕄} (hk : M (val O G) c κ (Ops c m0 m1 m2 (O c) (G c) Y) s14 ⊢ W c (.ret (val O G (.p 2 0) c)) Q) :
    M (val O G) c κ (Ops c m0 m1 m2 (O c) (G c) Y) s13 ⊢ W c (k0_part14 m0 h0 m1 h1 m2 h2 (Memref.whole cc0_scratch0) h3 (Memref.whole cc0_scratch1) h4 cc0_scratch2 cc0_scratch3 cc0_scratch4 cc0_scratch5 cc0_scratch6
      cc0_scratch7 cc0_scratch8 cc0_scratch9 cc0_scratch10 cc0_scratch11 cc0_scratch12 c v2 v5 v13 v60) Q := by
  simp only [k0_part14_eq_skeleton]
  unfold k0_part14_skel
  simp only [semSignalWord, semWaitWord, Prog.lift, Prog.bind_op, Prog.bind_ret, Prog.pure_eq_ret, Prog.bind_assoc]
  refine step_send (.p 1 3) rfl rfl (by exact fun _ h => h) rfl rfl (dev_zr c).2.2.2.2.2.2.2.2.1 rfl rfl rfl rfl ?_
  refine step_oc 0 (ch 2 c) (off_ch c).2.2.1.1 ?_
  refine step_gl ?_
  refine step_recv (.p 1 0) rfl rfl rfl (by decide) (by rfl) ?_
  refine step_ld (.cm 0 0) rfl rfl fun X hX => ?_
  refine step_ld (.cm 0 0) rfl rfl fun _ _ => ?_
  subst hX
  exact hk

set_option maxRecDepth 65536 in
/-- Hop 2, batch 0 stored. -/
theorem part15 {v2 v5 v13 v16 : BitVec 32} {Q : (PUnit) → sProp 𝕄} (hk : M (val O G) c κ (Ops c m0 m1 m2 (O c) (G c) Y) s15 ⊢ W c (.ret ⟨⟩) Q) :
    M (val O G) c κ (Ops c m0 m1 m2 (O c) (G c) Y) s14 ⊢ W c (k0_part15 m0 h0 m1 h1 m2 h2 (Memref.whole cc0_scratch0) h3 (Memref.whole cc0_scratch1) h4 cc0_scratch2 cc0_scratch3 cc0_scratch4 cc0_scratch5 cc0_scratch6
      cc0_scratch7 cc0_scratch8 cc0_scratch9 cc0_scratch10 cc0_scratch11 cc0_scratch12 c v2 v5 v13 v16 (val O G (.p 2 0) c)) Q := by
  simp only [k0_part15_eq_skeleton]
  unfold k0_part15_skel
  simp only [semSignalWord, semWaitWord, Prog.lift, Prog.bind_op, Prog.bind_ret, Prog.pure_eq_ret, Prog.bind_assoc]
  refine step_st (.cm 0 0) (.own (.p 2 0)) rfl rfl rfl ?_
  refine step_read (.p 1 0) rfl rfl (by decide) (by rfl) ?_
  refine (step_whole 1 0 rfl).trans ?_
  refine step_give (by decide) rfl rfl (dev_zl c).2.2.2.2.2.1 rfl rfl ?_
  refine step_take (by decide) (by decide) rfl rfl ?_
  exact hk

set_option maxRecDepth 65536 in
/-- Hop 2, batch 0 sent; batch 1 arrives and its sum is stored. -/
theorem part16 {v2 v5 v13 v60 : BitVec 32} {Q : (PUnit) → sProp 𝕄} (hk : M (val O G) c κ (Ops c m0 m1 m2 (O c) (G c) Y) s16 ⊢ W c (.ret ⟨⟩) Q) :
    M (val O G) c κ (Ops c m0 m1 m2 (O c) (G c) Y) s15 ⊢ W c (k0_part16 m0 h0 m1 h1 m2 h2 (Memref.whole cc0_scratch0) h3 (Memref.whole cc0_scratch1) h4 cc0_scratch2 cc0_scratch3 cc0_scratch4 cc0_scratch5 cc0_scratch6
      cc0_scratch7 cc0_scratch8 cc0_scratch9 cc0_scratch10 cc0_scratch11 cc0_scratch12 c v2 v5 v13 v60) Q := by
  simp only [k0_part16_eq_skeleton]
  unfold k0_part16_skel
  simp only [semSignalWord, semWaitWord, Prog.lift, Prog.bind_op, Prog.bind_ret, Prog.pure_eq_ret, Prog.bind_assoc]
  refine step_send (.p 2 0) rfl rfl (by exact fun _ h => h) rfl rfl (dev_zr c).2.2.2.2.2.2.2.2.2.1 rfl rfl rfl rfl ?_
  refine step_oc 1 (ch 2 c) (off_ch c).2.2.1.2.1 ?_
  refine step_gl ?_
  refine step_recv (.p 1 1) rfl rfl rfl (by decide) (by rfl) ?_
  refine step_ld (.cm 0 1) rfl rfl fun X hX => ?_
  refine step_ld (.cm 0 1) rfl rfl fun _ _ => ?_
  refine step_st (.cm 0 1) (.own (.p 2 1)) rfl rfl (by subst hX; rfl) ?_
  exact hk

set_option maxRecDepth 65536 in
/-- Hop 2, batch 1 sent. -/
theorem part17 {v2 v5 v13 v16 : BitVec 32} {Q : (PUnit) → sProp 𝕄} (hk : M (val O G) c κ (Ops c m0 m1 m2 (O c) (G c) Y) s17 ⊢ W c (.ret ⟨⟩) Q) :
    M (val O G) c κ (Ops c m0 m1 m2 (O c) (G c) Y) s16 ⊢ W c (k0_part17 m0 h0 m1 h1 m2 h2 (Memref.whole cc0_scratch0) h3 (Memref.whole cc0_scratch1) h4 cc0_scratch2 cc0_scratch3 cc0_scratch4 cc0_scratch5 cc0_scratch6
      cc0_scratch7 cc0_scratch8 cc0_scratch9 cc0_scratch10 cc0_scratch11 cc0_scratch12 c v2 v5 v13 v16) Q := by
  simp only [k0_part17_eq_skeleton]
  unfold k0_part17_skel
  simp only [semSignalWord, semWaitWord, Prog.lift, Prog.bind_op, Prog.bind_ret, Prog.pure_eq_ret, Prog.bind_assoc]
  refine step_read (.p 1 1) rfl rfl (by decide) (by rfl) ?_
  refine (step_whole 1 1 rfl).trans ?_
  refine step_give (by decide) rfl rfl (dev_zl c).2.2.2.2.2.2.1 rfl rfl ?_
  refine step_take (by decide) (by decide) rfl rfl ?_
  refine step_send (.p 2 1) rfl rfl (by exact fun _ h => h) rfl rfl (dev_zr c).2.2.2.2.2.2.2.2.2.2.1 rfl rfl rfl rfl ?_
  exact hk

set_option maxRecDepth 65536 in
/-- Hop 2, batch 2 arrives and its sum is stored. -/
theorem part18 {v2 v5 v13 v60 : BitVec 32} {Q : (PUnit) → sProp 𝕄} (hk : M (val O G) c κ (Ops c m0 m1 m2 (O c) (G c) Y) s18 ⊢ W c (.ret ⟨⟩) Q) :
    M (val O G) c κ (Ops c m0 m1 m2 (O c) (G c) Y) s17 ⊢ W c (k0_part18 m0 h0 m1 h1 m2 h2 (Memref.whole cc0_scratch0) h3 (Memref.whole cc0_scratch1) h4 cc0_scratch2 cc0_scratch3 cc0_scratch4 cc0_scratch5 cc0_scratch6
      cc0_scratch7 cc0_scratch8 cc0_scratch9 cc0_scratch10 cc0_scratch11 cc0_scratch12 c v2 v5 v13 v60) Q := by
  simp only [k0_part18_eq_skeleton]
  unfold k0_part18_skel
  simp only [semSignalWord, semWaitWord, Prog.lift, Prog.bind_op, Prog.bind_ret, Prog.pure_eq_ret, Prog.bind_assoc]
  refine step_oc 2 (ch 2 c) (off_ch c).2.2.1.2.2.1 ?_
  refine step_gl ?_
  refine step_recv (.p 1 2) rfl rfl rfl (by decide) (by rfl) ?_
  refine step_ld (.cm 0 2) rfl rfl fun X hX => ?_
  refine step_ld (.cm 0 2) rfl rfl fun _ _ => ?_
  refine step_st (.cm 0 2) (.own (.p 2 2)) rfl rfl (by subst hX; rfl) ?_
  exact hk

set_option maxRecDepth 65536 in
/-- Hop 2, batch 2 sent. -/
theorem part19 {v2 v5 v13 v16 v60 : BitVec 32} {Q : (BitVec 32) → sProp 𝕄} (hk : ∀ w, M (val O G) c κ (Ops c m0 m1 m2 (O c) (G c) Y) s19 ⊢ W c (.ret w) Q) :
    M (val O G) c κ (Ops c m0 m1 m2 (O c) (G c) Y) s18 ⊢ W c (k0_part19 m0 h0 m1 h1 m2 h2 (Memref.whole cc0_scratch0) h3 (Memref.whole cc0_scratch1) h4 cc0_scratch2 cc0_scratch3 cc0_scratch4 cc0_scratch5 cc0_scratch6
      cc0_scratch7 cc0_scratch8 cc0_scratch9 cc0_scratch10 cc0_scratch11 cc0_scratch12 c v2 v5 v13 v16 v60) Q := by
  simp only [k0_part19_eq_skeleton]
  unfold k0_part19_skel
  simp only [semSignalWord, semWaitWord, Prog.lift, Prog.bind_op, Prog.bind_ret, Prog.pure_eq_ret, Prog.bind_assoc]
  refine step_read (.p 1 2) rfl rfl (by decide) (by rfl) ?_
  refine (step_whole 1 2 rfl).trans ?_
  refine step_give (by decide) rfl rfl (dev_zl c).2.2.2.2.2.2.2.1 rfl rfl ?_
  refine step_take (by decide) (by decide) rfl rfl ?_
  refine step_send (.p 2 2) rfl rfl (by exact fun _ h => h) rfl rfl (dev_zr c).2.2.2.2.2.2.2.2.2.2.2.1 rfl rfl rfl rfl ?_
  exact hk _

set_option maxRecDepth 65536 in
/-- Hop 2, batch 3 arrives and its sum is stored. -/
theorem part20 {v2 v5 v13 v514 : BitVec 32} {Q : (PUnit) → sProp 𝕄} (hk : M (val O G) c κ (Ops c m0 m1 m2 (O c) (G c) Y) s20 ⊢ W c (.ret ⟨⟩) Q) :
    M (val O G) c κ (Ops c m0 m1 m2 (O c) (G c) Y) s19 ⊢ W c (k0_part20 m0 h0 m1 h1 m2 h2 (Memref.whole cc0_scratch0) h3 (Memref.whole cc0_scratch1) h4 cc0_scratch2 cc0_scratch3 cc0_scratch4 cc0_scratch5 cc0_scratch6
      cc0_scratch7 cc0_scratch8 cc0_scratch9 cc0_scratch10 cc0_scratch11 cc0_scratch12 c v2 v5 v13 v514) Q := by
  simp only [k0_part20_eq_skeleton]
  unfold k0_part20_skel
  simp only [semSignalWord, semWaitWord, Prog.lift, Prog.bind_op, Prog.bind_ret, Prog.pure_eq_ret, Prog.bind_assoc]
  refine step_oc 3 (ch 2 c) (off_ch c).2.2.1.2.2.2 ?_
  refine step_gl ?_
  refine step_recv (.p 1 3) rfl rfl rfl (by decide) (by rfl) ?_
  refine step_ld (.cm 0 3) rfl rfl fun X hX => ?_
  refine step_ld (.cm 0 3) rfl rfl fun _ _ => ?_
  refine step_st (.cm 0 3) (.own (.p 2 3)) rfl rfl (by subst hX; rfl) ?_
  exact hk

set_option maxRecDepth 65536 in
/-- Hop 2, batch 3 sent. -/
theorem part21 {v2 v5 v11 v13 v16 : BitVec 32} {Q : (PUnit) → sProp 𝕄} (hk : M (val O G) c κ (Ops c m0 m1 m2 (O c) (G c) Y) s21 ⊢ W c (.ret ⟨⟩) Q) :
    M (val O G) c κ (Ops c m0 m1 m2 (O c) (G c) Y) s20 ⊢ W c (k0_part21 m0 h0 m1 h1 m2 h2 (Memref.whole cc0_scratch0) h3 (Memref.whole cc0_scratch1) h4 cc0_scratch2 cc0_scratch3 cc0_scratch4 cc0_scratch5 cc0_scratch6
      cc0_scratch7 cc0_scratch8 cc0_scratch9 cc0_scratch10 cc0_scratch11 cc0_scratch12 c v2 v5 v11 v13 v16) Q := by
  simp only [k0_part21_eq_skeleton]
  unfold k0_part21_skel
  simp only [semSignalWord, semWaitWord, Prog.lift, Prog.bind_op, Prog.bind_ret, Prog.pure_eq_ret, Prog.bind_assoc]
  refine step_read (.p 1 3) rfl rfl (by decide) (by rfl) ?_
  refine (step_whole 1 3 rfl).trans ?_
  refine step_give (by decide) rfl rfl (dev_zl c).2.2.2.2.2.2.2.2 rfl rfl ?_
  refine step_take (by decide) (by decide) rfl rfl ?_
  refine step_send (.p 2 3) rfl rfl (by exact fun _ h => h) rfl rfl (dev_zr c).2.2.2.2.2.2.2.2.2.2.2.2 rfl rfl rfl rfl ?_
  exact hk

end

end Cert.KernelIdeal.Ring

end
-- ==== Proof.Ring.BodyC.lean ====
/-
# The program, parts 22 to 35

The last sums, and the two ways around the outer ring.
-/
module

public import proofs.«01_k».proof.Proof.Ring.BodyB

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ

/-- The state after part 22 of the program. -/
def s22 : St := (s21.recv (.p 2 0)).put (.bk 0 0) (.own (.sr 0))
/-- The state after part 23 of the program. -/
def s23 : St := (s22.sent (.sr 0) (.own (.sr 0))).sent (.sl 0) (.own (.sr 0))
/-- The state after part 24 of the program. -/
def s24 : St := (s23.recv (.p 2 1)).put (.bk 0 1) (.own (.sr 1))
/-- The state after part 25 of the program. -/
def s25 : St := (s24.sent (.sr 1) (.own (.sr 1))).sent (.sl 1) (.own (.sr 1))
/-- The state after part 26 of the program. -/
def s26 : St := (s25.recv (.p 2 2)).put (.bk 0 2) (.own (.sr 2))
/-- The state after part 27 of the program. -/
def s27 : St := (s26.sent (.sr 2) (.own (.sr 2))).sent (.sl 2) (.own (.sr 2))
/-- The state after part 28 of the program. -/
def s28 : St := ((s27.recv (.p 2 3)).put (.bk 0 3) (.own (.sr 3))).sent (.sr 3) (.own (.sr 3))
/-- The state after part 29 of the program. -/
def s29 : St := (s28.sent (.sl 3) (.own (.sr 3))).recv (.sr 0)
/-- The state after part 30 of the program. -/
def s30 : St := (s29.sent (.tr 0) (.got (.sr 0))).recv (.sr 1)
/-- The state after part 31 of the program. -/
def s31 : St := ((s30.sent (.tr 1) (.got (.sr 1))).recv (.sl 2)).sent (.tl 0) (.got (.sl 2))
/-- The state after part 32 of the program. -/
def s32 : St := (s31.recv (.sl 3)).sent (.tl 1) (.got (.sl 3))
/-- The state after part 33 of the program. -/
def s33 : St := (s32.recv (.sr 2)).recv (.sr 3)
/-- The state after part 34 of the program. -/
def s34 : St := ((s33.recv (.sl 0)).recv (.sl 1)).recv (.tr 0)
/-- The state after part 35 of the program. -/
def s35 : St := (s34.recv (.tl 0)).recv (.tr 1)

section
variable {O : Dev nD → Vec F S4x512x1024 .f32} {G : Dev nD → Vec F S512x512 .f32} {c : Dev nD} {κ : GSem nD τ sig → ℕ}
variable {m0 : Memref sig .tc .vmem S4x512x1024 .f32} {h0 : m0.IsWhole} {m1 : Memref sig .tc .vmem S512x512 .f32} {h1 : m1.IsWhole}
variable {m2 : Memref sig .tc .vmem S4x256x2048 .f32} {h2 : m2.IsWhole} {Y : Vec F S4x256x2048 .f32}
variable {h3 : (Memref.whole cc0_scratch0 : Memref sig .tc .vmem S2x4x256x512 .f32).IsWhole}
variable {h4 : (Memref.whole cc0_scratch1 : Memref sig .tc .vmem S4x4x256x512 .f32).IsWhole}

set_option maxRecDepth 65536 in
/-- The last sum of batch 0 is stored in the own block. -/
theorem part22 {v2 v5 v8 v11 v13 : BitVec 32} {Q : (PUnit) → sProp 𝕄} (hk : M (val O G) c κ (Ops c m0 m1 m2 (O c) (G c) Y) s22 ⊢ W c (.ret ⟨⟩) Q) :
    M (val O G) c κ (Ops c m0 m1 m2 (O c) (G c) Y) s21 ⊢ W c (k0_part22 m0 h0 m1 h1 m2 h2 (Memref.whole cc0_scratch0) h3 (Memref.whole cc0_scratch1) h4 cc0_scratch2 cc0_scratch3 cc0_scratch4 cc0_scratch5 cc0_scratch6
      cc0_scratch7 cc0_scratch8 cc0_scratch9 cc0_scratch10 cc0_scratch11 cc0_scratch12 c v2 v5 v8 v11 v13) Q := by
  simp only [k0_part22_eq_skeleton]
  unfold k0_part22_skel
  simp only [semSignalWord, semWaitWord, Prog.lift, Prog.bind_op, Prog.bind_ret, Prog.pure_eq_ret, Prog.bind_assoc]
  refine step_oc 0 (ch 3 c) (off_ch c).2.2.2.1 ?_
  refine step_gl ?_
  refine step_recv (.p 2 0) rfl rfl rfl (by decide) (by rfl) ?_
  refine step_ld (.cm 1 0) rfl rfl fun X hX => ?_
  refine step_ld (.bk 0 0) rfl (bk_eq (off_own c).1) fun _ _ => ?_
  refine step_st (.bk 0 0) (.own (.sr 0)) rfl (bk_eq (off_own c).1) (by subst hX; rfl) ?_
  exact hk

set_option maxRecDepth 65536 in
/-- Batch 0 goes both ways around the outer ring. -/
theorem part23 {v8 v19 v21 v25 v27 : BitVec 32} {Q : (FVec F S1x512x256 .f32) → sProp 𝕄} (hk : M (val O G) c κ (Ops c m0 m1 m2 (O c) (G c) Y) s23 ⊢ W c (.ret (k0_pay20 (oc (O c) 1 (ch 3 c)))) Q) :
    M (val O G) c κ (Ops c m0 m1 m2 (O c) (G c) Y) s22 ⊢ W c (k0_part23 m0 h0 m1 h1 m2 h2 (Memref.whole cc0_scratch0) h3 (Memref.whole cc0_scratch1) h4 cc0_scratch2 cc0_scratch3 cc0_scratch4 cc0_scratch5 cc0_scratch6
      cc0_scratch7 cc0_scratch8 cc0_scratch9 cc0_scratch10 cc0_scratch11 cc0_scratch12 c v8 v19 v21 v25 v27) Q := by
  simp only [k0_part23_eq_skeleton]
  unfold k0_part23_skel
  simp only [semSignalWord, semWaitWord, Prog.lift, Prog.bind_op, Prog.bind_ret, Prog.pure_eq_ret, Prog.bind_assoc]
  refine step_send (.sr 0) rfl rfl (by exact fun _ h => h) rfl rfl (dev_qr c).2.1 (bk_sq (off_own c).2.1) (sr_sq (off_own c).2.1) rfl rfl ?_
  refine step_send (.sl 0) rfl rfl (by exact fun _ h => h) rfl rfl (dev_ql c).2.1 (bk_sq (off_own c).2.1) (sl_sq (off_own c).2.1) rfl rfl ?_
  refine step_oc 1 (ch 3 c) (off_ch c).2.2.2.2.1 ?_
  exact hk

set_option maxRecDepth 65536 in
/-- The last sum of batch 1 is stored in the own block. -/
theorem part24 {v2 v5 v8 v11 v13 v19 v21 : BitVec 32} {Q : (PUnit) → sProp 𝕄} (hk : M (val O G) c κ (Ops c m0 m1 m2 (O c) (G c) Y) s24 ⊢ W c (.ret ⟨⟩) Q) :
    M (val O G) c κ (Ops c m0 m1 m2 (O c) (G c) Y) s23 ⊢ W c (k0_part24 m0 h0 m1 h1 m2 h2 (Memref.whole cc0_scratch0) h3 (Memref.whole cc0_scratch1) h4 cc0_scratch2 cc0_scratch3 cc0_scratch4 cc0_scratch5 cc0_scratch6
      cc0_scratch7 cc0_scratch8 cc0_scratch9 cc0_scratch10 cc0_scratch11 cc0_scratch12 c v2 v5 v8 v11 v13 v19 v21 (k0_pay20 (oc (O c) 1 (ch 3 c)))) Q := by
  simp only [k0_part24_eq_skeleton]
  unfold k0_part24_skel
  simp only [semSignalWord, semWaitWord, Prog.lift, Prog.bind_op, Prog.bind_ret, Prog.pure_eq_ret, Prog.bind_assoc]
  refine step_gl ?_
  refine step_recv (.p 2 1) rfl rfl rfl (by decide) (by rfl) ?_
  refine step_ld (.cm 1 1) rfl rfl fun X hX => ?_
  refine step_ld (.bk 0 1) rfl (bk_eq (off_own c).2.2.1) fun _ _ => ?_
  refine step_st (.bk 0 1) (.own (.sr 1)) rfl (bk_eq (off_own c).2.2.1) (by subst hX; rfl) ?_
  exact hk

set_option maxRecDepth 65536 in
/-- Batch 1 goes both ways. -/
theorem part25 {v8 v25 v27 : BitVec 32} {Q : (Σ' (v684 : FVec F S1x256x512 .f32), BitVec 32) → sProp 𝕄} (hk : M (val O G) c κ (Ops c m0 m1 m2 (O c) (G c) Y) s25 ⊢ W c (.ret ⟨k0_pay22 (oc (O c) 2 (ch 3 c)) (gl (G c)), 8#32⟩) Q) :
    M (val O G) c κ (Ops c m0 m1 m2 (O c) (G c) Y) s24 ⊢ W c (k0_part25 m0 h0 m1 h1 m2 h2 (Memref.whole cc0_scratch0) h3 (Memref.whole cc0_scratch1) h4 cc0_scratch2 cc0_scratch3 cc0_scratch4 cc0_scratch5 cc0_scratch6
      cc0_scratch7 cc0_scratch8 cc0_scratch9 cc0_scratch10 cc0_scratch11 cc0_scratch12 c v8 v25 v27) Q := by
  simp only [k0_part25_eq_skeleton]
  unfold k0_part25_skel
  simp only [semSignalWord, semWaitWord, Prog.lift, Prog.bind_op, Prog.bind_ret, Prog.pure_eq_ret, Prog.bind_assoc]
  refine step_send (.sr 1) rfl rfl (by exact fun _ h => h) rfl rfl (dev_qr c).2.2.1 (bk_sq (off_own c).2.2.2.1) (sr_sq (off_own c).2.2.2.1) rfl rfl ?_
  refine step_send (.sl 1) rfl rfl (by exact fun _ h => h) rfl rfl (dev_ql c).2.2.1 (bk_sq (off_own c).2.2.2.1) (sl_sq (off_own c).2.2.2.1) rfl rfl ?_
  refine step_oc 2 (ch 3 c) (off_ch c).2.2.2.2.2.1 ?_
  refine step_gl ?_
  exact hk

set_option maxRecDepth 65536 in
/-- The last sum of batch 2 is stored in the own block. -/
theorem part26 {v2 v5 v8 v11 v13 v19 v21 c8_i32_725 : BitVec 32} {Q : (PUnit) → sProp 𝕄} (hk : M (val O G) c κ (Ops c m0 m1 m2 (O c) (G c) Y) s26 ⊢ W c (.ret ⟨⟩) Q) :
    M (val O G) c κ (Ops c m0 m1 m2 (O c) (G c) Y) s25 ⊢ W c (k0_part26 m0 h0 m1 h1 m2 h2 (Memref.whole cc0_scratch0) h3 (Memref.whole cc0_scratch1) h4 cc0_scratch2 cc0_scratch3 cc0_scratch4 cc0_scratch5 cc0_scratch6
      cc0_scratch7 cc0_scratch8 cc0_scratch9 cc0_scratch10 cc0_scratch11 cc0_scratch12 c v2 v5 v8 v11 v13 v19 v21 (k0_pay22 (oc (O c) 2 (ch 3 c)) (gl (G c))) c8_i32_725) Q := by
  simp only [k0_part26_eq_skeleton]
  unfold k0_part26_skel
  simp only [semSignalWord, semWaitWord, Prog.lift, Prog.bind_op, Prog.bind_ret, Prog.pure_eq_ret, Prog.bind_assoc]
  refine step_recv (.p 2 2) rfl rfl rfl (by decide) (by rfl) ?_
  refine step_ld (.cm 1 2) rfl rfl fun X hX => ?_
  refine step_ld (.bk 0 2) rfl (bk_eq (off_own c).2.2.2.2.1) fun _ _ => ?_
  refine step_st (.bk 0 2) (.own (.sr 2)) rfl (bk_eq (off_own c).2.2.2.2.1) (by subst hX; rfl) ?_
  exact hk

set_option maxRecDepth 65536 in
/-- Batch 2 goes both ways. -/
theorem part27 {v2 v5 v8 v13 v25 v27 : BitVec 32} {Q : (FVec F S1x256x512 .f32) → sProp 𝕄} (hk : M (val O G) c κ (Ops c m0 m1 m2 (O c) (G c) Y) s27 ⊢ W c (.ret (k0_pay24 (oc (O c) 3 (ch 3 c)) (gl (G c)))) Q) :
    M (val O G) c κ (Ops c m0 m1 m2 (O c) (G c) Y) s26 ⊢ W c (k0_part27 m0 h0 m1 h1 m2 h2 (Memref.whole cc0_scratch0) h3 (Memref.whole cc0_scratch1) h4 cc0_scratch2 cc0_scratch3 cc0_scratch4 cc0_scratch5 cc0_scratch6
      cc0_scratch7 cc0_scratch8 cc0_scratch9 cc0_scratch10 cc0_scratch11 cc0_scratch12 c v2 v5 v8 v13 v25 v27) Q := by
  simp only [k0_part27_eq_skeleton]
  unfold k0_part27_skel
  simp only [semSignalWord, semWaitWord, Prog.lift, Prog.bind_op, Prog.bind_ret, Prog.pure_eq_ret, Prog.bind_assoc]
  refine step_send (.sr 2) rfl rfl (by exact fun _ h => h) rfl rfl (dev_qr c).2.2.2.1 (bk_sq (off_own c).2.2.2.2.2.1) (sr_sq (off_own c).2.2.2.2.2.1) rfl rfl ?_
  refine step_send (.sl 2) rfl rfl (by exact fun _ h => h) rfl rfl (dev_ql c).2.2.2.1 (bk_sq (off_own c).2.2.2.2.2.1) (sl_sq (off_own c).2.2.2.2.2.1) rfl rfl ?_
  refine step_oc 3 (ch 3 c) (off_ch c).2.2.2.2.2.2 ?_
  refine step_gl ?_
  exact hk

set_option maxRecDepth 65536 in
/-- The last sum of batch 3 is stored and goes to the right. -/
theorem part28 {v8 v11 v19 v21 v25 : BitVec 32} {Q : (Σ' (v773 : BitVec 32), BitVec 32) → sProp 𝕄} (hk : ∀ w w', M (val O G) c κ (Ops c m0 m1 m2 (O c) (G c) Y) s28 ⊢ W c (.ret ⟨w, w'⟩) Q) :
    M (val O G) c κ (Ops c m0 m1 m2 (O c) (G c) Y) s27 ⊢ W c (k0_part28 m0 h0 m1 h1 m2 h2 (Memref.whole cc0_scratch0) h3 (Memref.whole cc0_scratch1) h4 cc0_scratch2 cc0_scratch3 cc0_scratch4 cc0_scratch5 cc0_scratch6
      cc0_scratch7 cc0_scratch8 cc0_scratch9 cc0_scratch10 cc0_scratch11 cc0_scratch12 c v8 v11 v19 v21 v25 (k0_pay24 (oc (O c) 3 (ch 3 c)) (gl (G c)))) Q := by
  simp only [k0_part28_eq_skeleton]
  unfold k0_part28_skel
  simp only [semSignalWord, semWaitWord, Prog.lift, Prog.bind_op, Prog.bind_ret, Prog.pure_eq_ret, Prog.bind_assoc]
  refine step_recv (.p 2 3) rfl rfl rfl (by decide) (by rfl) ?_
  refine step_ld (.cm 1 3) rfl rfl fun X hX => ?_
  refine step_ld (.bk 0 3) rfl (bk_eq (off_own c).2.2.2.2.2.2.1) fun _ _ => ?_
  refine step_st (.bk 0 3) (.own (.sr 3)) rfl (bk_eq (off_own c).2.2.2.2.2.2.1) (by subst hX; rfl) ?_
  refine step_send (.sr 3) rfl rfl (by exact fun _ h => h) rfl rfl (dev_qr c).2.2.2.2.1 (bk_sq (off_own c).2.2.2.2.2.2.2) (sr_sq (off_own c).2.2.2.2.2.2.2) rfl rfl ?_
  exact hk _ _

set_option maxRecDepth 65536 in
/-- Batch 3 goes to the left; batch 0 arrives from the left. -/
theorem part29 {v8 v19 v21 v27 v773 c4_i32_809 : BitVec 32} {Q : (PUnit) → sProp 𝕄} (hk : M (val O G) c κ (Ops c m0 m1 m2 (O c) (G c) Y) s29 ⊢ W c (.ret ⟨⟩) Q) :
    M (val O G) c κ (Ops c m0 m1 m2 (O c) (G c) Y) s28 ⊢ W c (k0_part29 m0 h0 m1 h1 m2 h2 (Memref.whole cc0_scratch0) h3 (Memref.whole cc0_scratch1) h4 cc0_scratch2 cc0_scratch3 cc0_scratch4 cc0_scratch5 cc0_scratch6
      cc0_scratch7 cc0_scratch8 cc0_scratch9 cc0_scratch10 cc0_scratch11 cc0_scratch12 c v8 v19 v21 v27 v773 c4_i32_809) Q := by
  simp only [k0_part29_eq_skeleton]
  unfold k0_part29_skel
  simp only [semSignalWord, semWaitWord, Prog.lift, Prog.bind_op, Prog.bind_ret, Prog.pure_eq_ret, Prog.bind_assoc]
  refine step_send (.sl 3) rfl rfl (by exact fun _ h => h) rfl rfl (dev_ql c).2.2.2.2.1 (bk_sq (off_own c).2.2.2.2.2.2.2) (sl_sq (off_own c).2.2.2.2.2.2.2) rfl rfl ?_
  refine step_recv (.sr 0) rfl rfl rfl (by decide) (by rfl) ?_
  exact hk

set_option maxRecDepth 65536 in
/-- Batch 0 is passed on to the right; batch 1 arrives. -/
theorem part30 {v8 v19 v21 : BitVec 32} {Q : (PUnit) → sProp 𝕄} (hk : M (val O G) c κ (Ops c m0 m1 m2 (O c) (G c) Y) s30 ⊢ W c (.ret ⟨⟩) Q) :
    M (val O G) c κ (Ops c m0 m1 m2 (O c) (G c) Y) s29 ⊢ W c (k0_part30 m0 h0 m1 h1 m2 h2 (Memref.whole cc0_scratch0) h3 (Memref.whole cc0_scratch1) h4 cc0_scratch2 cc0_scratch3 cc0_scratch4 cc0_scratch5 cc0_scratch6
      cc0_scratch7 cc0_scratch8 cc0_scratch9 cc0_scratch10 cc0_scratch11 cc0_scratch12 c v8 v19 v21) Q := by
  simp only [k0_part30_eq_skeleton]
  unfold k0_part30_skel
  simp only [semSignalWord, semWaitWord, Prog.lift, Prog.bind_op, Prog.bind_ret, Prog.pure_eq_ret, Prog.bind_assoc]
  refine step_send (.tr 0) rfl rfl (by exact fun _ h => h) rfl rfl (dev_qr c).2.2.2.2.2.1 (bk_sq (off_right c).1) (tr_sq (off_right c).1) rfl rfl ?_
  refine step_recv (.sr 1) rfl rfl rfl (by decide) (by rfl) ?_
  exact hk

set_option maxRecDepth 65536 in
/-- Batch 1 is passed on to the right, batch 2 to the left. -/
theorem part31 {v8 v25 v27 : BitVec 32} {Q : (BitVec 32) → sProp 𝕄} (hk : ∀ w, M (val O G) c κ (Ops c m0 m1 m2 (O c) (G c) Y) s31 ⊢ W c (.ret w) Q) :
    M (val O G) c κ (Ops c m0 m1 m2 (O c) (G c) Y) s30 ⊢ W c (k0_part31 m0 h0 m1 h1 m2 h2 (Memref.whole cc0_scratch0) h3 (Memref.whole cc0_scratch1) h4 cc0_scratch2 cc0_scratch3 cc0_scratch4 cc0_scratch5 cc0_scratch6
      cc0_scratch7 cc0_scratch8 cc0_scratch9 cc0_scratch10 cc0_scratch11 cc0_scratch12 c v8 v25 v27) Q := by
  simp only [k0_part31_eq_skeleton]
  unfold k0_part31_skel
  simp only [semSignalWord, semWaitWord, Prog.lift, Prog.bind_op, Prog.bind_ret, Prog.pure_eq_ret, Prog.bind_assoc]
  refine step_send (.tr 1) rfl rfl (by exact fun _ h => h) rfl rfl (dev_qr c).2.2.2.2.2.2 (bk_sq (off_right c).2) (tr_sq (off_right c).2) rfl rfl ?_
  refine step_recv (.sl 2) rfl rfl rfl (by decide) (by rfl) ?_
  refine step_send (.tl 0) rfl rfl (by exact fun _ h => h) rfl rfl (dev_ql c).2.2.2.2.2.1 (bk_sq (off_left c).1) (tl_sq (off_left c).1) rfl rfl ?_
  exact hk _

set_option maxRecDepth 65536 in
/-- Batch 3 is passed on to the left. -/
theorem part32 {v8 v19 v21 v25 v27 v864 : BitVec 32} {Q : (PUnit) → sProp 𝕄} (hk : M (val O G) c κ (Ops c m0 m1 m2 (O c) (G c) Y) s32 ⊢ W c (.ret ⟨⟩) Q) :
    M (val O G) c κ (Ops c m0 m1 m2 (O c) (G c) Y) s31 ⊢ W c (k0_part32 m0 h0 m1 h1 m2 h2 (Memref.whole cc0_scratch0) h3 (Memref.whole cc0_scratch1) h4 cc0_scratch2 cc0_scratch3 cc0_scratch4 cc0_scratch5 cc0_scratch6
      cc0_scratch7 cc0_scratch8 cc0_scratch9 cc0_scratch10 cc0_scratch11 cc0_scratch12 c v8 v19 v21 v25 v27 v864) Q := by
  simp only [k0_part32_eq_skeleton]
  unfold k0_part32_skel
  simp only [semSignalWord, semWaitWord, Prog.lift, Prog.bind_op, Prog.bind_ret, Prog.pure_eq_ret, Prog.bind_assoc]
  refine step_recv (.sl 3) rfl rfl rfl (by decide) (by rfl) ?_
  refine step_send (.tl 1) rfl rfl (by exact fun _ h => h) rfl rfl (dev_ql c).2.2.2.2.2.2 (bk_sq (off_left c).2) (tl_sq (off_left c).2) rfl rfl ?_
  exact hk

set_option maxRecDepth 65536 in
/-- The rest arrives from the left. -/
theorem part33 {v8 v19 v21 v25 v27 : BitVec 32} {Q : (PUnit) → sProp 𝕄} (hk : M (val O G) c κ (Ops c m0 m1 m2 (O c) (G c) Y) s33 ⊢ W c (.ret ⟨⟩) Q) :
    M (val O G) c κ (Ops c m0 m1 m2 (O c) (G c) Y) s32 ⊢ W c (k0_part33 m0 h0 m1 h1 m2 h2 (Memref.whole cc0_scratch0) h3 (Memref.whole cc0_scratch1) h4 cc0_scratch2 cc0_scratch3 cc0_scratch4 cc0_scratch5 cc0_scratch6
      cc0_scratch7 cc0_scratch8 cc0_scratch9 cc0_scratch10 cc0_scratch11 cc0_scratch12 c v8 v19 v21 v25 v27) Q := by
  simp only [k0_part33_eq_skeleton]
  unfold k0_part33_skel
  simp only [semSignalWord, semWaitWord, Prog.lift, Prog.bind_op, Prog.bind_ret, Prog.pure_eq_ret, Prog.bind_assoc]
  refine step_recv (.sr 2) rfl rfl rfl (by decide) (by rfl) ?_
  refine step_recv (.sr 3) rfl rfl rfl (by decide) (by rfl) ?_
  exact hk

set_option maxRecDepth 65536 in
/-- The rest arrives from the right, and the first of what was passed on. -/
theorem part34 {v8 v19 v21 v25 v27 : BitVec 32} {Q : (Σ' (v951 : BitVec 32), BitVec 32) → sProp 𝕄} (hk : ∀ w w', M (val O G) c κ (Ops c m0 m1 m2 (O c) (G c) Y) s34 ⊢ W c (.ret ⟨w, w'⟩) Q) :
    M (val O G) c κ (Ops c m0 m1 m2 (O c) (G c) Y) s33 ⊢ W c (k0_part34 m0 h0 m1 h1 m2 h2 (Memref.whole cc0_scratch0) h3 (Memref.whole cc0_scratch1) h4 cc0_scratch2 cc0_scratch3 cc0_scratch4 cc0_scratch5 cc0_scratch6
      cc0_scratch7 cc0_scratch8 cc0_scratch9 cc0_scratch10 cc0_scratch11 cc0_scratch12 c v8 v19 v21 v25 v27) Q := by
  simp only [k0_part34_eq_skeleton]
  unfold k0_part34_skel
  simp only [semSignalWord, semWaitWord, Prog.lift, Prog.bind_op, Prog.bind_ret, Prog.pure_eq_ret, Prog.bind_assoc]
  refine step_recv (.sl 0) rfl rfl rfl (by decide) (by rfl) ?_
  refine step_recv (.sl 1) rfl rfl rfl (by decide) (by rfl) ?_
  refine step_recv (.tr 0) rfl rfl rfl (by decide) (by rfl) ?_
  exact hk _ _

set_option maxRecDepth 65536 in
/-- More of what was passed on arrives. -/
theorem part35 {v8 v19 v21 v25 v27 v951 c4_i32_977 : BitVec 32} {Q : (PUnit) → sProp 𝕄} (hk : M (val O G) c κ (Ops c m0 m1 m2 (O c) (G c) Y) s35 ⊢ W c (.ret ⟨⟩) Q) :
    M (val O G) c κ (Ops c m0 m1 m2 (O c) (G c) Y) s34 ⊢ W c (k0_part35 m0 h0 m1 h1 m2 h2 (Memref.whole cc0_scratch0) h3 (Memref.whole cc0_scratch1) h4 cc0_scratch2 cc0_scratch3 cc0_scratch4 cc0_scratch5 cc0_scratch6
      cc0_scratch7 cc0_scratch8 cc0_scratch9 cc0_scratch10 cc0_scratch11 cc0_scratch12 c v8 v19 v21 v25 v27 v951 c4_i32_977) Q := by
  simp only [k0_part35_eq_skeleton]
  unfold k0_part35_skel
  simp only [semSignalWord, semWaitWord, Prog.lift, Prog.bind_op, Prog.bind_ret, Prog.pure_eq_ret, Prog.bind_assoc]
  refine step_recv (.tl 0) rfl rfl rfl (by decide) (by rfl) ?_
  refine step_recv (.tr 1) rfl rfl rfl (by decide) (by rfl) ?_
  exact hk

end

end Cert.KernelIdeal.Ring

end
-- ==== Proof.Ring.BodyD.lean ====
/-
# The program, parts 37 to 40

The waits for the sources of the copies still in flight.
-/
module

public import proofs.«01_k».proof.Proof.Ring.BodyC

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ

/-- The state after part 36 of the program: everything has arrived. -/
def s36 : St := s35.recv (.tl 1)
/-- The state after part 37 of the program. -/
def s37 : St := (((s36.read (.p 2 0)).read (.sr 0)).read (.sl 0)).read (.p 2 1)
/-- The state after part 38 of the program. -/
def s38 : St := ((s37.read (.sr 1)).read (.sl 1)).read (.p 2 2)
/-- The state after part 39 of the program. -/
def s39 : St := (((s38.read (.sr 2)).read (.sl 2)).read (.p 2 3)).read (.sr 3)
/-- The state after part 40 of the program. -/
def s40 : St := (((s39.read (.sl 3)).read (.tr 0)).read (.tl 0)).read (.tr 1)

section
variable {O : Dev nD → Vec F S4x512x1024 .f32} {G : Dev nD → Vec F S512x512 .f32} {c : Dev nD} {κ : GSem nD τ sig → ℕ}
variable {m0 : Memref sig .tc .vmem S4x512x1024 .f32} {h0 : m0.IsWhole} {m1 : Memref sig .tc .vmem S512x512 .f32} {h1 : m1.IsWhole}
variable {m2 : Memref sig .tc .vmem S4x256x2048 .f32} {h2 : m2.IsWhole} {Y : Vec F S4x256x2048 .f32}
variable {h3 : (Memref.whole cc0_scratch0 : Memref sig .tc .vmem S2x4x256x512 .f32).IsWhole}
variable {h4 : (Memref.whole cc0_scratch1 : Memref sig .tc .vmem S4x4x256x512 .f32).IsWhole}

set_option maxRecDepth 65536 in
/-- Sources of copies are free again. -/
theorem part37 {Q : (PUnit) → sProp 𝕄} (hk : M (val O G) c κ (Ops c m0 m1 m2 (O c) (G c) Y) s37 ⊢ W c (.ret ⟨⟩) Q) :
    M (val O G) c κ (Ops c m0 m1 m2 (O c) (G c) Y) s36 ⊢ W c (k0_part37 m0 h0 m1 h1 m2 h2 (Memref.whole cc0_scratch0) h3 (Memref.whole cc0_scratch1) h4 cc0_scratch2 cc0_scratch3 cc0_scratch4 cc0_scratch5 cc0_scratch6
      cc0_scratch7 cc0_scratch8 cc0_scratch9 cc0_scratch10 cc0_scratch11 cc0_scratch12 c) Q := by
  simp only [k0_part37_eq_skeleton]
  unfold k0_part37_skel
  simp only [semSignalWord, semWaitWord, Prog.lift, Prog.bind_op, Prog.bind_ret, Prog.pure_eq_ret, Prog.bind_assoc]
  refine step_read (.p 2 0) rfl rfl (by decide) (by rfl) ?_
  refine step_read (.sr 0) rfl rfl (by decide) (by rfl) ?_
  refine step_read (.sl 0) rfl rfl (by decide) (by rfl) ?_
  refine step_read (.p 2 1) rfl rfl (by decide) (by rfl) ?_
  exact hk

set_option maxRecDepth 65536 in
/-- Sources of copies are free again. -/
theorem part38 {Q : (PUnit) → sProp 𝕄} (hk : M (val O G) c κ (Ops c m0 m1 m2 (O c) (G c) Y) s38 ⊢ W c (.ret ⟨⟩) Q) :
    M (val O G) c κ (Ops c m0 m1 m2 (O c) (G c) Y) s37 ⊢ W c (k0_part38 m0 h0 m1 h1 m2 h2 (Memref.whole cc0_scratch0) h3 (Memref.whole cc0_scratch1) h4 cc0_scratch2 cc0_scratch3 cc0_scratch4 cc0_scratch5 cc0_scratch6
      cc0_scratch7 cc0_scratch8 cc0_scratch9 cc0_scratch10 cc0_scratch11 cc0_scratch12 c) Q := by
  simp only [k0_part38_eq_skeleton]
  unfold k0_part38_skel
  simp only [semSignalWord, semWaitWord, Prog.lift, Prog.bind_op, Prog.bind_ret, Prog.pure_eq_ret, Prog.bind_assoc]
  refine step_read (.sr 1) rfl rfl (by decide) (by rfl) ?_
  refine step_read (.sl 1) rfl rfl (by decide) (by rfl) ?_
  refine step_read (.p 2 2) rfl rfl (by decide) (by rfl) ?_
  exact hk

set_option maxRecDepth 65536 in
/-- Sources of copies are free again. -/
theorem part39 {Q : (PUnit) → sProp 𝕄} (hk : M (val O G) c κ (Ops c m0 m1 m2 (O c) (G c) Y) s39 ⊢ W c (.ret ⟨⟩) Q) :
    M (val O G) c κ (Ops c m0 m1 m2 (O c) (G c) Y) s38 ⊢ W c (k0_part39 m0 h0 m1 h1 m2 h2 (Memref.whole cc0_scratch0) h3 (Memref.whole cc0_scratch1) h4 cc0_scratch2 cc0_scratch3 cc0_scratch4 cc0_scratch5 cc0_scratch6
      cc0_scratch7 cc0_scratch8 cc0_scratch9 cc0_scratch10 cc0_scratch11 cc0_scratch12 c) Q := by
  simp only [k0_part39_eq_skeleton]
  unfold k0_part39_skel
  simp only [semSignalWord, semWaitWord, Prog.lift, Prog.bind_op, Prog.bind_ret, Prog.pure_eq_ret, Prog.bind_assoc]
  refine step_read (.sr 2) rfl rfl (by decide) (by rfl) ?_
  refine step_read (.sl 2) rfl rfl (by decide) (by rfl) ?_
  refine step_read (.p 2 3) rfl rfl (by decide) (by rfl) ?_
  refine step_read (.sr 3) rfl rfl (by decide) (by rfl) ?_
  exact hk

set_option maxRecDepth 65536 in
/-- Sources of copies are free again. -/
theorem part40 {Q : (PUnit) → sProp 𝕄} (hk : M (val O G) c κ (Ops c m0 m1 m2 (O c) (G c) Y) s40 ⊢ W c (.ret ⟨⟩) Q) :
    M (val O G) c κ (Ops c m0 m1 m2 (O c) (G c) Y) s39 ⊢ W c (k0_part40 m0 h0 m1 h1 m2 h2 (Memref.whole cc0_scratch0) h3 (Memref.whole cc0_scratch1) h4 cc0_scratch2 cc0_scratch3 cc0_scratch4 cc0_scratch5 cc0_scratch6
      cc0_scratch7 cc0_scratch8 cc0_scratch9 cc0_scratch10 cc0_scratch11 cc0_scratch12 c) Q := by
  simp only [k0_part40_eq_skeleton]
  unfold k0_part40_skel
  simp only [semSignalWord, semWaitWord, Prog.lift, Prog.bind_op, Prog.bind_ret, Prog.pure_eq_ret, Prog.bind_assoc]
  refine step_read (.sl 3) rfl rfl (by decide) (by rfl) ?_
  refine step_read (.tr 0) rfl rfl (by decide) (by rfl) ?_
  refine step_read (.tl 0) rfl rfl (by decide) (by rfl) ?_
  refine step_read (.tr 1) rfl rfl (by decide) (by rfl) ?_
  exact hk

end

end Cert.KernelIdeal.Ring

end
-- ==== Proof.Ring.Barrier.lean ====
/-
# The barrier

Each device signals its four neighbours. With a signal it hands over the slots that neighbour may write from the start,
and to the next device on the inner ring the right to give it its go-aheads.
-/
module

public import proofs.«01_k».proof.Proof.Ring.BodyA

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ

/-! ## Products over the transfers -/

theorem bs_emp (P : sProp 𝕄) : iprop(P ∗ emp) = P := equiv_iff.mp BI.sep_emp
theorem bs_emp' (P : sProp 𝕄) : iprop(emp ∗ P) = P := equiv_iff.mp BI.emp_sep
theorem bs_comm (P Q : sProp 𝕄) : iprop(P ∗ Q) = iprop(Q ∗ P) := equiv_iff.mp ⟨BI.sep_comm, BI.sep_comm⟩
theorem bs_filter {I : Type} (s : Finset I) (p : I → Prop) [DecidablePred p] (Φ : I → sProp 𝕄) :
    bigSep (s.filter p) Φ = bigSep s fun i => if p i then Φ i else iprop(emp) := bigSep_filter s p Φ
theorem bs_four (Φ : Fin 4 → sProp 𝕄) : bigSep Finset.univ Φ = iprop(Φ 0 ∗ Φ 1 ∗ Φ 2 ∗ Φ 3) := by
  rw [show (Finset.univ : Finset (Fin 4)) = insert 0 (insert 1 (insert 2 {3})) by decide, bs_insert (by decide), bs_insert (by decide),
    bs_insert (by decide), bigSep_singleton]

/-- The transfers, by the neighbour they go to. -/
theorem bs_groups (P : Xf → sProp 𝕄) : bigSep Finset.univ P = bigSep Finset.univ fun i : Fin 4 => bigSep (grp i) P := by
  have h (i : Fin 4) : bigSep (grp i) P = bigSep Finset.univ fun t => if side t = i then P t else iprop(emp) := bs_filter _ _ _
  rw [funext h, bigSep_univ_comm]
  refine bigSep_congr fun t _ => ?_
  rw [← bs_filter Finset.univ (fun i => side t = i) (fun _ => P t), Finset.filter_eq, if_pos (Finset.mem_univ _), bigSep_singleton]

/-- The slots a device keeps at the barrier. -/
def kept : Slot → Bool
  | .cm s _ => s = 0
  | .bk r _ => r = 0

/-- A product over the slots splits into those given away, by the transfer that fills them, and those kept. -/
theorem bs_slots (P : Slot → sProp 𝕄) : bigSep Finset.univ P
    = iprop(bigSep Finset.univ (fun t => if early t then P (dst t) else iprop(emp)) ∗ bigSep Finset.univ (fun a => if kept a then P a else iprop(emp))) := by
  have h : Finset.univ.filter (fun a => ¬ kept a = true) = (Finset.univ.filter (fun t => early t = true)).image dst := by decide +kernel
  have hj : Set.InjOn dst (Finset.univ.filter (fun t => early t = true) : Finset Xf) := by
    intro t ht t' ht' e
    have : ∀ t t' : Xf, early t = true → early t' = true → dst t = dst t' → t = t' := by decide +kernel
    exact this t t' (Finset.mem_filter.mp ht).2 (Finset.mem_filter.mp ht').2 e
  rw [bigSep_filter_split (M := 𝕄) Finset.univ (fun a => kept a = true) (Φ := P), h, bigSep_image_of_injOn hj, bs_filter, bs_filter]
  exact bs_comm _ _

section
variable (val : Xf → Dev nD → Vec F S1x1x256x512 .f32) (c : Dev nD)

/-! ## What a device starts from -/

/-- What a device holds for a transfer it sends, before it knows that the other side is ready. -/
def sndP (t : Xf) : sProp 𝕄 :=
  iprop(dutyTok ER (sndCell t c) 0 (.snd t) ∗ reached ER (sndCell t c) 0 ∗ dutyTok ER (rcvCell t (tgt t c)) 0 (.rcv t) ∗ atPos ER (sndCell t c) 0 ∅ 0)

/-- All a device holds when the program starts, its operands apart. -/
def Begin (κ : GSem nD τ sig → ℕ) : sProp 𝕄 :=
  iprop(recs val κ ∗ (∃ W, owes (c : Thread nD τ) (owed c Pay.all) W)
    ∗ bigSep Finset.univ (fun a => iprop(∃ X, slotAt c a fullShare X)) ∗ bigSep Finset.univ (fun t => sndP c t)
    ∗ bigSep Finset.univ (fun t => rcvR c t false) ∗ bigSep Finset.univ (fun t => reached ER (rcvCell t c) 0)
    ∗ bigSep Finset.univ (fun i => dutyTok ER (barCell (nb i c)) 0 (.bar (op i))) ∗ paying ER (crCell c) 0 (.cr 0) 0
    ∗ (cred (tallyAt (barCell c) 0 4) ∗ atPos ER (barCell c) 0 ∅ 0)
    ∗ atPos ER (crCell c) 0 ∅ 0 ∗ bigSep (Finset.Ico 0 8) (fun k => cred (tallyAt (crCell c) k 1)))

/-- What it hands to neighbour `i`. -/
def gift (i : Fin 4) : sProp 𝕄 :=
  iprop((if op i = 0 then paying ER (crCell c) 0 (.cr 0) 0 else emp)
    ∗ bigSep (grp (op i)) fun t => iprop((if early t then iprop(∃ X, slotAt c (dst t) fullShare X) else emp) ∗ reached ER (rcvCell t c) 0))

theorem gift_pay (i : Fin 4) : (gift c i : sProp 𝕄) = barPay (nb i c) (op i) := by
  have h : bigSep (grp (op i)) (fun t => iprop((if early t then iprop(∃ X, slotAt (F := F) c (dst t) fullShare X) else iprop(emp)) ∗ reached ER (rcvCell t c) 0))
      = bigSep (grp (op i)) fun t => iprop((if early t then lz t (nb i c) else iprop(emp)) ∗ reached ER (rcvCell t (tgt t (nb i c))) 0) :=
    bigSep_congr fun t ht => by
      have e : tgt t (nb i c) = c := by rw [tgt_side, (Finset.mem_filter.mp ht).2, nb_op]
      unfold lz; rw [e]
  have h' : (if op i = 0 then paying ER (crCell c) 0 (.cr 0) 0 else iprop(emp) : sProp 𝕄) = if op i = 0 then paying ER (crCell (zl (nb i c))) 0 (.cr 0) 0 else iprop(emp) := by
    split
    · next e => rw [show zl (nb i c) = c by have e' := nb_op i c; rw [e] at e'; exact e']
    · rfl
  unfold gift barPay
  rw [h, h']

end

section
variable {val : Xf → Dev nD → Vec F S1x1x256x512 .f32} {c : Dev nD} {κ : GSem nD τ sig → ℕ} {α : Type}

/-- Signalling neighbour `i`. -/
theorem step_bar (i : Fin 4) (l : List Pay) {d : Dev nD} (hd : d = nb i c) {s : Sem sig} (hs : s = barS) {n : ℤ} (hn : n = ((1 : ℕ) : ℤ)) {Wt}
    {k : PUnit → Prog (TpuEff nD τ sig (Elt F) Λ₀ .tc) α} {Q : α → sProp 𝕄} :
    iprop(recs val κ ∗ owes (c : Thread nD τ) (owed c (.bar i :: l)) Wt ∗ dutyTok ER (barCell (nb i c)) 0 (.bar (op i)) ∗ gift c i)
      ⊢ iprop((owes (c : Thread nD τ) (owed c l) Wt -∗ W c (k ⟨⟩) Q) -∗ W c (.op (.semSignal (d, .tc) s n) k) Q) := by
  subst hd; subst hs; subst hn
  iintro ⟨#HR, HO, Ht, Hg⟩ Hk
  icases (recs_bar val κ (nb i c)) $$ HR with ⟨Hi, Hr⟩
  iapply (Rounds.wp_signal 𝒱₀ ER (Rd val) (c : Thread nD τ) none (dst := ((nb i c : Dev nD) : Thread nD τ)) (sem := barS) (r := 0) (d := .bar (op i)) (k' := 1)
    (κ := κ (barCell (nb i c))) (by rw [duties_zero, dut_bar]; exact Finset.mem_image_of_mem _ (Finset.mem_univ _)) rfl 0 (owed c l) rfl) $$ [HO Ht Hg Hi Hr]
  · isplitl [Hi]; · iexact Hi
    isplitl [HO]; · iexact HO
    isplitl [Ht]; · iexact Ht
    isplitl [Hg]; · iapply (show gift c i ⊢ (Rd val).payload (barCell (nb i c)) 0 (.bar (op i)) from Entails.of_eq (gift_pay c i)); iexact Hg
    iexact Hr
  iexact Hk

/-- What arrives at the barrier. -/
theorem rest_bar : bigSep ((Rd (F := F) val).duties (barCell c) 0 \ ∅) (fun u => (Rd val).payload (barCell c) 0 u)
    = iprop(paying ER (crCell (zl c)) 0 (.cr 0) 0 ∗ bigSep Finset.univ (fun t => if early t then lz t c else iprop(emp))
      ∗ bigSep Finset.univ fun t => reached ER (rcvCell t (tgt t c)) 0) := by
  rw [Finset.sdiff_empty, duties_zero, dut_bar, bigSep_image_of_injOn (fun a _ b _ h => by cases h; rfl)]
  show bigSep Finset.univ (fun i => barPay c i) = _
  unfold barPay
  rw [bigSep_sep', ← bs_groups, bigSep_sep', bs_four]
  rw [if_pos rfl, if_neg (by decide), if_neg (by decide), if_neg (by decide)]
  rw [bs_emp, bs_emp, bs_emp]

/-- Waiting at the barrier. -/
theorem step_meet (l : List Pay) (hlow : ∀ p ∈ l, slv (.reg barS) 0 < p.lev) {s : Sem sig} (hs : s = barS) {n : ℕ} (hn : n = 4) {Wt}
    {k : PUnit → Prog (TpuEff nD τ sig (Elt F) Λ₀ .tc) α} {Q : α → sProp 𝕄} :
    iprop(recs val κ ∗ owes (c : Thread nD τ) (owed c l) Wt ∗ cred (tallyAt (barCell c) 0 4) ∗ atPos ER (barCell c) 0 ∅ 0)
      ⊢ iprop((((∃ W, owes (c : Thread nD τ) (owed c l) W) ∗ atPos ER (barCell c) 1 ∅ 0 ∗ paying ER (crCell (zl c)) 0 (.cr 0) 0
          ∗ bigSep Finset.univ (fun t => if early t then lz t c else iprop(emp)) ∗ bigSep Finset.univ fun t => reached ER (rcvCell t (tgt t c)) 0)
        -∗ W c (k ⟨⟩) Q) -∗ W c (.op (.semWait s n) k) Q) := by
  subst hs; subst hn
  iintro ⟨#HR, HO, Hc, Hp⟩ Hk
  icases (recs_bar val κ c) $$ HR with ⟨Hi, -⟩
  iapply (Rounds.wp_wait_rest_token 𝒱₀ ER (Rd val) (c : Thread nD τ) none (κ := κ (barCell c))
      (wpE_semWait_eq 𝒱₀ (c : Thread nD τ) none Set.univ) (Set.mem_univ _) 0 (O := owed c l) (W := Wt) (R := 0) (m := 0) (T := ∅)
      ((Nat.zero_add _).trans (expect_bar val c).symm)) $$ [Hi Hc HO Hp]
  · isplitl [Hi]; · iexact Hi
    isplitl [Hc]; · iexact Hc
    isplitl [HO]; · iexact HO
    isplitr; · iapply (recs_wait κ c (.reg barS) 0 l (by omega) hlow); iexact HR
    iexact Hp
  iintro ⟨HO, Hp, -, Hpay⟩
  iapply Hk
  isplitl [HO]; · iexists _; iexact HO
  isplitl [Hp]; · iexact Hp
  iapply (Entails.of_eq (rest_bar (val := val) (c := c))); iexact Hpay

/-- What a device holds makes the four gifts and what it keeps. -/
theorem gifts : iprop(bigSep Finset.univ (fun a => iprop(∃ X, slotAt c a fullShare X)) ∗ bigSep Finset.univ (fun t => reached ER (rcvCell t c) 0)
      ∗ paying ER (crCell c) 0 (.cr 0) 0)
    ⊢ (iprop(bigSep Finset.univ (fun a => slotR val c a (s2.slot a)) ∗ gift c 0 ∗ gift c 1 ∗ gift c 2 ∗ gift c 3) : sProp 𝕄) := by
  have hs : bigSep Finset.univ (fun a => if kept a then iprop(∃ X, slotAt (F := F) c a fullShare X) else iprop(emp))
      ⊢ bigSep Finset.univ (fun a => slotR val c a (s2.slot a)) := bigSep_mono fun a _ => by
    have h : ∀ a, s2.slot a = if kept a then some (.f, .unk) else none := by decide +kernel
    rw [h a]
    split
    · show _ ⊢ iprop(∃ X, ⌜True⌝ ∗ slotAt c a fullShare X)
      iintro ⟨%X, H⟩; iexists X
      isplitr; · ipureintro; trivial
      iexact H
    · show (iprop(emp) : sProp 𝕄) ⊢ iprop(emp)
      iintro H; iexact H
  have e : iprop(bigSep Finset.univ (fun t => if early t then iprop(∃ X, slotAt (F := F) c (dst t) fullShare X) else iprop(emp))
      ∗ bigSep Finset.univ (fun t => reached ER (rcvCell t c) 0)) ⊢ _ := Entails.of_eq ((bigSep_sep' _ _ _).symm.trans ((bs_groups _).trans (bs_four _)))
  unfold gift
  rw [if_neg (show op 0 ≠ 0 by decide), if_pos (show op 1 = 0 by decide), if_neg (show op 2 ≠ 0 by decide), if_neg (show op 3 ≠ 0 by decide)]
  iintro ⟨H, Hr, Hc⟩
  icases (Entails.of_eq (bs_slots _)) $$ H with ⟨Hg, Hs⟩
  isplitl [Hs]; · iapply hs; iexact Hs
  icases e $$ [Hg Hr] with ⟨H0, H1, H2, H3⟩
  · isplitl [Hg]; · iexact Hg
    iexact Hr
  isplitl [H1]; · isplitr; · iempintro
                  iexact H1
  isplitl [H0 Hc]; · isplitl [Hc]; · iexact Hc
                     iexact H0
  isplitl [H3]; · isplitr; · iempintro
                  iexact H3
  isplitr; · iempintro
  iexact H2

end

end Cert.KernelIdeal.Ring

end
-- ==== Proof.Ring.Slots.lean ====
/-
# The two scratch arrays, cut into slots

Each scratch array is the disjoint union of its slots, so holding one is holding the other.
-/
module

public import proofs.«01_k».proof.Proof.Ring.Barrier

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ

/-! ## An array of `n` by four slots -/

theorem rc_inb (n : ℕ) (p : Fin n × Fin 4) : ∀ a, (![p.1.val, p.2.val, 0, 0] : Fin 4 → Nat) a + S1x1x256x512.size a ≤ (⟨4, ![n, 4, 256, 512]⟩ : Shape).size a := by
  have h1 := p.1.isLt
  have h2 := p.2.isLt
  intro a; fin_cases a
  · show p.1.val + 1 ≤ n; omega
  · show p.2.val + 1 ≤ 4; omega
  · show 0 + 256 ≤ 256; omega
  · show 0 + 512 ≤ 512; omega

/-- The place of a slot. -/
def rc (n : ℕ) (p : Fin n × Fin 4) : Rect ⟨4, ![n, 4, 256, 512]⟩ := Rect.unit (s := ⟨4, ![n, 4, 256, 512]⟩) ![p.1.val, p.2.val, 0, 0] S1x1x256x512.size (rc_inb n p)

/-- An index of the array, within its slot; and an array put together from the contents of its slots. -/
def low {n : ℕ} (i : (⟨4, ![n, 4, 256, 512]⟩ : Shape).Idx) : S1x1x256x512.Idx
  | 0 => ⟨0, Nat.one_pos⟩
  | 1 => ⟨0, Nat.one_pos⟩
  | 2 => i 2
  | 3 => i 3
def glue {n : ℕ} (Xs : Fin n × Fin 4 → Vec F S1x1x256x512 .f32) : Vec F ⟨4, ![n, 4, 256, 512]⟩ .f32 := fun i => Xs (i 0, i 1) (low i)

theorem rc_emb {n : ℕ} (p : Fin n × Fin 4) (j : S1x1x256x512.Idx) :
    ((rc n p).emb j 0 : Fin n) = p.1 ∧ ((rc n p).emb j 1 : Fin 4) = p.2 ∧ low ((rc n p).emb j) = j := by
  have h0 : (j 0).val = 0 := Nat.lt_one_iff.mp (j 0).isLt
  have h1 : (j 1).val = 0 := Nat.lt_one_iff.mp (j 1).isLt
  refine ⟨Fin.ext ?_, Fin.ext ?_, funext fun a => Fin.ext ?_⟩
  · show p.1.val + 1 * (j 0).val = p.1.val; omega
  · show p.2.val + 1 * (j 1).val = p.2.val; omega
  · fin_cases a
    · show 0 = (j 0).val; omega
    · show 0 = (j 1).val; omega
    · show 0 + 1 * (j 2).val = (j 2).val; omega
    · show 0 + 1 * (j 3).val = (j 3).val; omega

theorem glue_emb {n : ℕ} (Xs : Fin n × Fin 4 → Vec F S1x1x256x512 .f32) (p : Fin n × Fin 4) : (fun j => glue Xs ((rc n p).emb j)) = Xs p := by
  funext j
  obtain ⟨h0, h1, h2⟩ := rc_emb p j
  show Xs ((rc n p).emb j 0, (rc n p).emb j 1) (low ((rc n p).emb j)) = Xs p j
  rw [h2, h0, h1]

theorem rc_disj {n : ℕ} (p p' : Fin n × Fin 4) (h : p ≠ p') : Disjoint (rc n p).set (rc n p').set := by
  by_cases h0 : p.1 = p'.1
  · refine Rect.unit_disjoint 1 ?_
    have : p.2.val ≠ p'.2.val := fun e => h (Prod.ext h0 (Fin.ext e))
    show p.2.val + 1 ≤ p'.2.val ∨ p'.2.val + 1 ≤ p.2.val
    omega
  · refine Rect.unit_disjoint 0 ?_
    have : p.1.val ≠ p'.1.val := fun e => h0 (Fin.ext e)
    show p.1.val + 1 ≤ p'.1.val ∨ p'.1.val + 1 ≤ p.1.val
    omega

theorem rc_cov (n : ℕ) : (Finset.univ : Finset (Fin n × Fin 4)).biUnion (fun p => (rc n p).set) = Finset.univ := by
  refine Finset.eq_univ_iff_forall.mpr fun i => Finset.mem_biUnion.mpr ⟨(i 0, i 1), Finset.mem_univ _, Rect.mem_set_unit.mpr fun a => ?_⟩
  have h2 : (i 2).val < 256 := (i 2).isLt
  have h3 : (i 3).val < 512 := (i 3).isLt
  fin_cases a
  · show (i 0).val ≤ (i 0).val ∧ (i 0).val < (i 0).val + 1; omega
  · show (i 1).val ≤ (i 1).val ∧ (i 1).val < (i 1).val + 1; omega
  · show 0 ≤ (i 2).val ∧ (i 2).val < 0 + 256; omega
  · show 0 ≤ (i 3).val ∧ (i 3).val < 0 + 512; omega

theorem vec_nonempty (s : Shape) (e : EltTy) : Nonempty (Vec F s e) := ⟨fun _ => Classical.choice inferInstance⟩

theorem bigSep_choose {I : Type} [DecidableEq I] {s : Shape} {e : EltTy} (S : Finset I) (P : I → Vec F s e → sProp 𝕄) :
    bigSep S (fun i => iprop(∃ y, P i y)) ⊢ iprop(∃ y : I → Vec F s e, bigSep S fun i => P i (y i)) := by
  haveI : Nonempty (Vec F s e) := vec_nonempty s e
  exact bigSep_exists_pi S P

theorem cut {n : ℕ} (c : Dev nD) (m : Memref sig .tc .vmem ⟨4, ![n, 4, 256, 512]⟩ .f32) (q : PosShare TreeShare) (X : Vec F ⟨4, ![n, 4, 256, 512]⟩ .f32) :
    (owns (c : Thread nD τ) m q X : sProp 𝕄)
      ⊢ bigSep Finset.univ fun p => owns (c : Thread nD τ) (m.slice (rc n p) (fun _ => rfl)) q (fun j => X ((rc n p).emb j)) :=
  owns_rects (c : Thread nD τ) m q (rc n) (fun _ _ => rfl) rc_disj (rc_cov n) X

theorem uncut {n : ℕ} (c : Dev nD) (m : Memref sig .tc .vmem ⟨4, ![n, 4, 256, 512]⟩ .f32) (q : PosShare TreeShare) (Xs : Fin n × Fin 4 → Vec F S1x1x256x512 .f32) :
    bigSep Finset.univ (fun p => owns (c : Thread nD τ) (m.slice (rc n p) (fun _ => rfl)) q (Xs p))
      ⊢ (owns (c : Thread nD τ) m q (glue Xs) : sProp 𝕄) := by
  have h : bigSep Finset.univ (fun p => owns (c : Thread nD τ) (m.slice (rc n p) (fun _ => rfl)) q (Xs p))
      = (bigSep Finset.univ (fun p => owns (c : Thread nD τ) (m.slice (rc n p) (fun _ => rfl)) q (fun j => glue Xs ((rc n p).emb j))) : sProp 𝕄) :=
    bigSep_congr fun p _ => by rw [glue_emb Xs p]
  rw [h]
  exact owns_of_rects (c : Thread nD τ) m q (rc n) (fun _ _ => rfl) rc_disj (rc_cov n) (glue Xs)

/-! ## The slots of a device -/

/-- The slots, as the places of the two arrays. -/
def slotEquiv : (Fin 2 × Fin 4) ⊕ (Fin 4 × Fin 4) ≃ Slot where
  toFun | .inl p => .cm p.1 p.2 | .inr p => .bk p.1 p.2
  invFun | .cm s k => .inl (s, k) | .bk r k => .inr (r, k)
  left_inv x := by cases x <;> rfl
  right_inv a := by cases a <;> rfl

theorem bs_slot (P : Slot → sProp 𝕄) : bigSep Finset.univ P
    = iprop(bigSep Finset.univ (fun p : Fin 2 × Fin 4 => P (.cm p.1 p.2)) ∗ bigSep Finset.univ fun p : Fin 4 × Fin 4 => P (.bk p.1 p.2)) :=
  (bigSep_univ_equiv slotEquiv P).trans (bigSep_univ_sum _)

/-- The blocks of the second array, counted from the device's own place. -/
def rot (c : Dev nD) : Fin 4 × Fin 4 ≃ Fin 4 × Fin 4 where
  toFun p := (qv c + p.1, p.2)
  invFun p := (p.1 - qv c, p.2)
  left_inv p := Prod.ext ((by decide : ∀ a b : Fin 4, a + b - a = b) (qv c) p.1) rfl
  right_inv p := Prod.ext ((by decide : ∀ a b : Fin 4, a + (b - a) = b) (qv c) p.1) rfl

theorem bs_rot (c : Dev nD) (P : Fin 4 × Fin 4 → sProp 𝕄) :
    bigSep Finset.univ P = bigSep Finset.univ fun p : Fin 4 × Fin 4 => P (qv c + p.1, p.2) := bigSep_univ_equiv (rot c) P

/-- The second array, cut and put together by the blocks so counted. -/
theorem cut_bk (c : Dev nD) (q : PosShare TreeShare) (X : Vec F S4x4x256x512 .f32) :
    (owns (c : Thread nD τ) (Memref.whole cc0_scratch1) q X : sProp 𝕄)
      ⊢ bigSep Finset.univ fun p : Fin 4 × Fin 4 => slotAt c (.bk p.1 p.2) q (fun j => X ((rc 4 (qv c + p.1, p.2)).emb j)) :=
  (cut (n := 4) c (Memref.whole cc0_scratch1) q X).trans (Entails.of_eq (bs_rot c _))
theorem uncut_bk (c : Dev nD) (q : PosShare TreeShare) (Xs : Fin 4 × Fin 4 → Vec F S1x1x256x512 .f32) :
    bigSep Finset.univ (fun p : Fin 4 × Fin 4 => slotAt c (.bk p.1 p.2) q (Xs (qv c + p.1, p.2)))
      ⊢ (owns (c : Thread nD τ) (Memref.whole cc0_scratch1) q (glue (n := 4) Xs) : sProp 𝕄) :=
  (Entails.of_eq (bs_rot c (fun p => owns (c : Thread nD τ) ((Memref.whole cc0_scratch1).slice (rc 4 p) (fun _ => rfl)) q (Xs p))).symm).trans
    (uncut (n := 4) c (Memref.whole cc0_scratch1) q Xs)

/-- Both arrays held whole are all slots held whole, at whatever contents. -/
theorem all_slots (c : Dev nD) :
    (iprop((∃ X, owns (c : Thread nD τ) (Memref.whole cc0_scratch0) fullShare X) ∗ ∃ X, owns (c : Thread nD τ) (Memref.whole cc0_scratch1) fullShare X) : sProp 𝕄)
      ⊣⊢ bigSep Finset.univ (fun a => iprop(∃ X, slotAt c a fullShare X)) := by
  rw [bs_slot]
  constructor
  · iintro ⟨⟨%X, H⟩, %X', H'⟩
    isplitl [H]
    · have h : (bigSep Finset.univ fun p => owns (c : Thread nD τ) ((Memref.whole cc0_scratch0).slice (rc 2 p) (fun _ => rfl)) fullShare (fun j => X ((rc 2 p).emb j)))
          ⊢ (bigSep Finset.univ (fun p : Fin 2 × Fin 4 => iprop(∃ X, slotAt c (.cm p.1 p.2) fullShare X)) : sProp 𝕄) := bigSep_mono fun p _ => by
        show slotAt c (.cm p.1 p.2) fullShare (fun j => X ((rc 2 p).emb j)) ⊢ iprop(∃ X, slotAt c (.cm p.1 p.2) fullShare X)
        iintro H; iexists _; iexact H
      iapply h
      iapply (cut (n := 2) c (Memref.whole cc0_scratch0) fullShare X); iexact H
    · have h : (bigSep Finset.univ fun p : Fin 4 × Fin 4 => slotAt c (.bk p.1 p.2) fullShare (fun j => X' ((rc 4 (qv c + p.1, p.2)).emb j)))
          ⊢ (bigSep Finset.univ (fun p : Fin 4 × Fin 4 => iprop(∃ X, slotAt c (.bk p.1 p.2) fullShare X)) : sProp 𝕄) := bigSep_mono fun p _ => by
        show slotAt c (.bk p.1 p.2) fullShare (fun j => X' ((rc 4 (qv c + p.1, p.2)).emb j)) ⊢ iprop(∃ X, slotAt c (.bk p.1 p.2) fullShare X)
        iintro H; iexists _; iexact H
      iapply h
      iapply (cut_bk c fullShare X'); iexact H'
  · have h2 : (bigSep Finset.univ fun p : Fin 2 × Fin 4 => iprop(∃ X, slotAt (F := F) c (.cm p.1 p.2) fullShare X))
        ⊢ iprop(∃ X : Fin 2 × Fin 4 → Vec F S1x1x256x512 .f32, bigSep Finset.univ fun p => slotAt c (.cm p.1 p.2) fullShare (X p)) :=
      bigSep_choose Finset.univ _
    have h4 : (bigSep Finset.univ fun p : Fin 4 × Fin 4 => iprop(∃ X, slotAt (F := F) c (.bk p.1 p.2) fullShare X))
        ⊢ iprop(∃ X : Fin 4 × Fin 4 → Vec F S1x1x256x512 .f32, bigSep Finset.univ fun p => slotAt c (.bk p.1 p.2) fullShare (X p)) :=
      bigSep_choose Finset.univ _
    iintro ⟨H, H'⟩
    icases h2 $$ H with ⟨%X, H⟩
    icases h4 $$ H' with ⟨%X', H'⟩
    isplitl [H]
    · iexists _
      iapply (uncut (n := 2) c (Memref.whole cc0_scratch0) fullShare X); iexact H
    · have e : bigSep Finset.univ (fun p : Fin 4 × Fin 4 => slotAt c (.bk p.1 p.2) fullShare (X' p))
          = (bigSep Finset.univ (fun p : Fin 4 × Fin 4 => slotAt c (.bk p.1 p.2) fullShare (X' ((rot c).symm (qv c + p.1, p.2)))) : sProp 𝕄) :=
        bigSep_congr fun p _ => by rw [show (rot c).symm (qv c + p.1, p.2) = p from (rot c).symm_apply_apply p]
      icases (Entails.of_eq e) $$ H' with H'
      iexists _
      iapply (uncut_bk c fullShare (fun p => X' ((rot c).symm p))); iexact H'

end Cert.KernelIdeal.Ring

end
-- ==== Proof.Ring.Gather.lean ====
/-
# Part 36: the whole product

When all blocks have arrived a device holds some share of every slot of the second scratch array. A common share of all of
them is that share of the whole array, at the blocks of the four devices with the same inner place. The program reads the
four blocks and writes each into its strip of the output.
-/
module

public import proofs.«01_k».proof.Proof.Ring.BodyD
public import proofs.«01_k».proof.Proof.Ring.Slots
public import Idealize.ShloMosaic.Lib.Pipeline.Value
@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ

/-! ## The strips of the output -/

theorem strip_inb (o : Fin 4) : ∀ a, (![0, 0, 512 * o.val] : Fin 3 → Nat) a + S4x256x512.size a ≤ S4x256x2048.size a := by
  revert o; decide
theorem quarter_inb (o : Fin 4) : ∀ a, (![o.val, 0, 0, 0] : Fin 4 → Nat) a + S1x4x256x512.size a ≤ S4x4x256x512.size a := by
  revert o; decide

/-- The strip of the output that block `o` fills, and block `o` of the second scratch array. -/
def strip (o : Fin 4) : Rect S4x256x2048 := Rect.unit (s := S4x256x2048) ![0, 0, 512 * o.val] S4x256x512.size (strip_inb o)
def quarter (o : Fin 4) : Rect S4x4x256x512 := Rect.unit (s := S4x4x256x512) ![o.val, 0, 0, 0] S1x4x256x512.size (quarter_inb o)

theorem strip_disj (o o' : Fin 4) (h : o ≠ o') : Disjoint (strip o).set (strip o').set := by
  refine Rect.unit_disjoint 2 ?_
  have : o.val ≠ o'.val := fun e => h (Fin.ext e)
  show 512 * o.val + 512 ≤ 512 * o'.val ∨ 512 * o'.val + 512 ≤ 512 * o.val
  omega

theorem strip_cov : (Finset.univ : Finset (Fin 4)).biUnion (fun o => (strip o).set) = Finset.univ := by
  refine Finset.eq_univ_iff_forall.mpr fun i => ?_
  have h0 : (i 0).val < 4 := (i 0).isLt
  have h1 : (i 1).val < 256 := (i 1).isLt
  have h2 : (i 2).val < 2048 := (i 2).isLt
  refine Finset.mem_biUnion.mpr ⟨⟨(i 2).val / 512, by omega⟩, Finset.mem_univ _, Rect.mem_set_unit.mpr fun a => ?_⟩
  fin_cases a
  · show 0 ≤ (i 0).val ∧ (i 0).val < 0 + 4; omega
  · show 0 ≤ (i 1).val ∧ (i 1).val < 0 + 256; omega
  · show 512 * ((i 2).val / 512) ≤ (i 2).val ∧ (i 2).val < 512 * ((i 2).val / 512) + 512; omega

/-- Where an element of the output lies in the blocks; and the output laid out from them: strip `o` holds block `o`. -/
def from4 (i : S4x256x2048.Idx) : S4x4x256x512.Idx
  | 0 => ⟨(i 2).val / 512, by have h : (i 2).val < 2048 := (i 2).isLt; show _ < 4; omega⟩
  | 1 => i 0
  | 2 => i 1
  | 3 => ⟨(i 2).val % 512, Nat.mod_lt _ (by decide)⟩
def laid (b : Vec F S4x4x256x512 .f32) : Vec F S4x256x2048 .f32 := fun i => b (from4 i)

/-- A strip is its block with the leading axis dropped. -/
theorem laid_strip (b : Vec F S4x4x256x512 .f32) (o : Fin 4) :
    (fun j => laid b ((strip o).emb j)) = k0_pay26 (fun j => b ((quarter o).emb j)) := by
  funext j
  unfold k0_pay26
  refine Eq.trans ?_ (shapeCast_dropUnit_apply ![4, 256, 512] _ _ j).symm
  show b (from4 ((strip o).emb j)) = b ((quarter o).emb (Fin.cons ⟨0, Nat.one_pos⟩ j))
  have h2 : (j 2).val < 512 := (j 2).isLt
  congr 1
  funext a
  refine Fin.ext ?_
  fin_cases a
  · show (512 * o.val + 1 * (j 2).val) / 512 = o.val + 1 * 0; omega
  · show 0 + 1 * (j 0).val = 0 + 1 * (j 0).val; rfl
  · show 0 + 1 * (j 1).val = 0 + 1 * (j 1).val; rfl
  · show (512 * o.val + 1 * (j 2).val) % 512 = 0 + 1 * (j 2).val; omega

/-! ## Shares of the slots -/

/-- What a holding of a slot is beyond the common share. -/
def more (c : Dev nD) (a : Slot) (X : Vec F S1x1x256x512 .f32) : Sh → sProp 𝕄
  | .f => iprop(slotAt c a fullShare.left X ∗ slotAt c a fullShare.right.left X)
  | .r => slotAt c a fullShare.right.left X
  | .rr => iprop(emp)

theorem shares (c : Dev nD) (a : Slot) (X : Vec F S1x1x256x512 .f32) (q : Sh) :
    (slotAt c a q.sh X : sProp 𝕄) ⊣⊢ iprop(slotAt c a fullShare.right.right X ∗ more c a X q) := by
  cases q with
  | f =>
    show (slotAt c a fullShare X : sProp 𝕄) ⊣⊢ iprop(slotAt c a fullShare.right.right X ∗ slotAt c a fullShare.left X ∗ slotAt c a fullShare.right.left X)
    constructor
    · iintro H
      icases (owns_halves c (mem c a) fullShare X).1 $$ H with ⟨Hl, H⟩
      icases (owns_halves c (mem c a) fullShare.right X).1 $$ H with ⟨Hm, H⟩
      isplitl [H]; · iexact H
      isplitl [Hl] <;> iassumption
    · iintro ⟨H, Hl, Hm⟩
      iapply (owns_halves c (mem c a) fullShare X).2
      isplitl [Hl]; · iexact Hl
      iapply (owns_halves c (mem c a) fullShare.right X).2
      isplitl [Hm] <;> iassumption
  | r =>
    show (slotAt c a fullShare.right X : sProp 𝕄) ⊣⊢ iprop(slotAt c a fullShare.right.right X ∗ slotAt c a fullShare.right.left X)
    constructor
    · iintro H
      icases (owns_halves c (mem c a) fullShare.right X).1 $$ H with ⟨Hm, H⟩
      isplitl [H] <;> iassumption
    · iintro ⟨H, Hm⟩
      iapply (owns_halves c (mem c a) fullShare.right X).2
      isplitl [Hm] <;> iassumption
  | rr =>
    show (slotAt c a fullShare.right.right X : sProp 𝕄) ⊣⊢ iprop(slotAt c a fullShare.right.right X ∗ emp)
    constructor
    · iintro H; isplitl [H]; · iexact H
      iempintro
    · iintro ⟨H, -⟩; iexact H

/-! ## The blocks, all arrived -/

/-- How much of each block a device holds, and by which transfer it has its contents. -/
def held36 (r k : Fin 4) : Sh :=
  if r = 0 then .rr else if r = 3 ∧ k < 2 then .r else if r = 1 ∧ 2 ≤ k then .r else .f
def by36 (r k : Fin 4) : Cnt :=
  if r = 0 then .own (.sr k) else if r = 3 then .got (.sr k) else if r = 1 then .got (.sl k)
  else if k < 2 then .got (.tr (Fin.ofNat 2 k.val)) else .got (.tl (Fin.ofNat 2 (k.val - 2)))

set_option maxRecDepth 65536 in
theorem slot36 (r k : Fin 4) : s36.slot (.bk r k) = some (held36 r k, by36 r k) := by
  fin_cases r <;> fin_cases k <;> rfl

/-- Row and column of the device whose finished block a slot holds. -/
theorem dv_org : ∀ c : Dev nD, dv (qv c + 0) (zv c) = c ∧ dv (qv c + 1) (zv c) = qr c ∧ dv (qv c + 3) (zv c) = ql c
    ∧ dv (qv c + 2) (zv c) = ql (ql c) ∧ dv (qv c + 2) (zv c) = qr (qr c) := by decide +kernel

variable (O : Dev nD → Vec F S4x512x1024 .f32) (G : Dev nD → Vec F S512x512 .f32) (c : Dev nD) in
/-- The blocks of the four devices with a given inner place. -/
def Blk : Vec F S4x4x256x512 .f32 := glue (n := 4) fun p => pv O G p.2 3 (dv p.1 (zv c))

section
variable {O : Dev nD → Vec F S4x512x1024 .f32} {G : Dev nD → Vec F S512x512 .f32} {c : Dev nD} {κ : GSem nD τ sig → ℕ}

theorem ok36 (r k : Fin 4) (X : Vec F S1x1x256x512 .f32) :
    (by36 r k).ok (val O G) c X ↔ X = pv O G k 3 (dv (qv c + r) (zv c)) := by
  obtain ⟨h0, h1, h3, h2, h2'⟩ := dv_org c
  fin_cases r
  · show X = pv O G k 3 c ↔ X = pv O G k 3 (dv (qv c + 0) (zv c)); rw [h0]
  · show X = pv O G k 3 (qr c) ↔ X = pv O G k 3 (dv (qv c + 1) (zv c)); rw [h1]
  · fin_cases k
    · show X = pv O G 0 3 (ql (ql c)) ↔ X = pv O G 0 3 (dv (qv c + 2) (zv c)); rw [h2]
    · show X = pv O G 1 3 (ql (ql c)) ↔ X = pv O G 1 3 (dv (qv c + 2) (zv c)); rw [h2]
    · show X = pv O G 2 3 (qr (qr c)) ↔ X = pv O G 2 3 (dv (qv c + 2) (zv c)); rw [h2']
    · show X = pv O G 3 3 (qr (qr c)) ↔ X = pv O G 3 3 (dv (qv c + 2) (zv c)); rw [h2']
  · show X = pv O G k 3 (ql c) ↔ X = pv O G k 3 (dv (qv c + 3) (zv c)); rw [h3]

/-- A block's slot: the common share of its contents, and the rest. -/
theorem slot_rr (r k : Fin 4) : (slotR (val O G) c (.bk r k) (s36.slot (.bk r k)) : sProp 𝕄)
    ⊣⊢ iprop(slotAt c (.bk r k) fullShare.right.right (pv O G k 3 (dv (qv c + r) (zv c)))
      ∗ more c (.bk r k) (pv O G k 3 (dv (qv c + r) (zv c))) (held36 r k)) := by
  rw [slot36 r k]
  show iprop(∃ X, ⌜(by36 r k).ok (val O G) c X⌝ ∗ slotAt c (.bk r k) (held36 r k).sh X) ⊣⊢ _
  constructor
  · iintro ⟨%X, %hX, H⟩
    rw [(ok36 r k X).mp hX]
    iapply (shares c (.bk r k) _ (held36 r k)).1
    iexact H
  · iintro H
    iexists _
    isplitr; · ipureintro; exact (ok36 r k _).mpr rfl
    iapply (shares c (.bk r k) _ (held36 r k)).2
    iexact H

/-- The common share of all blocks, as that share of the whole array. -/
theorem gather {Fr : sProp 𝕄} : (M (val O G) c κ Fr s36 : sProp 𝕄)
    ⊢ iprop(Fr ∗ owns (c : Thread nD τ) (Memref.whole cc0_scratch1) fullShare.right.right (Blk O G c)
      ∗ (∀ R : sProp 𝕄, R -∗ owns (c : Thread nD τ) (Memref.whole cc0_scratch1) fullShare.right.right (Blk O G c) -∗ M (val O G) c κ R s36)) := by
  have hx : (bigSep Finset.univ (fun p : Fin 4 × Fin 4 => slotR (val O G) c (.bk p.1 p.2) (s36.slot (.bk p.1 p.2))) : sProp 𝕄)
      ⊢ iprop(bigSep Finset.univ (fun p : Fin 4 × Fin 4 => slotAt c (.bk p.1 p.2) fullShare.right.right (pv O G p.2 3 (dv (qv c + p.1) (zv c))))
        ∗ bigSep Finset.univ fun p : Fin 4 × Fin 4 => more c (.bk p.1 p.2) (pv O G p.2 3 (dv (qv c + p.1) (zv c))) (held36 p.1 p.2)) := by
    rw [← bigSep_sep']
    exact bigSep_mono fun p _ => (slot_rr p.1 p.2).1
  have hy : iprop(bigSep Finset.univ (fun p : Fin 4 × Fin 4 => slotAt c (.bk p.1 p.2) fullShare.right.right (pv O G p.2 3 (dv (qv c + p.1) (zv c))))
        ∗ bigSep Finset.univ fun p : Fin 4 × Fin 4 => more c (.bk p.1 p.2) (pv O G p.2 3 (dv (qv c + p.1) (zv c))) (held36 p.1 p.2))
      ⊢ (bigSep Finset.univ (fun p : Fin 4 × Fin 4 => slotR (val O G) c (.bk p.1 p.2) (s36.slot (.bk p.1 p.2))) : sProp 𝕄) := by
    rw [← bigSep_sep']
    exact bigSep_mono fun p _ => (slot_rr p.1 p.2).2
  have hc : (owns (c : Thread nD τ) (Memref.whole cc0_scratch1) fullShare.right.right (Blk O G c) : sProp 𝕄)
      ⊢ bigSep Finset.univ (fun p : Fin 4 × Fin 4 => slotAt c (.bk p.1 p.2) fullShare.right.right (pv O G p.2 3 (dv (qv c + p.1) (zv c)))) := by
    have h (p : Fin 4 × Fin 4) : (fun j => Blk O G c ((rc 4 (qv c + p.1, p.2)).emb j)) = pv O G p.2 3 (dv (qv c + p.1) (zv c)) :=
      glue_emb (n := 4) (fun p => pv O G p.2 3 (dv p.1 (zv c))) (qv c + p.1, p.2)
    refine (cut_bk c _ _).trans (bigSep_mono fun p _ => ?_)
    show (slotAt c (.bk p.1 p.2) fullShare.right.right (fun j => Blk O G c ((rc 4 (qv c + p.1, p.2)).emb j)) : sProp 𝕄)
      ⊢ slotAt c (.bk p.1 p.2) fullShare.right.right (pv O G p.2 3 (dv (qv c + p.1) (zv c)))
    iintro H
    iapply (Entails.of_eq (congrArg (fun X => (slotAt c (.bk p.1 p.2) fullShare.right.right X : sProp 𝕄)) (h p)))
    iexact H
  unfold M
  iintro ⟨HR, HO, Hs, Hn, Hr, Hz, Hg, HF⟩
  icases (Entails.of_eq (bs_slot _)) $$ Hs with ⟨Hcm, Hbk⟩
  icases hx $$ Hbk with ⟨Hbk, Hm⟩
  isplitl [HF]; · iexact HF
  isplitl [Hbk]
  · iapply (uncut_bk c fullShare.right.right (fun p => pv O G p.2 3 (dv p.1 (zv c)))); iexact Hbk
  iintro %R HF Hbk
  isplitl [HR]; · iexact HR
  isplitl [HO]; · iexact HO
  isplitl [Hcm Hbk Hm]
  · iapply (Entails.of_eq (bs_slot _).symm)
    isplitl [Hcm]; · iexact Hcm
    iapply hy
    isplitl [Hbk]
    · iapply hc; iexact Hbk
    · iexact Hm
  isplitl [Hn]; · iexact Hn
  isplitl [Hr]; · iexact Hr
  isplitl [Hz]; · iexact Hz
  isplitl [Hg]; · iexact Hg
  iexact HF

/-- The output window, as its four strips. -/
theorem strips (c : Dev nD) (m : Memref sig .tc .vmem S4x256x2048 .f32) (Y : Vec F S4x256x2048 .f32) : (owns (c : Thread nD τ) m fullShare Y : sProp 𝕄)
    ⊣⊢ bigSep Finset.univ fun o => owns (c : Thread nD τ) (m.slice (strip o) (fun _ => rfl)) fullShare (fun j => Y ((strip o).emb j)) :=
  ⟨owns_rects (c : Thread nD τ) m fullShare strip (fun _ _ => rfl) strip_disj strip_cov Y,
    owns_of_rects (c : Thread nD τ) m fullShare strip (fun _ _ => rfl) strip_disj strip_cov Y⟩

variable {m0 : Memref sig .tc .vmem S4x512x1024 .f32} {h0 : m0.IsWhole} {m1 : Memref sig .tc .vmem S512x512 .f32} {h1 : m1.IsWhole}
variable {m2 : Memref sig .tc .vmem S4x256x2048 .f32} {h2 : m2.IsWhole} {Y : Vec F S4x256x2048 .f32}
variable {h3 : (Memref.whole cc0_scratch0 : Memref sig .tc .vmem S2x4x256x512 .f32).IsWhole}
variable {h4 : (Memref.whole cc0_scratch1 : Memref sig .tc .vmem S4x4x256x512 .f32).IsWhole}

set_option maxRecDepth 65536 in
/-- The last block arrives, and the output window is filled. -/
theorem part36 {Q : (PUnit) → sProp 𝕄} (hk : M (val O G) c κ (Ops c m0 m1 m2 (O c) (G c) (laid (Blk O G c))) s36 ⊢ W c (.ret ⟨⟩) Q) :
    M (val O G) c κ (Ops c m0 m1 m2 (O c) (G c) Y) s35 ⊢ W c (k0_part36 m0 h0 m1 h1 m2 h2 (Memref.whole cc0_scratch0) h3 (Memref.whole cc0_scratch1) h4 cc0_scratch2 cc0_scratch3 cc0_scratch4 cc0_scratch5 cc0_scratch6
      cc0_scratch7 cc0_scratch8 cc0_scratch9 cc0_scratch10 cc0_scratch11 cc0_scratch12 c) Q := by
  simp only [k0_part36_eq_skeleton]
  unfold k0_part36_skel
  simp only [semSignalWord, semWaitWord, Prog.lift, Prog.bind_op, Prog.bind_ret, Prog.pure_eq_ret, Prog.bind_assoc]
  refine step_recv (.tl 1) rfl rfl rfl (by decide) (by rfl) ?_
  have e (o : Fin 4) : (owns (c : Thread nD τ) (m2.slice (strip o) (fun _ => rfl)) fullShare (k0_pay26 fun j => Blk O G c ((quarter o).emb j)) : sProp 𝕄)
      = owns (c : Thread nD τ) (m2.slice (strip o) (fun _ => rfl)) fullShare (fun j => laid (Blk O G c) ((strip o).emb j)) := by rw [laid_strip]
  unfold Ops
  refine (gather (O := O) (G := G) (c := c) (κ := κ)).trans ?_
  iintro H
  icases H with ⟨⟨H0, H1, H2, Hb⟩, HB, Hk⟩
  icases (strips c m2 Y).1 $$ H2 with H2
  icases (Entails.of_eq (bs_four _)) $$ H2 with ⟨S0, S1, S2, S3⟩
  iapply (wp_in (r := quarter 0)) $$ HB
  iintro HB
  iapply (wp_ld c (r := strip 0) (fun _ => rfl)) $$ S0
  iintro S0
  iapply (wp_st c (r := strip 0) (fun _ => rfl)) $$ S0
  iintro S0
  iapply (wp_in (r := quarter 1)) $$ HB
  iintro HB
  iapply (wp_ld c (r := strip 1) (fun _ => rfl)) $$ S1
  iintro S1
  iapply (wp_st c (r := strip 1) (fun _ => rfl)) $$ S1
  iintro S1
  iapply (wp_in (r := quarter 2)) $$ HB
  iintro HB
  iapply (wp_ld c (r := strip 2) (fun _ => rfl)) $$ S2
  iintro S2
  iapply (wp_st c (r := strip 2) (fun _ => rfl)) $$ S2
  iintro S2
  iapply (wp_in (r := quarter 3)) $$ HB
  iintro HB
  iapply (wp_ld c (r := strip 3) (fun _ => rfl)) $$ S3
  iintro S3
  iapply (wp_st c (r := strip 3) (fun _ => rfl)) $$ S3
  iintro S3
  iapply hk
  iapply Hk $$ [H0 H1 Hb S0 S1 S2 S3] [HB]
  · unfold Ops
    isplitl [H0]; · iexact H0
    isplitl [H1]; · iexact H1
    isplitr [Hb]
    · iapply (strips c m2 (laid (Blk O G c))).2
      iapply (Entails.of_eq (bs_four _).symm)
      isplitl [S0]; · iapply (Entails.of_eq (e 0)); iexact S0
      isplitl [S1]; · iapply (Entails.of_eq (e 1)); iexact S1
      isplitl [S2]; · iapply (Entails.of_eq (e 2)); iexact S2
      iapply (Entails.of_eq (e 3)); iexact S3
    · iexact Hb
  · iexact HB

end

end Cert.KernelIdeal.Ring

end
-- ==== Proof.Ring.Start.lean ====
/-
# The program, parts 1 and 2

The device reads its number, and meets its neighbours.
-/
module

public import proofs.«01_k».proof.Proof.Ring.Barrier

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ

section
variable {O : Dev nD → Vec F S4x512x1024 .f32} {G : Dev nD → Vec F S512x512 .f32} {c : Dev nD} {κ : GSem nD τ sig → ℕ}
variable {m0 : Memref sig .tc .vmem S4x512x1024 .f32} {h0 : m0.IsWhole} {m1 : Memref sig .tc .vmem S512x512 .f32} {h1 : m1.IsWhole}
variable {m2 : Memref sig .tc .vmem S4x256x2048 .f32} {h2 : m2.IsWhole} {Y : Vec F S4x256x2048 .f32}
variable {h3 : (Memref.whole cc0_scratch0 : Memref sig .tc .vmem S2x4x256x512 .f32).IsWhole}
variable {h4 : (Memref.whole cc0_scratch1 : Memref sig .tc .vmem S4x4x256x512 .f32).IsWhole}

/-- After the barrier a device holds what the rest of the program needs. -/
theorem met {Y' : sProp 𝕄} (v : Xf → Dev nD → Vec F S1x1x256x512 .f32) :
    iprop(recs v κ ∗ ((∃ W, owes (c : Thread nD τ) (owed c s2.rem) W) ∗ atPos ER (barCell c) 1 ∅ 0 ∗ paying ER (crCell (zl c)) 0 (.cr 0) 0
          ∗ bigSep Finset.univ (fun t => if early t then lz t c else iprop(emp)) ∗ bigSep Finset.univ fun t => reached ER (rcvCell t (tgt t c)) 0)
      ∗ bigSep Finset.univ (fun a => slotR v c a (s2.slot a)) ∗ bigSep Finset.univ (fun t => sndP c t) ∗ bigSep Finset.univ (fun t => rcvR c t false)
      ∗ (atPos ER (crCell c) 0 ∅ 0 ∗ bigSep (Finset.Ico 0 8) (fun k => cred (tallyAt (crCell c) k 1))) ∗ Y')
    ⊢ (iprop(M v c κ Y' s2 ∗ atPos ER (barCell c) 1 ∅ 0) : sProp 𝕄) := by
  have hn : iprop(bigSep Finset.univ (fun t => sndP (F := F) c t) ∗ bigSep Finset.univ fun t => reached ER (rcvCell t (tgt t c)) 0)
      ⊢ bigSep Finset.univ (fun t => sndR v c t (s2.snd t)) := by
    rw [← bigSep_sep']
    refine bigSep_mono fun t _ => ?_
    unfold sndP
    show _ ⊢ iprop(dutyTok ER (sndCell t c) 0 (.snd t) ∗ reached ER (sndCell t c) 0
      ∗ dutyTok ER (rcvCell t (tgt t c)) 0 (.rcv t) ∗ reached ER (rcvCell t (tgt t c)) 0 ∗ atPos ER (sndCell t c) 0 ∅ 0)
    iintro ⟨⟨H1, H2, H3, H4⟩, H5⟩
    isplitl [H1]; · iexact H1
    isplitl [H2]; · iexact H2
    isplitl [H3]; · iexact H3
    isplitl [H5]; · iexact H5
    iexact H4
  have hz : bigSep Finset.univ (fun t => if early t then lz (F := F) t c else iprop(emp)) = bigSep Finset.univ (fun t => zoneR c t (s2.zone t)) :=
    bigSep_congr fun t _ => by
      show (if early t then lz (F := F) t c else iprop(emp)) = zoneR c t (early t)
      cases early t <;> rfl
  unfold M goR
  rw [hz]
  iintro ⟨HR, ⟨HO, Hb, Hg, Hz, Hr⟩, Hs, Hn, Hv, ⟨Hp, Hc⟩, HY⟩
  isplitr [Hb]
  · isplitl [HR]; · iexact HR
    isplitl [HO]; · iexact HO
    isplitl [Hs]; · iexact Hs
    isplitl [Hn Hr]
    · iapply hn
      isplitl [Hn]; · iexact Hn
      iexact Hr
    isplitl [Hv]; · iexact Hv
    isplitl [Hz]; · iexact Hz
    isplitl [Hg Hp Hc]
    · isplitl [Hg]; · iexact Hg
      isplitl [Hp]; · iexact Hp
      iexact Hc
    iexact HY
  iexact Hb

set_option maxRecDepth 65536 in
/-- The four signals and the wait. -/
theorem part2 {v2 v5 v8 v13 v16 v19 v21 v25 v27 v32 c1 : BitVec 32}
    {Q : (Σ' (v55 : BitVec 32) (v58 : BitVec 32) (v60 : BitVec 32), BitVec 32) → sProp 𝕄}
    (hk : ∀ a b d e, M (val O G) c κ (Ops c m0 m1 m2 (O c) (G c) Y) s2 ⊢ W c (.ret ⟨a, b, d, e⟩) Q) :
    iprop(Begin (val O G) c κ ∗ owns (c : Thread nD τ) m0 fullShare (O c) ∗ owns (c : Thread nD τ) m1 fullShare (G c) ∗ owns (c : Thread nD τ) m2 fullShare Y)
      ⊢ W c (k0_part2 m0 h0 m1 h1 m2 h2 (Memref.whole cc0_scratch0) h3 (Memref.whole cc0_scratch1) h4 cc0_scratch2 cc0_scratch3 cc0_scratch4 cc0_scratch5 cc0_scratch6
      cc0_scratch7 cc0_scratch8 cc0_scratch9 cc0_scratch10 cc0_scratch11 cc0_scratch12 c v2 v5 v8 v13 v16 v19 v21 v25 v27 (SemArray.scalar (sig.barrier 0 rfl)) v32 c1) Q := by
  simp only [k0_part2_eq_skeleton]
  unfold k0_part2_skel
  simp only [semSignalWord, semWaitWord, Prog.lift, Prog.bind_op, Prog.bind_ret, Prog.pure_eq_ret, Prog.bind_assoc]
  unfold Begin
  iintro ⟨⟨#HR, ⟨%Wt, HO⟩, Hs, Hn, Hv, Hr, Ht, Hc, ⟨Hb, Hp⟩, Hq⟩, H0, H1, H2⟩
  icases (Entails.of_eq (bs_four _)) $$ Ht with ⟨Ht0, Ht1, Ht2, Ht3⟩
  icases (gifts (val := val O G) (c := c)) $$ [Hs Hr Hc] with ⟨Hs, Hg0, Hg1, Hg2, Hg3⟩
  · isplitl [Hs]; · iexact Hs
    isplitl [Hr]; · iexact Hr
    iexact Hc
  iapply (step_bar (κ := κ) 0 (Pay.all.drop 1) (dev_zl c).1 rfl rfl) $$ [HO Ht0 Hg0]
  · isplitr; · iexact HR
    isplitl [HO]; · iexact HO
    isplitl [Ht0]; · iexact Ht0
    iexact Hg0
  iintro HO
  iapply (step_bar (κ := κ) 1 (Pay.all.drop 2) (dev_zr c).1 rfl rfl) $$ [HO Ht1 Hg1]
  · isplitr; · iexact HR
    isplitl [HO]; · iexact HO
    isplitl [Ht1]; · iexact Ht1
    iexact Hg1
  iintro HO
  iapply (step_bar (κ := κ) 2 (Pay.all.drop 3) (dev_ql c).1 rfl rfl) $$ [HO Ht2 Hg2]
  · isplitr; · iexact HR
    isplitl [HO]; · iexact HO
    isplitl [Ht2]; · iexact Ht2
    iexact Hg2
  iintro HO
  iapply (step_bar (κ := κ) 3 (Pay.all.drop 4) (dev_qr c).1 rfl rfl) $$ [HO Ht3 Hg3]
  · isplitr; · iexact HR
    isplitl [HO]; · iexact HO
    isplitl [Ht3]; · iexact Ht3
    iexact Hg3
  iintro HO
  iapply (step_meet (val := val O G) (κ := κ) (Pay.all.drop 4) (by decide) rfl rfl) $$ [HO Hb Hp]
  · isplitr; · iexact HR
    isplitl [HO]; · iexact HO
    isplitl [Hb]; · iexact Hb
    iexact Hp
  iintro Hm
  iapply (hk _ _ _ _)
  icases (met (c := c) (κ := κ) (val O G) (Y' := iprop(owns (c : Thread nD τ) m0 fullShare (O c) ∗ owns (c : Thread nD τ) m1 fullShare (G c) ∗ owns (c : Thread nD τ) m2 fullShare Y)))
    $$ [Hm Hs Hn Hv Hq H0 H1 H2] with ⟨H, Hb⟩
  · isplitr; · iexact HR
    isplitl [Hm]; · iexact Hm
    isplitl [Hs]; · iexact Hs
    isplitl [Hn]; · iexact Hn
    isplitl [Hv]; · iexact Hv
    isplitl [Hq]; · iexact Hq
    isplitl [H0]; · iexact H0
    isplitl [H1]; · iexact H1
    iexact H2
  icases (M_frame s2).1 $$ H with ⟨H, H0, H1, H2⟩
  iapply (M_frame s2).2
  isplitl [H]; · iexact H
  isplitl [H0]; · iexact H0
  isplitl [H1]; · iexact H1
  isplitl [H2]; · iexact H2
  iexact Hb

set_option maxRecDepth 65536 in
/-- The device reads its number. -/
theorem part1 {P : sProp 𝕄} {Q : _ → sProp 𝕄}
    (hk : ∀ v2 v5 v8 v11 v13 v16 v19 v21 v25 v27 v32 c1, P ⊢ W c (.ret ⟨c, v2, v5, v8, v11, v13, v16, v19, v21, v25, v27, SemArray.scalar (sig.barrier 0 rfl), v32, c1⟩) Q) :
    P ⊢ W c (k0_part1 (F := F) m0 h0 m1 h1 m2 h2 (Memref.whole cc0_scratch0) h3 (Memref.whole cc0_scratch1) h4 cc0_scratch2 cc0_scratch3 cc0_scratch4 cc0_scratch5 cc0_scratch6
      cc0_scratch7 cc0_scratch8 cc0_scratch9 cc0_scratch10 cc0_scratch11 cc0_scratch12) Q := by
  simp only [k0_part1_eq_skeleton]
  unfold k0_part1_skel
  simp only [semSignalWord, semWaitWord, Prog.lift, Prog.bind_op, Prog.bind_ret, Prog.pure_eq_ret, Prog.bind_assoc, wp_deviceId]
  exact hk _ _ _ _ _ _ _ _ _ _ _ _

end

end Cert.KernelIdeal.Ring

end
-- ==== Proof.Ring.Whole.lean ====
/-
# The program as a whole

From what a device holds when it starts to what it holds when it ends, part after part.
-/
module

public import proofs.«01_k».proof.Proof.Ring.Gather
public import proofs.«01_k».proof.Proof.Ring.Start

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ

/-- The state at the end. -/
def s41 : St := s40.read (.tl 1)

section
variable {O : Dev nD → Vec F S4x512x1024 .f32} {G : Dev nD → Vec F S512x512 .f32} {c : Dev nD} {κ : GSem nD τ sig → ℕ}
variable {m0 : Memref sig .tc .vmem S4x512x1024 .f32} {h0 : m0.IsWhole} {m1 : Memref sig .tc .vmem S512x512 .f32} {h1 : m1.IsWhole}
variable {m2 : Memref sig .tc .vmem S4x256x2048 .f32} {h2 : m2.IsWhole} {Y : Vec F S4x256x2048 .f32}
variable {h3 : (Memref.whole cc0_scratch0 : Memref sig .tc .vmem S2x4x256x512 .f32).IsWhole}
variable {h4 : (Memref.whole cc0_scratch1 : Memref sig .tc .vmem S4x4x256x512 .f32).IsWhole}

/-- One part of the program, then the rest. -/
theorem after {α β : Type} {P P' : sProp 𝕄} {p : Prog (TpuEff nD τ sig (Elt F) Λ₀ .tc) α} {k : α → Prog (TpuEff nD τ sig (Elt F) Λ₀ .tc) β} {a : α} {Q : β → sProp 𝕄}
    (hp : ∀ Q', (P' ⊢ W c (.ret a) Q') → P ⊢ W c p Q') (hk : P' ⊢ W c (k a) Q) : P ⊢ W c (p >>= k) Q := by
  rw [W, wp_bind]
  refine hp _ ?_
  rw [W, ← wp_bind frame (wpE (defs₀ (F := F)) 𝒱₀ (c : Thread nD τ) none) Set.univ (.ret a) k Q]
  exact hk

/-- One part that yields some words, whatever they are, then the rest. -/
theorem after_any {ι α β : Type} (f : ι → α) {P P' : sProp 𝕄} {p : Prog (TpuEff nD τ sig (Elt F) Λ₀ .tc) α} {k : α → Prog (TpuEff nD τ sig (Elt F) Λ₀ .tc) β} {Q : β → sProp 𝕄}
    (hp : ∀ Q', (∀ i, P' ⊢ W c (.ret (f i)) Q') → P ⊢ W c p Q') (hk : ∀ i, P' ⊢ W c (k (f i)) Q) : P ⊢ W c (p >>= k) Q := by
  rw [W, wp_bind]
  refine hp _ fun i => ?_
  rw [W, ← wp_bind frame (wpE (defs₀ (F := F)) 𝒱₀ (c : Thread nD τ) none) Set.univ (.ret (f i)) k Q]
  exact hk i

set_option maxRecDepth 65536 in
/-- The whole program. -/
theorem body {Q : PUnit → sProp 𝕄} (hk : M (val O G) c κ (Ops c m0 m1 m2 (O c) (G c) (laid (Blk O G c))) s41 ⊢ W c (.ret ⟨⟩) Q) :
    iprop(Begin (val O G) c κ ∗ owns (c : Thread nD τ) m0 fullShare (O c) ∗ owns (c : Thread nD τ) m1 fullShare (G c) ∗ owns (c : Thread nD τ) m2 fullShare Y)
      ⊢ W c (cc0_body m0 h0 m1 h1 m2 h2 (Memref.whole cc0_scratch0) h3 (Memref.whole cc0_scratch1) h4 cc0_scratch2 cc0_scratch3 cc0_scratch4 cc0_scratch5 cc0_scratch6
      cc0_scratch7 cc0_scratch8 cc0_scratch9 cc0_scratch10 cc0_scratch11 cc0_scratch12) Q := by
  rw [cc0_body_eq_skeleton]
  unfold cc0_body_skel
  refine after_any (fun v : Fin 12 → BitVec 32 => ⟨c, v 0, v 1, v 2, v 3, v 4, v 5, v 6, v 7, v 8, v 9, SemArray.scalar (sig.barrier 0 rfl), v 10, v 11⟩)
    (fun Q' h => part1 fun v2 v5 v8 v11 v13 v16 v19 v21 v25 v27 v32 c1 => h ![v2, v5, v8, v11, v13, v16, v19, v21, v25, v27, v32, c1]) fun v => ?_
  refine after_any (fun i : BitVec 32 × BitVec 32 × BitVec 32 × BitVec 32 => ⟨i.1, i.2.1, i.2.2.1, i.2.2.2⟩) (fun Q' h => part2 fun a b d e => h (a, b, d, e)) fun i => ?_
  refine after (fun Q' h => part3 h) ?_
  refine after (fun Q' h => part4 h) ?_
  refine after_any (fun w : BitVec 32 => w) (fun Q' h => part5 h) fun w5 => ?_
  refine after (fun Q' h => part6 h) ?_
  refine after (fun Q' h => part7 h) ?_
  refine after (fun Q' h => part8 h) ?_
  refine after (fun Q' h => part9 h) ?_
  refine after (fun Q' h => part10 h) ?_
  refine after (fun Q' h => part11 h) ?_
  refine after (fun Q' h => part12 h) ?_
  refine after (fun Q' h => part13 h) ?_
  refine after (fun Q' h => part14 h) ?_
  refine after (fun Q' h => part15 h) ?_
  refine after (fun Q' h => part16 h) ?_
  refine after (fun Q' h => part17 h) ?_
  refine after (fun Q' h => part18 h) ?_
  refine after_any (fun w : BitVec 32 => w) (fun Q' h => part19 h) fun w19 => ?_
  refine after (fun Q' h => part20 h) ?_
  refine after (fun Q' h => part21 h) ?_
  refine after (fun Q' h => part22 h) ?_
  refine after (fun Q' h => part23 h) ?_
  refine after (fun Q' h => part24 h) ?_
  refine after (fun Q' h => part25 h) ?_
  refine after (fun Q' h => part26 h) ?_
  refine after (fun Q' h => part27 h) ?_
  refine after_any (fun w : BitVec 32 × BitVec 32 => ⟨w.1, w.2⟩) (fun Q' h => part28 fun a b => h (a, b)) fun w28 => ?_
  refine after (fun Q' h => part29 h) ?_
  refine after (fun Q' h => part30 h) ?_
  refine after_any (fun w : BitVec 32 => w) (fun Q' h => part31 h) fun w31 => ?_
  refine after (fun Q' h => part32 h) ?_
  refine after (fun Q' h => part33 h) ?_
  refine after_any (fun w : BitVec 32 × BitVec 32 => ⟨w.1, w.2⟩) (fun Q' h => part34 fun a b => h (a, b)) fun w34 => ?_
  refine after (fun Q' h => part35 h) ?_
  refine after (fun Q' h => part36 h) ?_
  refine after (fun Q' h => part37 h) ?_
  refine after (fun Q' h => part38 h) ?_
  refine after (fun Q' h => part39 h) ?_
  refine after (fun Q' h => part40 h) ?_
  simp only [Prog.lift, Prog.bind_op, Prog.bind_ret, Prog.pure_eq_ret]
  refine step_read (.tl 1) rfl rfl (by decide) (by rfl) ?_
  exact hk

end

end Cert.KernelIdeal.Ring

end
-- ==== Proof.Ring.Done.lean ====
/-
# The end of the program

When the program has returned, the shares of every slot come together again, and every semaphore is at zero.
-/
module

public import proofs.«01_k».proof.Proof.Ring.Whole

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ

section
variable (O : Dev nD → Vec F S4x512x1024 .f32) (G : Dev nD → Vec F S512x512 .f32) (c : Dev nD) (κ : GSem nD τ sig → ℕ)

/-- The two halves of a slot held at share `q`. -/
theorem halves (a : Slot) (q : PosShare TreeShare) (X : Vec F S1x1x256x512 .f32) :
    iprop(slotAt c a q.left X ∗ slotAt c a q.right X) ⊢ (slotAt c a q X : sProp 𝕄) := (owns_halves c _ q X).2

/-- What a transfer has given back of its source, for the device to put together. -/
def backR (t : Xf) : Ph → sProp 𝕄
  | .back => slotAt c (src t) (shr t) (val O G t c)
  | _ => iprop(emp)

theorem snd_end : ∀ t : Xf, s41.snd t = .back ∨ s41.snd t = .done := by decide +kernel
theorem got_end : ∀ t : Xf, s41.got t = true := by decide +kernel

/-- At the end every transfer's send semaphore is past its one round. -/
theorem snd_back (t : Xf) : (sndR (val O G) c t (s41.snd t) : sProp 𝕄) ⊢ iprop(atPos ER (sndCell t c) 1 ∅ 0 ∗ backR O G c t (s41.snd t)) := by
  rcases snd_end t with h | h <;> rw [h]
  · exact .rfl
  · show (atPos ER (sndCell t c) 1 ∅ 0 : sProp 𝕄) ⊢ iprop(atPos ER (sndCell t c) 1 ∅ 0 ∗ emp)
    iintro H; isplitl [H]; · iexact H
    iempintro

/-- A family over the transfers, by source. -/
theorem by_src (P : Xf → sProp 𝕄) : bigSep Finset.univ P = bigSep Finset.univ fun a : Slot => bigSep (Finset.univ.filter (src · = a)) P := by
  have h (a : Slot) : bigSep (Finset.univ.filter (src · = a)) P = bigSep Finset.univ fun t => if src t = a then P t else iprop(emp) := bs_filter _ _ _
  rw [funext h, bigSep_univ_comm]
  refine bigSep_congr fun t _ => ?_
  rw [← bs_filter Finset.univ (fun a => src t = a) (fun _ => P t), Finset.filter_eq, if_pos (Finset.mem_univ _), bigSep_singleton]

/-- What comes back to slot `a`. -/
def backs (a : Slot) : sProp 𝕄 := bigSep (Finset.univ.filter (src · = a)) fun t => backR O G c t (s41.snd t)

theorem backs_one (t : Xf) (h : s41.snd t = .back) : (backs O G c (src t) : sProp 𝕄) ⊢ slotAt c (src t) (shr t) (val O G t c) := by
  unfold backs
  iintro H
  icases (Entails.of_eq (bs_erase (s := Finset.univ.filter (src · = src t)) (Finset.mem_filter.mpr ⟨Finset.mem_univ t, rfl⟩) _)) $$ H with ⟨H, -⟩
  iapply (show (backR O G c t (s41.snd t) : sProp 𝕄) ⊢ slotAt c (src t) (shr t) (val O G t c) by rw [h]; exact .rfl); iexact H

theorem backs_two (t t' : Xf) (a : Slot) (hs : src t = a) (hs' : src t' = a) (hne : t' ≠ t) (h : s41.snd t = .back) (h' : s41.snd t' = .back) :
    (backs O G c a : sProp 𝕄) ⊢ iprop(slotAt c (src t) (shr t) (val O G t c) ∗ slotAt c (src t') (shr t') (val O G t' c)) := by
  unfold backs
  iintro H
  icases (Entails.of_eq (bs_erase (Finset.mem_filter.mpr ⟨Finset.mem_univ t, hs⟩) _)) $$ H with ⟨H, Hr⟩
  icases (Entails.of_eq (bs_erase (Finset.mem_erase.mpr ⟨hne, Finset.mem_filter.mpr ⟨Finset.mem_univ t', hs'⟩⟩) _)) $$ Hr with ⟨Hr, -⟩
  isplitl [H]
  · iapply (show (backR O G c t (s41.snd t) : sProp 𝕄) ⊢ slotAt c (src t) (shr t) (val O G t c) by rw [h]; exact .rfl); iexact H
  · iapply (show (backR O G c t' (s41.snd t') : sProp 𝕄) ⊢ slotAt c (src t') (shr t') (val O G t' c) by rw [h']; exact .rfl); iexact Hr

/-- Every slot is whole again. -/
theorem slot_end (a : Slot) : iprop(slotR (val O G) c a (s41.slot a) ∗ backs O G c a) ⊢ (∃ X, slotAt c a fullShare X : sProp 𝕄) := by
  have hown (q : Sh) (t : Xf) (a : Slot) (h : s41.slot a = some (q, .own t)) :
      (slotR (val O G) c a (s41.slot a) : sProp 𝕄) ⊢ slotAt c a q.sh (val O G t c) := by
    rw [h]; show (iprop(∃ X, ⌜(Cnt.own t).ok (val O G) c X⌝ ∗ slotAt c a q.sh X) : sProp 𝕄) ⊢ _
    iintro ⟨%X, %hX, H⟩; rw [show X = val O G t c from hX]; iexact H
  have hgot (q : Sh) (t : Xf) (a : Slot) (h : s41.slot a = some (q, .got t)) :
      (slotR (val O G) c a (s41.slot a) : sProp 𝕄) ⊢ slotAt c a q.sh (val O G t (org t c)) := by
    rw [h]; show (iprop(∃ X, ⌜(Cnt.got t).ok (val O G) c X⌝ ∗ slotAt c a q.sh X) : sProp 𝕄) ⊢ _
    iintro ⟨%X, %hX, H⟩; rw [show X = val O G t (org t c) from hX]; iexact H
  have hfull (t : Xf) (a : Slot) (h : s41.slot a = some (.f, .got t)) :
      iprop(slotR (val O G) c a (s41.slot a) ∗ backs O G c a) ⊢ (∃ X, slotAt c a fullShare X : sProp 𝕄) := by
    iintro ⟨H, -⟩; iexists _; iapply (hgot .f t a h); iexact H
  have hside (t t' : Xf) (hs : src t' = src t → True) (h : s41.slot (src t') = some (.r, .got t)) (hb : s41.snd t' = .back) (hq : shr t' = fullShare.left)
      (hv : val O G t' c = val O G t (org t c)) :
      iprop(slotR (val O G) c (src t') (s41.slot (src t')) ∗ backs O G c (src t')) ⊢ (∃ X, slotAt c (src t') fullShare X : sProp 𝕄) := by
    iintro ⟨H, Hb⟩
    iexists _
    iapply (halves c (src t') fullShare (val O G t (org t c)))
    isplitl [Hb]
    · iapply (Entails.of_eq (show (slotAt c (src t') (shr t') (val O G t' c) : sProp 𝕄) = slotAt c (src t') fullShare.left (val O G t (org t c)) by rw [hq, hv]))
      iapply (backs_one O G c t' hb); iexact Hb
    · iapply (hgot .r t (src t') h); iexact H
  cases a with
  | cm s k =>
    fin_cases s
    · iintro ⟨-, H⟩; iexists _
      iapply (backs_one O G c (.p 2 k) (by fin_cases k <;> rfl)); iexact H
    · exact hfull (.p 2 k) _ (by fin_cases k <;> rfl)
  | bk r k =>
    fin_cases r
    · show iprop(slotR (val O G) c (.bk 0 k) (s41.slot (.bk 0 k)) ∗ backs O G c (.bk 0 k)) ⊢ (∃ X, slotAt c (.bk 0 k) fullShare X : sProp 𝕄)
      iintro ⟨H, Hb⟩
      icases (backs_two O G c (.sr k) (.sl k) (.bk 0 k) rfl rfl (by intro h; cases h) (by fin_cases k <;> rfl) (by fin_cases k <;> rfl)) $$ Hb with ⟨H1, H2⟩
      iexists _
      iapply (halves c (.bk 0 k) fullShare (val O G (.sr k) c))
      isplitl [H1]; · iexact H1
      iapply (halves c (.bk 0 k) fullShare.right (val O G (.sr k) c))
      isplitl [H2]; · iexact H2
      iapply (hown .rr (.sr k) (.bk 0 k) (by fin_cases k <;> rfl)); iexact H
    · fin_cases k
      · exact hfull (.sl 0) _ rfl
      · exact hfull (.sl 1) _ rfl
      · exact hside (.sl 2) (.tl 0) (fun _ => trivial) rfl rfl rfl rfl
      · exact hside (.sl 3) (.tl 1) (fun _ => trivial) rfl rfl rfl rfl
    · fin_cases k
      · exact hfull (.tr 0) _ rfl
      · exact hfull (.tr 1) _ rfl
      · exact hfull (.tl 0) _ rfl
      · exact hfull (.tl 1) _ rfl
    · fin_cases k
      · exact hside (.sr 0) (.tr 0) (fun _ => trivial) rfl rfl rfl rfl
      · exact hside (.sr 1) (.tr 1) (fun _ => trivial) rfl rfl rfl rfl
      · exact hfull (.sr 2) _ rfl
      · exact hfull (.sr 3) _ rfl

/-- The semaphores of a device's transfers, all at zero. -/
def quiet : sProp 𝕄 := bigSep Finset.univ fun t => iprop(semVal (sndCell t c) 0 ∗ semVal (rcvCell t c) 0)

/-- What a device holds when its program has returned. -/
def End (Fr : sProp 𝕄) : sProp 𝕄 :=
  iprop((∃ W, owes (c : Thread nD τ) 0 W) ∗ (∃ X, owns (c : Thread nD τ) (Memref.whole cc0_scratch0) fullShare X)
    ∗ (∃ X, owns (c : Thread nD τ) (Memref.whole cc0_scratch1) fullShare X) ∗ quiet c ∗ semVal (barCell c) 0 ∗ semVal (crCell c) 0 ∗ Fr)

/-- Both semaphores of a transfer are closed. -/
theorem close_one (t : Xf) : iprop(recs (val O G) κ ∗ atPos ER (sndCell t c) 1 ∅ 0 ∗ rcvR (F := F) c t (s41.got t))
    ⊢ iprop(|={Set.univ}=> (semVal (sndCell t c) 0 ∗ semVal (rcvCell t c) 0)) := by
  rw [got_end t]
  show iprop(recs (val O G) κ ∗ atPos ER (sndCell t c) 1 ∅ 0 ∗ atPos ER (rcvCell t c) 1 ∅ 0) ⊢ _
  iintro ⟨#Hrec, Hs, Hr⟩
  ihave His := (recs_snd (val O G) κ c t) $$ Hrec
  ihave Hir := (recs_rcv (val O G) κ c t) $$ Hrec
  icombine His Hs as Hs
  icombine Hir Hr as Hr
  imod (Rounds.cell_close ER (Rd (val O G)) (Set.mem_univ _) id (duties_later (val O G) (sndCell t c))) $$ Hs with Hs
  imod (Rounds.cell_close ER (Rd (val O G)) (Set.mem_univ _) id (duties_later (val O G) (rcvCell t c))) $$ Hr with Hr
  imodintro
  isplitl [Hs] <;> iassumption

theorem close_all : iprop(recs (val O G) κ ∗ bigSep Finset.univ (fun t => atPos ER (sndCell t c) 1 ∅ 0) ∗ bigSep Finset.univ (fun t => rcvR (F := F) c t (s41.got t)))
    ⊢ iprop(|={Set.univ}=> quiet c) := by
  unfold quiet
  refine .trans ?_ (bigSep_fupd _ _)
  refine .trans ?_ (bigSep_with_persistent (R := recs (val O G) κ)
    (Φ := fun t => iprop(atPos ER (sndCell t c) 1 ∅ 0 ∗ rcvR (F := F) c t (s41.got t))) fun t _ => close_one O G c κ t)
  iintro ⟨Hrec, Hs, Hr⟩
  isplitl [Hrec]; · iexact Hrec
  iapply (Entails.of_eq (bigSep_sep' _ _ _).symm)
  isplitl [Hs] <;> iassumption

/-- At the end all semaphores are closed and read zero, and the two arrays are whole. -/
theorem finish {A B C : sProp 𝕄} : M (val O G) c κ iprop(A ∗ B ∗ C ∗ atPos ER (barCell c) 1 ∅ 0) s41 ⊢ iprop(|={Set.univ}=> End c iprop(A ∗ B ∗ C)) := by
  unfold M goR
  iintro ⟨#Hrec, Ho, Hs, Hsn, Hr, -, ⟨-, Hcr, -⟩, HA, HB, HC, Hbar⟩
  ihave Hib := (recs_bar (val O G) κ c) $$ Hrec
  icases Hib with ⟨Hib, -⟩
  ihave Hic := (recs_cr (val O G) κ c) $$ Hrec
  icombine Hib Hbar as Hbar
  icases (Entails.of_eq (congrArg (fun n => (atPos ER (crCell c) n ∅ 0 : sProp 𝕄)) (show s41.taken = 8 from rfl))) $$ Hcr with Hcr
  icombine Hic Hcr as Hcr
  imod (Rounds.cell_close ER (Rd (val O G)) (Set.mem_univ _) id (duties_later (val O G) (barCell c))) $$ Hbar with Hbar
  imod (cr_stop (crCell c) _ _) $$ Hcr with Hcr
  icases (show (bigSep Finset.univ (fun t => sndR (val O G) c t (s41.snd t)) : sProp 𝕄)
      ⊢ iprop(bigSep Finset.univ (fun t => atPos ER (sndCell t c) 1 ∅ 0) ∗ bigSep Finset.univ (fun t => backR O G c t (s41.snd t)))
    from (bigSep_mono fun t _ => snd_back O G c t).trans (Entails.of_eq (bigSep_sep' _ _ _))) $$ Hsn with ⟨Hp, Hb⟩
  ihave Hq := (close_all O G c κ) $$ [Hp Hr]
  · isplitr; · iexact Hrec
    isplitl [Hp] <;> iassumption
  imod Hq
  ihave Ha : (bigSep Finset.univ (fun a => iprop(∃ X, slotAt c a fullShare X)) : sProp 𝕄) $$ [Hs Hb]
  · iapply (show (bigSep Finset.univ (fun a => iprop(slotR (val O G) c a (s41.slot a) ∗ backs O G c a)) : sProp 𝕄)
      ⊢ bigSep Finset.univ (fun a => iprop(∃ X, slotAt c a fullShare X)) from bigSep_mono fun a _ => slot_end O G c a)
    iapply (Entails.of_eq (bigSep_sep' _ _ _).symm)
    isplitl [Hs]; · iexact Hs
    iapply (Entails.of_eq (by_src fun t => backR O G c t (s41.snd t))); iexact Hb
  icases (all_slots c).2 $$ Ha with ⟨Ha, Ha'⟩
  unfold End
  imodintro
  isplitl [Ho]; · iexact Ho
  isplitl [Ha]; · iexact Ha
  isplitl [Ha']; · iexact Ha'
  isplitl [Hq]; · iexact Hq
  isplitl [Hbar]; · iexact Hbar
  isplitl [Hcr]; · iexact Hcr
  isplitl [HA]; · iexact HA
  isplitl [HB] <;> iassumption
end

end Cert.KernelIdeal.Ring

end
-- ==== Proof.Ring.Fund.lean ====
/-
# What is set up at the start

The semaphores' records are created, and every device is dealt the permissions of the units it will send and the positions of
the semaphores it owns.
-/
module

public import proofs.«01_k».proof.Proof.Ring.Barrier

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ

/-- A family over two sets that have nothing in common. -/
theorem bs_union {I : Type} [DecidableEq I] {s t : Finset I} (h : Disjoint s t) (Φ : I → sProp 𝕄) :
    bigSep (s ∪ t) Φ = iprop(bigSep s Φ ∗ bigSep t Φ) := BI.bigSep_union h

theorem bs_sum {A B : Type} [Fintype A] [Fintype B] [DecidableEq A] [DecidableEq B] (Φ : A ⊕ B → sProp 𝕄) :
    bigSep Finset.univ Φ = iprop(bigSep Finset.univ (fun a => Φ (.inl a)) ∗ bigSep Finset.univ (fun b => Φ (.inr b))) := bigSep_univ_sum Φ
theorem same {P Q : sProp 𝕄} (h : P = Q) : P ⊢ Q := Entails.of_eq h
theorem pair {I : Type} {s : Finset I} {Φ Ψ : I → sProp 𝕄} : iprop(bigSep s Φ ∗ bigSep s Ψ) ⊢ bigSep s fun i => iprop(Φ i ∗ Ψ i) :=
  Entails.of_eq (bigSep_sep' _ _ _).symm
theorem unpair {I : Type} {s : Finset I} {Φ Ψ : I → sProp 𝕄} : (bigSep s fun i => iprop(Φ i ∗ Ψ i)) ⊢ iprop(bigSep s Φ ∗ bigSep s Ψ) :=
  Entails.of_eq (bigSep_sep' _ _ _)

/-! ## The cells -/

/-- A device's own semaphores besides the barrier: those of the sends, those of the receives, and the go-ahead. -/
abbrev Own : Type := (Xf ⊕ Xf) ⊕ Unit
/-- The semaphore meant. -/
def osem : Own → SemLoc sig
  | .inl (.inl t) => .dma (sndS t)
  | .inl (.inr t) => .dma (rcvS t)
  | .inr _ => .reg crS

theorem osem_dma_inj : Function.Injective fun x : Xf ⊕ Xf => osem (.inl x) := by
  rintro (t | t) (t' | t') h
  · exact congrArg Sum.inl (snd_inj _ _ (SemLoc.dma.inj h))
  · exact absurd (SemLoc.dma.inj h) (snd_ne_rcv t t')
  · exact absurd (SemLoc.dma.inj h).symm (snd_ne_rcv t' t)
  · exact congrArg Sum.inr (rcv_inj _ _ (SemLoc.dma.inj h))

def barEmb : Dev nD ↪ GSem nD τ sig := ⟨fun c => barCell c, fun _ _ h => congrArg (fun g : GSem nD τ sig => g.1.1) h⟩
def crEmb : Dev nD ↪ GSem nD τ sig := ⟨fun c => crCell c, fun _ _ h => congrArg (fun g : GSem nD τ sig => g.1.1) h⟩
def dmaEmb : Dev nD × (Xf ⊕ Xf) ↪ GSem nD τ sig :=
  ⟨fun x => ((x.1 : Thread nD τ), osem (.inl x.2)), fun _ _ h =>
    Prod.ext (congrArg (fun g : GSem nD τ sig => g.1.1) h) (osem_dma_inj (congrArg Prod.snd h))⟩

abbrev barCells : Finset (GSem nD τ sig) := Finset.univ.map barEmb
abbrev crCells : Finset (GSem nD τ sig) := Finset.univ.map crEmb
abbrev dmaCells : Finset (GSem nD τ sig) := Finset.univ.map dmaEmb

theorem osem_dma_ne (x : Xf ⊕ Xf) (s : Sem sig) : osem (.inl x) ≠ .reg s := by
  rcases x with t | t <;> exact fun h => by cases h

theorem bar_dma : Disjoint barCells dmaCells := by
  rw [Finset.disjoint_left]
  rintro g h₁ h₂
  obtain ⟨c, -, rfl⟩ := Finset.mem_map.mp h₁
  obtain ⟨x, -, h⟩ := Finset.mem_map.mp h₂
  exact osem_dma_ne x.2 barS (congrArg Prod.snd h)
theorem dma_cr : Disjoint dmaCells crCells := by
  rw [Finset.disjoint_left]
  rintro g h₁ h₂
  obtain ⟨c, -, rfl⟩ := Finset.mem_map.mp h₂
  obtain ⟨x, -, h⟩ := Finset.mem_map.mp h₁
  exact osem_dma_ne x.2 crS (congrArg Prod.snd h)
theorem bar_scoped : Disjoint barCells (dmaCells ∪ crCells) := by
  rw [Finset.disjoint_union_right]
  refine ⟨bar_dma, ?_⟩
  rw [Finset.disjoint_left]
  rintro g h₁ h₂
  obtain ⟨c, -, rfl⟩ := Finset.mem_map.mp h₁
  obtain ⟨x, -, h⟩ := Finset.mem_map.mp h₂
  exact bar_ne_cr (SemLoc.reg.inj (congrArg Prod.snd h)).symm

/-! ## The permissions -/

/-- The permissions a device's semaphores come with: of the barrier's four units, of each transfer's two, of the eight go-aheads. -/
abbrev Tok : Type := (Fin 4 ⊕ Fin 8) ⊕ (Xf ⊕ Xf)
def tokSem : Tok → SemLoc sig
  | .inl (.inl _) => .reg barS
  | .inl (.inr _) => .reg crS
  | .inr x => osem (.inl x)
def tokDuty : Tok → Duty
  | .inl (.inl i) => .bar i
  | .inl (.inr k) => .cr k.val
  | .inr (.inl t) => .snd t
  | .inr (.inr t) => .rcv t

theorem tokDuty_inj : Function.Injective tokDuty := by
  rintro ((i | k) | (t | t)) ((i' | k') | (t' | t')) h <;>
    first
      | exact congrArg (fun i => Sum.inl (Sum.inr i)) (Fin.ext (Duty.cr.inj h))
      | (cases h; rfl)
      | cases h

def tokens : Finset (GSem nD τ sig × ℕ × Duty) :=
  Finset.univ.map ⟨fun x : Dev nD × Tok => (((x.1 : Thread nD τ), tokSem x.2), 0, tokDuty x.2), fun _ _ h =>
    Prod.ext (congrArg (fun t : GSem nD τ sig × ℕ × Duty => t.1.1.1) h) (tokDuty_inj (congrArg (fun t : GSem nD τ sig × ℕ × Duty => t.2.2) h))⟩

theorem eight (Φ : ℕ → sProp 𝕄) : bigSep Finset.univ (fun k : Fin 8 => Φ k.val) = bigSep (Finset.Ico 0 8) Φ := by
  rw [show Finset.Ico 0 8 = (Finset.univ : Finset (Fin 8)).map Fin.valEmbedding by decide, bigSep_map]; rfl

/-- The permissions, device by device. -/
def dealt (c : Dev nD) : sProp 𝕄 :=
  iprop(bigSep Finset.univ (fun i => dutyTok ER (barCell c) 0 (.bar i)) ∗ bigSep Finset.univ (fun t => dutyTok ER (sndCell t c) 0 (.snd t))
    ∗ bigSep Finset.univ (fun t => dutyTok ER (rcvCell t c) 0 (.rcv t)))

theorem tokens_eq : (bigSep tokens (fun x => dutyTok ER x.1 x.2.1 x.2.2) : sProp 𝕄)
    ⊢ iprop(bigSep Finset.univ (fun c => dealt c) ∗ bigSep Finset.univ fun c => bigSep (Finset.Ico 0 8) (tok (crCell c))) := by
  unfold tokens
  rw [bigSep_map, bigSep_univ_prod, ← bigSep_sep']
  refine bigSep_mono fun c _ => ?_
  rw [bs_sum, bs_sum, bs_sum, ← eight]
  unfold dealt
  show iprop((bigSep Finset.univ (fun i : Fin 4 => dutyTok ER (barCell c) 0 (.bar i)) ∗ bigSep Finset.univ (fun k : Fin 8 => dutyTok ER (crCell c) 0 (.cr k.val)))
    ∗ bigSep Finset.univ (fun t => dutyTok ER (sndCell t c) 0 (.snd t)) ∗ bigSep Finset.univ (fun t => dutyTok ER (rcvCell t c) 0 (.rcv t))) ⊢ (_ : sProp 𝕄)
  iintro ⟨⟨Hb, Hc⟩, Hs, Hr⟩
  isplitr [Hc]
  · isplitl [Hb]; · iexact Hb
    isplitl [Hs]; · iexact Hs
    iexact Hr
  · iexact Hc

/-- The permissions, each with the device that will send the unit. -/
def sent (c : Dev nD) : sProp 𝕄 :=
  iprop(bigSep Finset.univ (fun i => dutyTok ER (barCell (nb i c)) 0 (.bar (op i))) ∗ bigSep Finset.univ (fun t => dutyTok ER (sndCell t c) 0 (.snd t))
    ∗ bigSep Finset.univ (fun t => dutyTok ER (rcvCell t (tgt t c)) 0 (.rcv t)))

def tgtEquiv (t : Xf) : Dev nD ≃ Dev nD := ⟨tgt t, org t, org_tgt t, tgt_org t⟩
def nbEquiv (i : Fin 4) : Dev nD ≃ Dev nD := ⟨nb i, nb (op i), nb_op i, fun c => by have h := nb_op (op i) c; rwa [op_op] at h⟩
def opEquiv : Fin 4 ≃ Fin 4 := ⟨op, op, op_op, op_op⟩

theorem around : (bigSep Finset.univ (fun c => dealt c) : sProp 𝕄) ⊢ bigSep Finset.univ fun c => sent c := by
  unfold dealt sent
  rw [bigSep_sep', bigSep_sep', bigSep_sep', bigSep_sep']
  refine BI.sep_mono ?_ (BI.sep_mono (same rfl) ?_)
  · rw [bigSep_univ_comm, bigSep_univ_comm (fun c i => (dutyTok ER (barCell (nb i c)) 0 (.bar (op i)) : sProp 𝕄)),
      bigSep_univ_equiv opEquiv fun i => bigSep Finset.univ fun c => (dutyTok ER (barCell c) 0 (.bar i) : sProp 𝕄)]
    refine bigSep_mono fun i _ => ?_
    rw [bigSep_univ_equiv (nbEquiv i) fun c => (dutyTok ER (barCell c) 0 (.bar (opEquiv i)) : sProp 𝕄)]
    exact same rfl
  · rw [bigSep_univ_comm, bigSep_univ_comm (fun c t => (dutyTok ER (rcvCell t (tgt t c)) 0 (.rcv t) : sProp 𝕄))]
    refine bigSep_mono fun t _ => ?_
    rw [bigSep_univ_equiv (tgtEquiv t) fun c => (dutyTok ER (rcvCell t c) 0 (.rcv t) : sProp 𝕄)]
    exact same rfl

/-! ## The records -/

variable (val : Xf → Dev nD → Vec F S1x1x256x512 .f32)

/-- What a device is given at the start, besides the records. -/
def given (c : Dev nD) : sProp 𝕄 :=
  iprop(atPos ER (barCell c) 0 ∅ 0 ∗ bigSep Finset.univ (fun x => openTok ER ((c : Thread nD τ), osem x)) ∗ sent c)

/-- The names of all records, from those of the go-aheads' and those of the others. -/
def names (κ κ' : GSem nD τ sig → ℕ) (g : GSem nD τ sig) : ℕ := if g.2 = .reg crS then κ' g else κ g

theorem names_cr (κ κ' : GSem nD τ sig → ℕ) (c : Dev nD) : names κ κ' (crCell c) = κ' (crCell c) := if_pos rfl
theorem names_bar (κ κ' : GSem nD τ sig → ℕ) (c : Dev nD) : names κ κ' (barCell c) = κ (barCell c) :=
  if_neg fun h => bar_ne_cr (SemLoc.reg.inj h)
theorem names_dma (κ κ' : GSem nD τ sig → ℕ) (c : Dev nD) (s : DmaSem sig) : names κ κ' ((c : Thread nD τ), .dma s) = κ ((c : Thread nD τ), .dma s) :=
  if_neg fun h => by cases h

theorem records (κ κ' : GSem nD τ sig → ℕ) :
    iprop(bigSep (barCells ∪ dmaCells) (fun g => cellInv ER (Rd val) (κ g) g) ∗ bigSep crCells (fun g => crInv g (crR g.1.1) (κ' g))
      ∗ bigSep barCells (fun g => reached ER g 0)) ⊢ (bigSep Finset.univ fun c => cellRec val (names κ κ') c : sProp 𝕄) := by
  rw [bs_union bar_dma, bigSep_map, bigSep_map, bigSep_map, bigSep_map, bigSep_univ_prod]
  unfold cellRec
  rw [bigSep_sep', bigSep_sep', bigSep_sep']
  iintro ⟨⟨Hb, Hd⟩, Hc, Hr⟩
  isplitr [Hd]
  · isplitl [Hb]
    · iapply (show (bigSep Finset.univ (fun c => cellInv ER (Rd val) (κ (barEmb c)) (barEmb c)) : sProp 𝕄)
        ⊢ bigSep Finset.univ (fun c => cellInv ER (Rd val) (names κ κ' (barCell c)) (barCell c)) from
        bigSep_mono fun c _ => by rw [names_bar]; exact same rfl)
      iexact Hb
    isplitl [Hr]; · iexact Hr
    iapply (show (bigSep Finset.univ (fun c => crInv (crEmb c) (crR (crEmb c).1.1) (κ' (crEmb c))) : sProp 𝕄)
      ⊢ bigSep Finset.univ (fun c => crInv (crCell c) (crR c) (names κ κ' (crCell c))) from
      bigSep_mono fun c _ => by rw [names_cr]; exact same rfl)
    iexact Hc
  · iapply (show (bigSep Finset.univ (fun c => bigSep Finset.univ fun x => cellInv ER (Rd val) (κ (dmaEmb (c, x))) (dmaEmb (c, x))) : sProp 𝕄)
      ⊢ bigSep Finset.univ (fun c => bigSep Finset.univ fun t => iprop(cellInv ER (Rd val) (names κ κ' (sndCell t c)) (sndCell t c)
        ∗ cellInv ER (Rd val) (names κ κ' (rcvCell t c)) (rcvCell t c))) from
      bigSep_mono fun c _ => by
        rw [bs_sum, ← bigSep_sep']
        refine bigSep_mono fun t _ => ?_
        rw [names_dma, names_dma]; exact same rfl)
    iexact Hd

/-- What the records of the go-aheads start from. -/
theorem dormant : iprop(bigSep crCells (fun g => iprop(unopenedAuth ER g ∗ ledgerAuth ER g 0 ∅ (fun _ => 0)))
      ∗ bigSep Finset.univ fun c => bigSep (Finset.Ico 0 8) (tok (crCell c))) ⊢ (bigSep crCells fun g => crBody g (crR g.1.1) : sProp 𝕄) := by
  rw [bigSep_map, bigSep_map, ← bigSep_sep']
  refine bigSep_mono fun c _ => ?_
  show iprop((unopenedAuth ER (crCell c) ∗ ledgerAuth ER (crCell c) 0 ∅ (fun _ => 0)) ∗ bigSep (Finset.Ico 0 8) (tok (crCell c)))
    ⊢ (crBody (crCell c) (crR c) : sProp 𝕄)
  unfold crBody crDormant
  iintro ⟨⟨H, H'⟩, Ht⟩
  ileft
  isplitl [H]; · iexact H
  isplitl [H'] <;> iassumption

theorem opens : iprop(bigSep dmaCells (fun g => openTok ER g) ∗ bigSep crCells (fun g => openTok ER g))
    ⊢ (bigSep Finset.univ fun c : Dev nD => bigSep Finset.univ fun x => openTok ER ((c : Thread nD τ), osem x) : sProp 𝕄) := by
  rw [bigSep_map, bigSep_map, bigSep_univ_prod, ← bigSep_sep']
  refine bigSep_mono fun c _ => ?_
  rw [bs_sum (fun x : Own => (openTok ER ((c : Thread nD τ), osem x) : sProp 𝕄))]
  refine BI.sep_mono (same rfl) ?_
  rw [show (Finset.univ : Finset Unit) = {()} from rfl, bigSep_singleton]; exact same rfl

/-- Everything set up: from the barrier counters at zero and what the records are made of, the records and what each device is
    given. -/
theorem fund : iprop(bigSep Finset.univ (fun c => semVal (barCell c) 0) ∗ BI.own (ER (launchOf barCells (dmaCells ∪ crCells) tokens)))
    ⊢ (iprop(|={Set.univ}=> ∃ κ, bigSep Finset.univ (fun c => cellRec val κ c) ∗ bigSep Finset.univ (fun c => given c)) : sProp 𝕄) := by
  have hb : (iprop(bigSep barCells (Rounds.body ER (Rd val)) ∗ bigSep dmaCells (Rounds.body ER (Rd val))) : sProp 𝕄)
      ⊢ bigSep (barCells ∪ dmaCells) (Rounds.body ER (Rd val)) := Entails.of_eq (bs_union bar_dma _).symm
  have hd : (bigSep dmaCells (fun g => iprop(unopenedAuth ER g ∗ ledgerAuth ER g 0 ∅ (fun _ => 0))) : sProp 𝕄)
      ⊢ bigSep dmaCells (Rounds.body ER (Rd val)) := bigSep_mono fun g _ => body_intro_dormant ER (Rd val) id
  have hv : (bigSep Finset.univ (fun c : Dev nD => semVal (barCell c) 0) : sProp 𝕄) ⊢ bigSep barCells (fun g => semVal g 0) :=
    Entails.of_eq (bigSep_map (s := Finset.univ) barEmb (Φ := fun g : GSem nD τ sig => (semVal g 0 : sProp 𝕄))).symm
  have hat : (bigSep barCells (fun g => atPos ER g 0 ∅ 0) : sProp 𝕄) ⊢ bigSep Finset.univ (fun c : Dev nD => atPos ER (barCell c) 0 ∅ 0) :=
    Entails.of_eq (bigSep_map (s := Finset.univ) barEmb (Φ := fun g : GSem nD τ sig => (atPos ER g 0 ∅ 0 : sProp 𝕄)))
  iintro ⟨Hv, Hu⟩
  icases (own_launchOf_split ER bar_scoped tokens) $$ Hu with ⟨Hlive, Hdorm⟩
  imod (Rounds.fund ER (Rd val) barCells tokens) $$ Hlive with ⟨Hst, Hr, Hat, Htok⟩
  icases (own_dormantOf ER (dmaCells ∪ crCells)) $$ Hdorm with ⟨Hdst, Hop⟩
  icases (Entails.of_eq (bs_union dma_cr _)) $$ Hdst with ⟨Hdd, Hdc⟩
  icases (Entails.of_eq (bs_union dma_cr _)) $$ Hop with ⟨Hod, Hoc⟩
  icases tokens_eq $$ Htok with ⟨Htok, Htc⟩
  ihave Hb := hb $$ [Hv Hst Hdd]
  · isplitl [Hv Hst]
    · iapply (bodies_intro ER (Rd val) barCells)
      isplitl [Hv]
      · iapply hv; iexact Hv
      · iexact Hst
    · iapply hd; iexact Hdd
  imod (inv_alloc_family (barCells ∪ dmaCells) (Rounds.body ER (Rd val)) ∅) $$ Hb with ⟨%κ, -, Hcells⟩
  ihave Hc := (dormant) $$ [Hdc Htc]
  · isplitl [Hdc] <;> iassumption
  imod (inv_alloc_family crCells (fun g => crBody g (crR g.1.1)) ∅) $$ Hc with ⟨%κ', -, Hcr⟩
  imodintro
  iexists (names κ κ')
  isplitl [Hcells Hcr Hr]
  · iapply (records val κ κ')
    isplitl [Hcells]; · iexact Hcells
    isplitl [Hcr] <;> iassumption
  unfold given
  iapply pair; isplitl [Hat]; · iapply hat; iexact Hat
  iapply pair; isplitl [Hod Hoc]
  · iapply (opens); isplitl [Hod] <;> iassumption
  iapply (around); iexact Htok

end Cert.KernelIdeal.Ring

end
-- ==== Proof.Ring.Credits.lean ====
/-
# What is due to each device

The units all devices together owe to a semaphore are the ones its owner waits for.
-/
module

public import proofs.«01_k».proof.Proof.Ring.Fund

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ

/-- The device a payment of `c` goes to, and the semaphore there. -/
def Pay.peer : Pay → Dev nD ≃ Dev nD
  | .bar i => nbEquiv i
  | .cr _ => nbEquiv 0
  | .x t => tgtEquiv t
def Pay.sem : Pay → SemLoc sig
  | .bar _ => .reg barS
  | .cr _ => .reg crS
  | .x t => .dma (rcvS t)
theorem Pay.cell_eq (d : Dev nD) (p : Pay) : p.cell d = ((p.peer d : Thread nD τ), p.sem) := by cases p <;> rfl

/-- The units of a list of payments that belong to one semaphore, at one index. -/
def units (sm : SemLoc sig) (u : ℕ) (l : List Pay) : ℕ := ((l.filter (·.sem = sm)).map fun p => if u = p.ix then p.amt else 0).sum

theorem due_one (c : Dev nD) (sm : SemLoc sig) (u : ℕ) (p : Pay) :
    ∑ d : Dev nD, tallyAt (p.cell d) p.ix p.amt ((c : Thread nD τ), sm) u = if p.sem = sm then (if u = p.ix then p.amt else 0) else 0 := by
  have h (d : Dev nD) : tallyAt (p.cell d) p.ix p.amt ((c : Thread nD τ), sm) u
      = if d = p.peer.symm c then (if p.sem = sm then (if u = p.ix then p.amt else 0) else 0) else 0 := by
    rw [tallyAt_apply, p.cell_eq d]
    by_cases hd : d = p.peer.symm c
    · subst hd
      rw [if_pos rfl, Equiv.apply_symm_apply]
      by_cases hs : p.sem = sm
      · subst hs; rw [if_pos rfl]
        by_cases hu : u = p.ix
        · rw [if_pos ⟨rfl, hu⟩, if_pos hu]
        · rw [if_neg fun h => hu h.2, if_neg hu]
      · rw [if_neg fun h => hs (congrArg Prod.snd h.1).symm, if_neg hs]
    · rw [if_neg hd, if_neg]
      rintro ⟨h, -⟩
      exact hd (p.peer.eq_symm_apply.mpr (congrArg (fun g : GSem nD τ sig => g.1.1) h).symm)
  rw [Finset.sum_congr rfl fun d _ => h d, Finset.sum_ite_eq' Finset.univ _ fun _ => _, if_pos (Finset.mem_univ _)]

theorem due (c : Dev nD) (sm : SemLoc sig) (u : ℕ) (l : List Pay) : ∑ d : Dev nD, owed d l ((c : Thread nD τ), sm) u = units sm u l := by
  induction l with
  | nil => exact Finset.sum_const_zero
  | cons p l ih =>
    show ∑ d : Dev nD, (owed d l ((c : Thread nD τ), sm) u + tallyAt (p.cell d) p.ix p.amt ((c : Thread nD τ), sm) u) = _
    rw [Finset.sum_add_distrib, ih, due_one]
    unfold units
    by_cases hs : p.sem = sm
    · rw [if_pos hs, List.filter_cons_of_pos (by simpa using hs), List.map_cons, List.sum_cons, Nat.add_comm]
    · rw [if_neg hs, List.filter_cons_of_neg (by simpa using hs), Nat.add_zero]

theorem of_bar : Pay.all.filter (fun p => p.sem = .reg barS) = [.bar 0, .bar 1, .bar 2, .bar 3] := by decide +kernel
theorem of_cr : Pay.all.filter (fun p => p.sem = .reg crS) = [.cr 0, .cr 1, .cr 2, .cr 3, .cr 4, .cr 5, .cr 6, .cr 7] := by decide +kernel
theorem of_rcv : ∀ t, Pay.all.filter (fun p => p.sem = .dma (rcvS t)) = [.x t] := by decide +kernel

/-- What all devices together owe at the start. -/
abbrev O₀ (c : Dev nD) : CellTallies nD τ sig ℕ := owed c Pay.all

theorem launch_bar (c : Dev nD) : tallyOn (barCell c) (launchCredit (Pipeline.owing O₀) 0 (barCell c)) = (tallyAt (barCell c) 0 4 : CellTallies nD τ sig ℕ) := by
  unfold tallyAt; refine congrArg _ (Finsupp.ext fun u => ?_)
  rw [Pipeline.launchCredit_owing, due, units, of_bar, Finsupp.single_apply]
  by_cases h : 0 = u
  · subst h; rfl
  · have h' : u ≠ 0 := fun e => h e.symm
    simp [Pay.ix, h, h']

theorem launch_rcv (c : Dev nD) (t : Xf) :
    tallyOn (rcvCell t c) (launchCredit (Pipeline.owing O₀) 0 (rcvCell t c)) = (tallyAt (rcvCell t c) 0 N : CellTallies nD τ sig ℕ) := by
  unfold tallyAt; refine congrArg _ (Finsupp.ext fun u => ?_)
  rw [Pipeline.launchCredit_owing, due, units, of_rcv, Finsupp.single_apply, List.map_singleton, List.sum_singleton]
  show (if u = 0 then N else 0) = if 0 = u then N else 0
  by_cases h : u = 0
  · rw [if_pos h, if_pos h.symm]
  · rw [if_neg h, if_neg fun e => h e.symm]

theorem ones : ∀ u < 8, (List.map (fun p : Pay => if u = p.ix then p.amt else 0) [.cr 0, .cr 1, .cr 2, .cr 3, .cr 4, .cr 5, .cr 6, .cr 7]).sum = 1 := by decide

theorem launch_cr (c : Dev nD) : tallyOn (crCell c) (launchCredit (Pipeline.owing O₀) 0 (crCell c))
    = (∑ k ∈ Finset.Ico 0 8, tallyAt (crCell c) k 1 : CellTallies nD τ sig ℕ) := by
  have h : (∑ k ∈ Finset.Ico 0 8, tallyAt (crCell c) k 1 : CellTallies nD τ sig ℕ) = tallyOn (crCell c) (∑ k ∈ Finset.Ico 0 8, Finsupp.single k 1) :=
    (map_sum (AddMonoidHom.single (fun _ : GSem nD τ sig => ℕ →₀ ℕ) (crCell c)) _ _).symm
  rw [h]
  refine congrArg _ (Finsupp.ext fun u => ?_)
  rw [Pipeline.launchCredit_owing, due, units, of_cr, Finsupp.finset_sum_apply]
  simp only [Finsupp.single_apply, Finset.sum_ite_eq', Finset.mem_Ico]
  by_cases h : u < 8
  · rw [if_pos ⟨Nat.zero_le u, h⟩]
    exact ones u h
  · rw [if_neg fun h' => h h'.2]
    exact List.sum_eq_zero fun x hx => by
      obtain ⟨p, hp, rfl⟩ := List.mem_map.mp hx
      exact if_neg fun e : u = p.ix => h (by rw [e]; exact p.ix_lt)

theorem cred_sum {s : Finset ℕ} (T : ℕ → CellTallies nD τ sig ℕ) : (cred (∑ i ∈ s, T i) : sProp 𝕄) = bigSep s fun i => cred (T i) := by
  induction s using Finset.induction_on with
  | empty => rw [Finset.sum_empty, cred_zero, BI.bigSep_empty]; rfl
  | insert a s ha ih => rw [Finset.sum_insert ha, bs_insert ha, BI.Entails.antisymm (cred_add _ _).1 (cred_add _ _).2, ih]

/-- The units due to a device. -/
def dues (c : Dev nD) : sProp 𝕄 :=
  iprop(cred (tallyAt (barCell c) 0 4) ∗ bigSep (Finset.Ico 0 8) (fun k => cred (tallyAt (crCell c) k 1))
    ∗ bigSep Finset.univ fun t => cred (tallyAt (rcvCell t c) 0 N))

def rcvEmb : Xf ↪ SemLoc sig := ⟨fun t => .dma (rcvS t), fun _ _ h => rcv_inj _ _ (SemLoc.dma.inj h)⟩

theorem creds (c : Dev nD) : (Pipeline.launchCred O₀ c : sProp 𝕄) ⊢ dues c := by
  unfold Pipeline.launchCred dues
  have hc : SemLoc.reg crS ∈ (Finset.univ : Finset (SemLoc sig)).erase (.reg barS) :=
    Finset.mem_erase.mpr ⟨fun h => bar_ne_cr (SemLoc.reg.inj h).symm, Finset.mem_univ _⟩
  have hr : (Finset.univ : Finset Xf).map rcvEmb ⊆ ((Finset.univ : Finset (SemLoc sig)).erase (.reg barS)).erase (.reg crS) := fun s hs => by
    obtain ⟨t, -, rfl⟩ := Finset.mem_map.mp hs
    exact Finset.mem_erase.mpr ⟨fun h => (by cases h), Finset.mem_erase.mpr ⟨fun h => (by cases h), Finset.mem_univ _⟩⟩
  rw [bs_erase (Finset.mem_univ (SemLoc.reg barS)), bs_erase hc, launch_bar, launch_cr, cred_sum]
  refine BI.sep_mono (same rfl) (BI.sep_mono (same rfl) ((bigSep_subset hr).trans ?_))
  rw [bigSep_map]
  refine bigSep_mono fun t _ => ?_
  exact same (congrArg cred (launch_rcv c t))

end Cert.KernelIdeal.Ring

end
-- ==== Proof.Ring.Region.lean ====
/-
# The kernel as a step of the program

  The kernel's one call, between the operands the host code left and the result: what a device holds before and after it,
  and that the program of the kernel leads from the one to the other.
-/
module

public import proofs.«01_k».proof.Proof.Ring.Done
public import proofs.«01_k».proof.Proof.Ring.Credits
public import proofs.«01_k».proof.Proof.Gen.KernelIdeal.Launch
public import proofs.«01_k».proof.Proof.Gen.KernelIdeal.Points
public import proofs.«01_k».proof.Proof.Gen.KernelIdeal.Regions
public import Idealize.ShloMosaic.Lib.Pipeline.RegionTalk
public import Idealize.ShloMosaic.Lib.Pipeline.Value

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ

variable (m : (ℓ : Loc nD τ sig) → Buf (Elt F) ℓ)

/-- The rows a device's call starts from: its share of the activations, with the two inner axes exchanged. -/
def rows (c : Dev nD) : Vec F S4x512x1024 .f32 := V1 m c main_v2
/-- The weights it starts from: the column block it is responsible for. -/
def weights (c : Dev nD) : Vec F S512x512 .f32 := V1 m c main_v18
/-- What the call leaves on a device. -/
def result (c : Dev nD) : Vec F S4x256x2048 .f32 := laid (Blk (rows m) (weights m) c)
/-- What every transfer carries. -/
abbrev cargo : Xf → Dev nD → Vec F S1x1x256x512 .f32 := val (rows m) (weights m)

/-! ## Before and after -/

/-- What `Begin` holds apart from the dues and the two buffers. -/
def Opened (c : Dev nD) (κ : GSem nD τ sig → ℕ) : sProp 𝕄 :=
  iprop(recs (cargo m) κ ∗ bigSep Finset.univ (fun t => sndP c t)
    ∗ bigSep Finset.univ (fun t => rcvR c t false) ∗ bigSep Finset.univ (fun t => reached ER (rcvCell t c) 0)
    ∗ bigSep Finset.univ (fun i => dutyTok ER (barCell (nb i c)) 0 (.bar (op i))) ∗ paying ER (crCell c) 0 (.cr 0) 0
    ∗ (cred (tallyAt (barCell c) 0 4) ∗ atPos ER (barCell c) 0 ∅ 0)
    ∗ atPos ER (crCell c) 0 ∅ 0 ∗ bigSep (Finset.Ico 0 8) (fun k => cred (tallyAt (crCell c) k 1)))

/-- The two buffers the kernel keeps to itself, holding anything. -/
def Bufs (c : Dev nD) : sProp 𝕄 :=
  iprop((∃ X, owns (c : Thread nD τ) (Memref.whole cc0_scratch0) fullShare X) ∗ (∃ X, owns (c : Thread nD τ) (Memref.whole cc0_scratch1) fullShare X))

/-- A device before the call. -/
def Before (c : Dev nD) : sProp 𝕄 := iprop((∃ κ, Opened m c κ) ∗ Bufs c ∗ ∃ r, prngReg c r)
/-- A device after it. -/
def After (c : Dev nD) : sProp 𝕄 := iprop((quiet c ∗ semVal (crCell c) 0 ∗ semVal (barCell c) 0) ∗ Bufs c ∗ ∃ r, prngReg c r)

theorem begin_of (c : Dev nD) (κ : GSem nD τ sig → ℕ) :
    (iprop(Opened m c κ ∗ Bufs c ∗ ∃ W, owes (c : Thread nD τ) (owed c Pay.all) W) : sProp 𝕄) ⊢ Begin (cargo m) c κ := by
  unfold Opened Begin Bufs
  iintro ⟨⟨H1, H2, H3, H4, H5, H6, H7, H8, H9⟩, HB, HO⟩
  isplitl [H1]; · iexact H1
  isplitl [HO]; · iexact HO
  isplitl [HB]; · iapply (all_slots c).1 $$ HB
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The call's record: what its operands and its result hold, and what a device holds besides. -/
def dat0 (c : Dev nD) : Pipeline.Dat τ (Elt F) ℕ ℕ UU ℕ cfg0 c where
  A := fun | 0 => rows m c | 1 => weights m c | 2 => V1 m c main_v19
  after := fun | 0, _ => rows m c | 1, _ => weights m c | 2, _ => result m c
  Φ t := if t.val = 0 then Before m c else After c
  q _ := fullShare
  owed t := if t.val = 0 then O₀ c else 0
  recorded _ := Set.univ

def pdats : (p : Fin 1) → (c : Dev nD) → Pipeline.Dat τ (Elt F) ℕ ℕ UU ℕ (Pipeline.pin (pcfgs (F := F)) adm p) c :=
  fun _ c => dat0 m c

theorem owed_first (c : Dev nD) : (dat0 (F := F) m c).owed t0_0.castSucc = O₀ c := by
  show (if (t0_0.castSucc : Fin (cfg0.N + 1)).val = 0 then O₀ c else 0) = O₀ c; exact if_pos rfl
theorem owed_last (c : Dev nD) : (dat0 (F := F) m c).owed (Fin.last _) = 0 := by
  show (if (Fin.last cfg0.N).val = 0 then O₀ c else 0) = 0
  rw [Fin.val_last, if_neg (by rw [show cfg0.N = 1 from N_0]; decide)]

theorem owesAt_elim (c : Dev nD) : ((dat0 (F := F) m c).owesAt 0 t0_0.castSucc : sProp 𝕄) ⊢ iprop(∃ W, owes (c : Thread nD τ) (owed c Pay.all) W) := by
  unfold Pipeline.Dat.owesAt Pipeline.owesWithin; rw [owed_first]
  iintro ⟨%W, -, HO⟩; iexists W; iexact HO
theorem owesAt_intro (c : Dev nD) : (iprop(∃ W, owes (c : Thread nD τ) 0 W) : sProp 𝕄) ⊢ (dat0 (F := F) m c).owesAt 0 t0_0.succ := by
  unfold Pipeline.Dat.owesAt Pipeline.owesWithin Pipeline.Dat.bound
  rw [show (dat0 (F := F) m c).owed t0_0.succ = 0 from owed_last m c, show (dat0 (F := F) m c).recorded t0_0.succ = Set.univ from rfl]
  iintro ⟨%W, HO⟩; iexists W; isplitr; · ipureintro; exact fun _ _ => Or.inl trivial
  iexact HO

/-- A window that is a whole array reads the array. -/
theorem read_blk0 (f : Vec F S4x512x1024 .f32) : (win0_0.blk t0_0).view.read (Elt F) f = f :=
  View.ld_unit_zero (Val := Elt F) (off := fun a => win0_0.index t0_0 a * win0_0.size a) (funext fun a => Nat.zero_mul _)
    (fun a => Nat.le_of_eq ((congrArg (· + win0_0.shape.size a) (Nat.zero_mul _)).trans (Nat.zero_add _))) f
theorem read_blk1 (f : Vec F S512x512 .f32) : (win0_1.blk t0_0).view.read (Elt F) f = f :=
  View.ld_unit_zero (Val := Elt F) (off := fun a => win0_1.index t0_0 a * win0_1.size a) (funext fun a => Nat.zero_mul _)
    (fun a => Nat.le_of_eq ((congrArg (· + win0_1.shape.size a) (Nat.zero_mul _)).trans (Nat.zero_add _))) f
theorem read_blk2 (f : Vec F S4x256x2048 .f32) : (win0_2.blk t0_0).view.read (Elt F) f = f :=
  View.ld_unit_zero (Val := Elt F) (off := fun a => win0_2.index t0_0 a * win0_2.size a) (funext fun a => Nat.zero_mul _)
    (fun a => Nat.le_of_eq ((congrArg (· + win0_2.shape.size a) (Nat.zero_mul _)).trans (Nat.zero_add _))) f

/-- The kernel finds its operands in its first two windows. -/
theorem before0 (c : Dev nD) (d) : (dat0 m c).before 0 t0_0 d = rows m c := by
  refine Eq.trans (b := (win0_0.blk t0_0).view.read (Elt F) (rows m c)) ?_ (read_blk0 _)
  unfold Pipeline.Dat.before
  rw [if_pos (fetch0_0 _)]
  rfl
theorem before1 (c : Dev nD) (d) : (dat0 m c).before 1 t0_0 d = weights m c := by
  refine Eq.trans (b := (win0_1.blk t0_0).view.read (Elt F) (weights m c)) ?_ (read_blk1 _)
  unfold Pipeline.Dat.before
  rw [if_pos (fetch0_1 _)]
  rfl

set_option maxRecDepth 65536 in
/-- The program of the kernel, from a device before the call to a device after it. -/
theorem run (c : Dev nD) (κ : GSem nD τ sig → ℕ) {Y} :
    (iprop(Begin (cargo m) c κ ∗ owns (c : Thread nD τ) (st0_0 t0_0) fullShare (rows m c) ∗ owns (c : Thread nD τ) (st0_1 t0_0) fullShare (weights m c)
      ∗ owns (c : Thread nD τ) (st0_2 t0_0) fullShare Y) : sProp 𝕄)
    ⊢ W c (bodyAt0 t0_0) fun _ => End c iprop(owns (c : Thread nD τ) (st0_0 t0_0) fullShare (rows m c) ∗ owns (c : Thread nD τ) (st0_1 t0_0) fullShare (weights m c)
      ∗ owns (c : Thread nD τ) (st0_2 t0_0) fullShare (result m c)) :=
  body (by rw [W, wp_ret]; exact finish _ _ c κ)

set_option maxRecDepth 65536 in
theorem body_obligation (c : Dev nD) : Pipeline.BodyObligation (dat0 (F := F) m c) (defs₀ (F := F)) 𝒱₀ 0 Set.univ := fun t => by
  obtain rfl := fin_N0 t
  rw [bigSep_W0, bigSep_W0]
  rw [show (dat0 (F := F) m c).Φ t0_0.castSucc = Before m c from rfl, show (dat0 (F := F) m c).Φ t0_0.succ = After c from rfl]
  unfold Before
  show _ ⊢ W c (bodyAt0 t0_0) _
  iintro ⟨⟨⟨%κ, HX⟩, HB, Hp⟩, HO, ⟨%d0, H0⟩, ⟨%d1, H1⟩, ⟨%d2, H2⟩⟩
  ihave HO' := (owesAt_elim m c) $$ HO
  ihave H0' := (Entails.of_eq (congrArg (fun X => owns (c : Thread nD τ) (st0_0 t0_0) fullShare X) (before0 m c d0))) $$ H0
  ihave H1' := (Entails.of_eq (congrArg (fun X => owns (c : Thread nD τ) (st0_1 t0_0) fullShare X) (before1 m c d1))) $$ H1
  ihave HS := (begin_of m c κ) $$ [HX HB HO']
  · isplitl [HX]; · iexact HX
    isplitl [HB] <;> iassumption
  ihave HW := (run m c κ) $$ [HS H0' H1' H2]
  · isplitl [HS]; · iexact HS
    isplitl [H0']; · iexact H0'
    isplitl [H1']; · iexact H1'
    iexact H2
  iapply (wp_wand_r frame (wpE (defs₀ (F := F)) 𝒱₀ (c : Thread nD τ) none) Set.univ)
  isplitl [HW]; · iexact HW
  iintro %_ HE
  unfold End After Bufs
  icases HE with ⟨HO, Hs0, Hs1, Hq, Hb, Hc, H0, H1, H2⟩
  isplitl [Hs0 Hs1 Hq Hb Hc Hp]
  · isplitl [Hq Hb Hc]
    · isplitl [Hq]; · iexact Hq
      isplitl [Hc] <;> iassumption
    isplitl [Hs0 Hs1]; · isplitl [Hs0] <;> iassumption
    iexact Hp
  isplitl [HO]; · iapply (owesAt_intro m c) $$ HO
  isplitl [H0]; · iexact H0
  isplitl [H1]; · iexact H1
  iexact H2

end Cert.KernelIdeal.Ring

end
-- ==== Proof.Ring.Talk.lean ====
/-
# Entering and leaving the call

  The call opens its semaphores from what the launch set aside, and leaves the barrier's semaphore at zero.
-/
module

public import proofs.«01_k».proof.Proof.Ring.Region

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ

/-! ## Opening the semaphores -/

section
variable (val : Xf → Dev nD → Vec F S1x1x256x512 .f32) (c : Dev nD) (κ : GSem nD τ sig → ℕ)

/-- The two semaphores of a transfer, opened. -/
def lit (t : Xf) : sProp 𝕄 :=
  iprop((atPos ER (sndCell t c) 0 ∅ 0 ∗ reached ER (sndCell t c) 0) ∗ (atPos ER (rcvCell t c) 0 ∅ 0 ∗ reached ER (rcvCell t c) 0))

theorem open_one (t : Xf) : iprop(recs val κ ∗ ((openTok ER (sndCell t c) ∗ semVal (sndCell t c) 0) ∗ (openTok ER (rcvCell t c) ∗ semVal (rcvCell t c) 0)))
    ⊢ iprop(|={Set.univ}=> lit c t) := by
  unfold lit
  iintro ⟨#Hrec, Hs, Hr⟩
  ihave His := (recs_snd val κ c t) $$ Hrec
  ihave Hir := (recs_rcv val κ c t) $$ Hrec
  icombine His Hs as Hs
  icombine Hir Hr as Hr
  imod (Rounds.cell_open ER (Rd val) (g := sndCell t c) (Set.mem_univ (κ (sndCell t c)))) $$ Hs with Hs
  imod (Rounds.cell_open ER (Rd val) (g := rcvCell t c) (Set.mem_univ (κ (rcvCell t c)))) $$ Hr with Hr
  imodintro
  isplitl [Hs] <;> iassumption

theorem open_dma : iprop(recs val κ ∗ bigSep Finset.univ (fun t => iprop((openTok ER (sndCell t c) ∗ semVal (sndCell t c) 0) ∗ (openTok ER (rcvCell t c) ∗ semVal (rcvCell t c) 0))))
    ⊢ iprop(|={Set.univ}=> bigSep Finset.univ fun t => lit (F := F) c t) := by
  refine .trans ?_ (bigSep_fupd _ _)
  exact bigSep_with_persistent (R := recs val κ)
    (Φ := fun t => iprop((openTok ER (sndCell t c) ∗ semVal (sndCell t c) 0) ∗ (openTok ER (rcvCell t c) ∗ semVal (rcvCell t c) 0))) fun t _ => open_one val c κ t

/-- The kernel's own semaphores, one by one. -/
theorem own_split (Φ : SemLoc sig → sProp 𝕄) : bigSep Finset.univ (fun x => Φ (osem x))
    = iprop((bigSep Finset.univ (fun t => Φ (.dma (sndS t))) ∗ bigSep Finset.univ (fun t => Φ (.dma (rcvS t)))) ∗ Φ (.reg crS)) := by
  rw [bs_sum, bs_sum, Finset.univ_unique (α := Unit), bigSep_singleton]
  rfl

theorem open_all : iprop(recs val κ ∗ bigSep Finset.univ (fun x => openTok ER ((c : Thread nD τ), osem x)) ∗ Pipeline.ownSems0 osem c)
    ⊢ (iprop(|={Set.univ}=> (bigSep Finset.univ (fun t => lit c t) ∗ (atPos ER (crCell c) 0 ∅ 0 ∗ paying ER (crCell c) 0 (.cr 0) 0))) : sProp 𝕄) := by
  unfold Pipeline.ownSems0
  rw [own_split (fun x => openTok ER ((c : Thread nD τ), x)), own_split (fun x => semVal ((c : Thread nD τ), x) 0)]
  iintro ⟨#Hrec, ⟨⟨Ha, Hb⟩, Hc⟩, ⟨Ha', Hb'⟩, Hc'⟩
  ihave Hic := (recs_cr val κ c) $$ Hrec
  icombine Hc Hc' as Hc
  icombine Hic Hc as Hc
  imod (cr_start (crCell c) _ _) $$ Hc with Hc
  ihave Hd := (open_dma val c κ) $$ [Ha Hb Ha' Hb']
  · isplitr; · iexact Hrec
    iapply pair
    isplitl [Ha Ha']
    · iapply pair; isplitl [Ha] <;> iassumption
    · iapply pair; isplitl [Hb] <;> iassumption
  imod Hd
  imodintro
  isplitl [Hd]; · iexact Hd
  iexact Hc

end

variable (m : (ℓ : Loc nD τ sig) → Buf (Elt F) ℓ)

/-- What the launch sets aside for a device. -/
def Kept (c : Dev nD) : sProp 𝕄 := iprop((∃ κ, bigSep Finset.univ (fun d => cellRec (cargo m) κ d)) ∗ given c ∗ dues c)

theorem hopen (c : Dev nD) : (iprop(Kept m c ∗ Pipeline.ownSems0 osem c ∗ levAts L lv) : sProp 𝕄) ⊢ |={Set.univ}=> iprop(∃ κ, Opened m c κ) := by
  unfold Kept given sent dues
  iintro ⟨⟨⟨%κ, Hr⟩, ⟨Hbar, Hop, H1, H2, H3⟩, Hcb, Hcc, Hcx⟩, Hos, HL⟩
  ihave Hrec : (recs (cargo m) κ : sProp 𝕄) $$ [Hr HL]
  · unfold recs
    isplitl [HL] <;> iassumption
  icases Hrec with #Hrec
  ihave Hn := (open_all (cargo m) c κ) $$ [Hop Hos]
  · isplitr; · iexact Hrec
    isplitl [Hop] <;> iassumption
  imod Hn
  icases Hn with ⟨Hl, Hcp, Hpay⟩
  ihave Hl' := (show (bigSep Finset.univ (fun t => lit c t) : sProp 𝕄) ⊢ iprop((bigSep Finset.univ (fun t => atPos ER (sndCell t c) 0 ∅ 0) ∗ bigSep Finset.univ (fun t => reached ER (sndCell t c) 0))
      ∗ bigSep Finset.univ (fun t => atPos ER (rcvCell t c) 0 ∅ 0) ∗ bigSep Finset.univ (fun t => reached ER (rcvCell t c) 0))
    from unpair.trans (BI.sep_mono unpair unpair)) $$ Hl
  icases Hl' with ⟨⟨Hsa, Hsr⟩, Hra, Hrr⟩
  imodintro
  iexists κ
  unfold Opened
  isplitr; · iexact Hrec
  isplitl [H2 Hsr H3 Hsa]
  · unfold sndP
    iapply pair; isplitl [H2]; · iexact H2
    iapply pair; isplitl [Hsr]; · iexact Hsr
    iapply pair; isplitl [H3] <;> iassumption
  isplitl [Hcx Hra]
  · iapply (show (iprop(bigSep Finset.univ (fun t => cred (tallyAt (rcvCell t c) 0 N)) ∗ bigSep Finset.univ (fun t => atPos ER (rcvCell t c) 0 ∅ 0)) : sProp 𝕄)
      ⊢ bigSep Finset.univ (fun t => rcvR c t false) from pair)
    isplitl [Hcx] <;> iassumption
  isplitl [Hrr]; · iexact Hrr
  isplitl [H1]; · iexact H1
  isplitl [Hpay]; · iexact Hpay
  isplitl [Hcb Hbar]; · isplitl [Hcb] <;> iassumption
  isplitl [Hcp]; · iexact Hcp
  iexact Hcc

/-! ## The call -/

/-- What a device's buffers hold after the call: as before it, but for the result. -/
def Vend (c : Dev nD) : Valuation τ sig (Elt F) := Function.update (V1 m c) main_v19 (result m c)

theorem Vend_result (c : Dev nD) : Vend m c main_v19 = result m c := Function.update_self ..
theorem Vend_of (c : Dev nD) (b : DevRef τ sig) (h : b ≠ Proc.devRef .tc main_v19) : Vend m c b = V1 m c b := Function.update_of_ne h ..

theorem scoped_bufs (c : Dev nD) : (Pipeline.scopedRest (Ix := ℕ) (Name := ℕ) (U := UU) (Lvl := ℕ) (Val := Elt F) spec0 c : sProp 𝕄) = Bufs c := by
  rw [scopedRest0_eq]
  unfold Bufs
  simp only [owns_whole]

theorem hin (c : Dev nD) : (iprop(Pipeline.scopedRest (Pipeline.pin (pcfgs (F := F)) adm 0).spec c ∗ (∃ r, prngReg c r) ∗ StableHlo.held (c.tc : Thread nD τ) ∅ (V1 m c)
      ∗ (∃ κ, Opened m c κ)) : sProp 𝕄)
    ⊢ (pdats m 0 c).Φ 0 := by
  rw [show (pdats m 0 c).Φ 0 = Before m c from rfl, scoped_bufs]
  unfold Before
  iintro ⟨Hs, Hp, -, HX⟩
  isplitl [HX]; · iexact HX
  isplitl [Hs]; · iexact Hs
  iexact Hp

theorem hout (c : Dev nD) : (pdats m 0 c).Φ (Fin.last (Pipeline.pin (pcfgs (F := F)) adm 0).N)
    ⊢ (iprop(Pipeline.scopedRest (Pipeline.pin (pcfgs (F := F)) adm 0).spec c ∗ (∃ r, prngReg c r) ∗ StableHlo.held (c.tc : Thread nD τ) ∅ (Vend m c)
      ∗ Pipeline.ownSems0 osem c ∗ semVal (barCell c) 0) : sProp 𝕄) := by
  rw [show (pdats m 0 c).Φ (Fin.last _) = After c from rfl, scoped_bufs]
  unfold After Pipeline.ownSems0 quiet
  rw [own_split (fun x => semVal ((c : Thread nD τ), x) 0)]
  iintro ⟨⟨Hq, Hc, Hb⟩, Hs, Hp⟩
  icases (unpair (F := F)) $$ Hq with ⟨Hq1, Hq2⟩
  isplitl [Hs]; · iexact Hs
  isplitl [Hp]; · iexact Hp
  isplitr
  · unfold StableHlo.held
    iapply (Entails.of_eq bigSep_empty.symm); iempintro
  isplitl [Hq1 Hq2 Hc]
  · isplitl [Hq1 Hq2]; · isplitl [Hq1] <;> iassumption
    iexact Hc
  iexact Hb

theorem Pay.lev_pos (p : Pay) : 0 < p.lev := by
  cases p with
  | bar _ => exact Nat.one_pos
  | cr k => revert k; decide
  | x t => revert t; decide +kernel

/-- What a device owes, it owes at a level above the copies into and out of the call. -/
theorem owed_cut (c : Dev nD) (t : Fin (cfg0.N + 1)) (g : GSem nD τ sig) (i : ℕ) (h : 0 < (dat0 (F := F) m c).owed t g i) : i ∈ L g ∧ (0 : ℕ) < lv g i := by
  have e : (dat0 (F := F) m c).owed t = if t.val = 0 then O₀ c else 0 := rfl
  rw [e] at h
  split at h
  · obtain ⟨p, -, rfl, rfl⟩ := owed_pos c Pay.all g i h
    refine ⟨?_, by rw [Pay.lv_cell]; exact Pay.lev_pos p⟩
    rw [show L (Pay.cell c p) = Finset.range 8 by cases p <;> exact L_tc _ _]
    exact Finset.mem_range.mpr (Pay.ix_lt p)
  · exact absurd h (Nat.lt_irrefl 0)

theorem cut_all : Pipeline.LevelCutOwed (pcfgs (F := F)) adm (pdats m) 0 L lv 0 (fun _ => 0) where
  hι c w s := by
    rw [L_tc]; exact Finset.mem_range.mpr (by decide)
  hιb c w s := Nat.le_of_eq (by
    have h : ∀ w : Fin 3, ∀ s : Fin ((cfg0.win w).nbuf), dlv ((cfg0.win w).sem s).val = 0 := by decide +kernel
    exact h w s)
  hD := fun c t g i h => owed_cut m c t g i h

theorem flushed_eq (c : Dev nD) (t : Fin cfg0.N) : (dat0 m c).flushed 2 t = ((cfg0.win 2).blk t).view.read (Elt F) (result m c) := by
  obtain rfl := fin_N0 t
  have ha : (dat0 m c).after 2 t0_0 = result m c := rfl
  unfold Pipeline.Dat.flushed
  rw [ha]
  exact (read_blk2 (result m c)).symm

theorem cover (i : S4x256x2048.Idx) : ∃ t : Fin cfg0.N, (cfg0.win 2).flush t = true ∧ i ∈ ((cfg0.win 2).blk t).view.set := by
  refine ⟨t0_0, flush0_2 _, ?_⟩
  show i ∈ ((View.whole main_v19).slice (win0_2.rect t0_0)).set
  rw [View.set_slice_whole, Rect.mem_set_unit]
  have e : ∀ a : Fin 3, win0_2.index t0_0 a * win0_2.size a = 0 ∧ win0_2.xsize (grid0.coords t0_0) a = S4x256x2048.size a := by decide +kernel
  intro a
  show win0_2.index t0_0 a * win0_2.size a ≤ (i a : Nat) ∧ (i a : Nat) < win0_2.index t0_0 a * win0_2.size a + win0_2.xsize (grid0.coords t0_0) a
  rw [(e a).1, (e a).2]
  exact ⟨Nat.zero_le _, by rw [Nat.zero_add]; exact (i a).isLt⟩

theorem array_start (c : Dev nD) (w : Fin 3) : (pdats (F := F) m 0 c).arrAt w 0 = V1 m c (Proc.devRef .tc (Pipeline.arrRef (Pipeline.pin (pcfgs (F := F)) adm 0).spec w)) :=
  match w with
  | 0 => rfl
  | 1 => rfl
  | 2 => rfl

theorem array_end (c : Dev nD) (w : Fin 3) :
    (pdats (F := F) m 0 c).arrAt w (Pipeline.pin (pcfgs (F := F)) adm 0).N = Vend m c (Proc.devRef .tc (Pipeline.arrRef (Pipeline.pin (pcfgs (F := F)) adm 0).spec w)) :=
  match w with
  | 0 => ((dat0 m c).arrAt_in 0 rfl _).trans (Vend_of m c (Proc.devRef .tc main_v2) (by decide)).symm
  | 1 => ((dat0 m c).arrAt_in 1 rfl _).trans (Vend_of m c (Proc.devRef .tc main_v18) (by decide)).symm
  | 2 => ((dat0 m c).arrAt_eq_of_cover 2 (result m c) (fun t _ => flushed_eq m c t) cover).trans (Vend_result m c).symm

/-- The references of the call's arrays, and the other references it need not know of. -/
abbrev arrs : Finset (DevRef τ sig) := Pipeline.arrRefs (τ := τ) (pcfgs (F := F) 0).spec
abbrev others : Finset (DevRef τ sig) := Pipeline.ucRefs τ sig \ arrs (F := F)

theorem out_mem : Proc.devRef .tc main_v19 ∈ arrs (F := F) := Finset.mem_map.mpr ⟨main_v19, Finset.mem_image.mpr ⟨(2 : Fin 3), Finset.mem_univ _, rfl⟩, rfl⟩
theorem arrs_sub : arrs (F := F) ⊆ Pipeline.ucRefs τ sig := Pipeline.arrRefs_sub_ucRefs _ (show ∀ w : Fin 3, (Pipeline.arrRef spec0 w).isScoped = false by decide)
theorem others_same (c : Dev nD) (b : DevRef τ sig) (h : b ∈ others (F := F) \ ∅) : Vend m c b = V1 m c b :=
  Vend_of m c b fun e => (Finset.mem_sdiff.mp (Finset.mem_sdiff.mp h).1).2 (e ▸ out_mem)

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem osem_inj : Function.Injective osem := by
  rintro (x | x) (y | y) h
  · exact congrArg Sum.inl (osem_dma_inj h)
  · rcases x with x | x <;> cases h
  · rcases y with y | y <;> cases h
  · rfl

theorem own_facts : Pipeline.OwnSemFacts spec0 osem where
  isScoped := by decide +kernel
  inj := osem_inj
  disj := by decide +kernel

set_option backward.isDefEq.respectTransparency.types false in
/-- The call as a step of the program. -/
def call : Pipeline.RegionSeg (pcfgs (F := F)) adm (pdats m) 0 defs₀ 𝒱₀ L lv 0 :=
  Pipeline.RegionSeg.ofTalk (pcfgs (F := F)) adm (pdats m) 0 defs₀ 𝒱₀ L lv 0 osem own_facts
    ∅ (others (F := F)) (Finset.empty_subset _) kit rfl (fun c => (body_obligation m c).loose)
    (fun _ => 0) O₀ (fun c => (owed_first m c).trans (zero_add _).symm) (owed_last m) (fun _ => rfl)
    (fun c w => by unfold Pipeline.Dat.share; split <;> rfl)
    (V1 m) (Vend m) (others_same m)
    (Kept m) (fun c => semVal (barCell c) 0) (fun c => iprop(∃ κ, Opened m c κ)) (fun c => semVal (barCell c) 0) (hopen m) (hin m) (hout m)
    (fun c => by iintro H; imodintro; iexact H)
    (fun _ => 0) (cut_all m) (fun _ => iprop(emp))
    (array_start m) (array_end m)

theorem call_pre (c : Dev nD) : (iprop(StableHlo.held (c : Thread nD τ) (Pipeline.ucRefs τ sig) (V1 m c) ∗ (∃ r, prngReg c r) ∗ Kept m c ∗ ∃ W, owes (c : Thread nD τ) (O₀ c) W) : sProp 𝕄)
    ⊢ (call m).pre c := by
  show _ ⊢ (iprop(StableHlo.held (c.tc : Thread nD τ) (arrs (F := F)) (V1 m c) ∗ (∃ r, prngReg c r)
    ∗ (StableHlo.held (c.tc : Thread nD τ) (others (F := F)) (V1 m c) ∗ emp) ∗ Kept m c ∗ ∃ Wd, owes (c : Thread nD τ) (0 + O₀ c) Wd) : sProp 𝕄)
  rw [StableHlo.held_sub_split (c.tc : Thread nD τ) (arrs_sub (F := F)) (V1 m c), zero_add]
  iintro ⟨⟨Ha, Hh⟩, Hp, HK, HO⟩
  isplitl [Ha]; · iexact Ha
  isplitl [Hp]; · iexact Hp
  isplitl [Hh]
  · isplitl [Hh]; · iexact Hh
    iempintro
  isplitl [HK] <;> iassumption

theorem call_post (c : Dev nD) : (call m).post c
    ⊢ (iprop(StableHlo.held (c : Thread nD τ) (Pipeline.ucRefs τ sig) (Vend m c) ∗ semVal (barCell c) 0 ∗ ∃ W, owes (c : Thread nD τ) (0 : CellTallies nD τ sig ℕ) W) : sProp 𝕄) := by
  show (iprop(StableHlo.held (c.tc : Thread nD τ) (arrs (F := F)) (Vend m c) ∗ (∃ r, prngReg c r)
    ∗ (StableHlo.held (c.tc : Thread nD τ) (others (F := F)) (Vend m c) ∗ emp) ∗ semVal (barCell c) 0 ∗ ∃ Wd, owes (c : Thread nD τ) (0 : CellTallies nD τ sig ℕ) Wd) : sProp 𝕄) ⊢ _
  rw [StableHlo.held_sub_split (c.tc : Thread nD τ) (arrs_sub (F := F)) (Vend m c)]
  iintro ⟨Ha, -, ⟨Hh, -⟩, Hb, HO⟩
  isplitl [Ha Hh]; · isplitl [Ha] <;> iassumption
  isplitl [Hb] <;> iassumption

end Cert.KernelIdeal.Ring

end
-- ==== Proof.Ring.Run.lean ====
/-
# The whole run

  From any memory with every semaphore at zero, all devices run their programs to the end; then every semaphore reads zero
  again, the arguments are as they were, and each device's result is what the call leaves.
-/
module

public import proofs.«01_k».proof.Proof.Ring.Talk
public import Idealize.ShloMosaic.Lib.Quiescent

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ

variable (m : (ℓ : Loc nD τ sig) → Buf (Elt F) ℓ)

/-- The ring's launch resources: all of them with the first device. -/
def parked (c : Dev nD) : sProp 𝕄 := if c = 0 then BI.own (ER (launchOf barCells (dmaCells ∪ crCells) tokens)) else iprop(emp)

theorem parked_all : (bigSep Finset.univ (fun c => parked c) : sProp 𝕄) = BI.own (ER (launchOf barCells (dmaCells ∪ crCells) tokens)) := by
  rw [bs_erase (Finset.mem_univ (0 : Dev nD)), bigSep_congr (s := Finset.univ.erase (0 : Dev nD)) (Ψ := fun _ => (BI.emp : sProp 𝕄))
    fun c hc => by unfold parked; rw [if_neg (Finset.ne_of_mem_erase hc)]; rfl, BI.bigSep_emp_const]
  unfold parked; rw [if_pos rfl]
  exact BI.equiv_iff.mp sep_emp

/-- The launch resources of the copies into and out of the call, and the ring's. -/
def launched : UU :=
  (initOf (Pipeline.cells (Pipeline.pin (pcfgs (F := F)) adm) cellOf_inj) (Pipeline.launchToks (Pipeline.pin (pcfgs (F := F)) adm) cellOf_inj),
    launchOf barCells (dmaCells ∪ crCells) tokens)

theorem unscoped_sems (c : Dev nD) : (unscopedSems0 c : sProp 𝕄) = semVal (barCell c) 0 := by
  unfold unscopedSems0
  rw [show (Finset.univ.filter fun sm : SemLoc sig => ¬ sm.isScoped .tc) = {SemLoc.reg barS} from by decide +kernel, BI.bigSep_singleton]

/-- What goes along with the buffers: up to the call, and after it. -/
def Along (k : Fin 2) (c : Dev nD) : sProp 𝕄 :=
  if k = 0 then iprop((∃ r, prngReg c r) ∗ Kept m c ∗ ∃ W, owes (c : Thread nD τ) (O₀ c) W)
  else iprop(semVal (barCell c) 0 ∗ ∃ W, owes (c : Thread nD τ) (0 : CellTallies nD τ sig ℕ) W)

theorem along_first (c : Dev nD) : (Along m 0 c : sProp 𝕄) = iprop((∃ r, prngReg c r) ∗ Kept m c ∗ ∃ W, owes (c : Thread nD τ) (O₀ c) W) := if_pos rfl

/-- What a device gets at launch but for the ring's resources, and what it needs of those. -/
def bundle (c : Dev nD) : sProp 𝕄 := iprop((∃ r, prngReg c r) ∗ dues c ∗ ∃ W, owes (c : Thread nD τ) (O₀ c) W)

theorem along_of (κ : GSem nD τ sig → ℕ) (c : Dev nD) :
    (iprop(bigSep Finset.univ (fun d => cellRec (cargo m) κ d) ∗ (given c ∗ bundle c)) : sProp 𝕄) ⊢ Along m 0 c := by
  rw [along_first]
  unfold bundle Kept
  iintro ⟨Hr, Hg, Hp, Hd, HO⟩
  isplitl [Hp]; · iexact Hp
  isplitl [Hr Hg Hd]
  · isplitl [Hr]; · iexists κ; iexact Hr
    isplitl [Hg] <;> iassumption
  iexact HO

variable (ρ : Dev nD → PrngReg)

theorem init_one (c : Dev nD) : iprop(unscopedSems0 c ∗ owes (c : Thread nD τ) (O₀ c) ∅ ∗ Pipeline.launchCred O₀ c ∗ prngReg c (ρ c) ∗ parked c)
    ⊢ (iprop(bundle c ∗ semVal (barCell c) 0 ∗ parked c) : sProp 𝕄) := by
  rw [unscoped_sems]
  unfold bundle
  iintro ⟨Hv, HO, Hcr, Hp, HG⟩
  ihave Hd := (creds (F := F) c) $$ Hcr
  isplitl [HO Hd Hp]
  · isplitl [Hp]; · iexists (ρ c); iexact Hp
    isplitl [Hd]; · iexact Hd
    iexists ∅; iexact HO
  isplitl [Hv] <;> iassumption

/-- The launch makes what goes along with the buffers, on all devices at once. -/
theorem init : iprop((bigSep Finset.univ fun c : Dev nD => iprop(unscopedSems0 c ∗ owes (c : Thread nD τ) (O₀ c) ∅ ∗ Pipeline.launchCred O₀ c ∗ prngReg c (ρ c) ∗ parked c)) ∗ levAts L lv)
    ⊢ (|={Set.univ}=> bigSep Finset.univ (Along m 0) : sProp 𝕄) := by
  iintro ⟨H, -⟩
  ihave H' := (show (bigSep Finset.univ fun c : Dev nD => iprop(unscopedSems0 c ∗ owes (c : Thread nD τ) (O₀ c) ∅ ∗ Pipeline.launchCred O₀ c ∗ prngReg c (ρ c) ∗ parked c))
      ⊢ (iprop(bigSep Finset.univ (fun c => bundle c) ∗ bigSep Finset.univ (fun c => semVal (barCell c) 0) ∗ bigSep Finset.univ (fun c => parked c)) : sProp 𝕄)
    from (bigSep_mono fun c _ => init_one ρ c).trans (unpair.trans (BI.sep_mono (same rfl) unpair))) $$ H
  icases H' with ⟨HB, Hv, HG⟩
  ihave HG' := (same (parked_all (F := F))) $$ HG
  icombine Hv HG' as HF
  imod (fund (cargo m)) $$ HF with ⟨%κ, #Hr, Hg⟩
  imodintro
  iapply (bigSep_with_persistent (R := bigSep Finset.univ (fun d => cellRec (cargo m) κ d)) (Φ := fun c => iprop(given c ∗ bundle c)) fun c _ => along_of m κ c)
  isplitr; · iexact Hr
  iapply pair
  isplitl [Hg] <;> iassumption

theorem unscoped_eq : ∀ sm : SemLoc sig, sm.isScoped .tc = false → sm = .reg barS := by decide +kernel

theorem Vend_arg (c : Dev nD) (r : Ref sig .tc) (h : r ∉ hostOps0_W) (h' : r ≠ main_v19) : Vend m c r = m ((c : Thread nD τ).loc r) :=
  (Vend_of m c r (StableHlo.devRef_ne_of_ne h')).trans (V1_of m c r h)

set_option backward.isDefEq.respectTransparency.types false in
/-- Every run from memory `m` with all semaphores at zero ends with each device's result as the call leaves it, both
    arguments as they were, and every semaphore at zero. -/
theorem run_main : θ_run defs (onTc (τ := τ) (main (F := F))) ⟨m, fun _ => 0, ρ⟩ (fun r =>
    (∀ c : Dev nD, r.2.mem ((c.tc : Thread nD τ).loc main_v19) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) := by
  refine Pipeline.θ_run_regions_kit_dev_sems (pcfgs (F := F)) adm (pdats m) 0 cellOf_inj EP defs₀ 𝒱₀ L lv m ρ main
    (segs m 𝒱₀ L lv (Along m) 0 (pdats m) (call m))
    (fun c Q => by
      rewrite [main_chain c, Pipeline.Seg.run_eq_chain,
        show (segs m 𝒱₀ L lv (Along m) 0 (pdats m) (call m) c).map Pipeline.Seg.prog = [
          StableHlo.seq (hostOps0 c),
          Prog.lift (.customCall (Pipeline.entry 0) ()) ] from rfl]
      dsimp (config := { failIfUnchanged := false }) only
      exact .rfl)
    (fun c => by simp only [segs, Pipeline.Seg.pipes_host, Pipeline.Seg.pipes_region, Pipeline.Seg.pipes_nil]; decide)
    O₀ L_of_ne parked (launched (F := F)) ?_
    (T₀ := fun c => iprop(StableHlo.held (c : Thread nD τ) (Pipeline.ucRefs τ sig) (V0 m c) ∗ Along m 0 c))
    (Tₙ := fun c => iprop(StableHlo.held (c : Thread nD τ) (Pipeline.ucRefs τ sig) (Vend m c) ∗ semVal (barCell c) 0))
    (hch := fun c => ⟨.rfl, (BI.sep_mono (same rfl) (same (along_first m c))).trans (call_pre m c), (call_post m c).trans ?_⟩)
    (hinit := ?_)
    (QY := fun c s => (s.mem ((c.tc : Thread nD τ).loc main_v19) = Vend m c main_v19 ∧ s.mem ((c.tc : Thread nD τ).loc main_arg0) = Vend m c main_arg0
      ∧ s.mem ((c.tc : Thread nD τ).loc main_arg1) = Vend m c main_arg1) ∧ s.sem (barCell c) = 0)
    (hfin := fun c s' => ?_)
    (hQ := fun s h hs => ⟨fun c => ⟨(h c).1.1.trans (Vend_result m c), (h c).1.2.1.trans (Vend_arg m c main_arg0 (by decide) (by decide)),
        (h c).1.2.2.trans (Vend_arg m c main_arg1 (by decide) (by decide))⟩,
      sem_eq_zero hs fun c sm hsm => by obtain rfl := unscoped_eq sm hsm; exact (h c).2⟩)
  · unfold launched
    iintro Hu
    ihave H := (ownU_pair _ _) $$ Hu
    icases H with ⟨HP, HX⟩
    imodintro
    isplitl [HP]; · iexact HP
    rw [parked_all]; iexact HX
  · show (iprop(StableHlo.held (c : Thread nD τ) (Pipeline.ucRefs τ sig) (Vend m c) ∗ semVal (barCell c) 0 ∗ ∃ W, owes (c : Thread nD τ) (0 : CellTallies nD τ sig ℕ) W) : sProp 𝕄)
      ⊢ iprop((StableHlo.held (c : Thread nD τ) (Pipeline.ucRefs τ sig) (Vend m c) ∗ semVal (barCell c) 0) ∗ ∃ W, owes (c : Thread nD τ) (0 : CellTallies nD τ sig ℕ) W)
    iintro ⟨Hh, Hb, HO⟩
    isplitr [HO]
    · isplitl [Hh] <;> iassumption
    iexact HO
  · have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ parked c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ parked c)) : sProp 𝕄) := by
      rw [← bigSep_sep']
      exact bigSep_mono fun c _ => by rw [← Pipeline.unscopedBufs_held (Ix := ℕ) (Name := ℕ) (U := UU) (Lvl := ℕ) c (V0 m c)]; exact BI.Entails.refl _
    iintro ⟨H, Hla⟩
    ihave H' := hsplit $$ H
    icases H' with ⟨Hh, Hr⟩
    imod (init m ρ) $$ [Hr Hla] with HE
    · isplitl [Hr]; · iexact Hr
      iexact Hla
    imodintro
    rw [bigSep_sep']
    isplitl [Hh]; · iexact Hh
    iexact HE
  · unfold StableHlo.held
    iintro ⟨⟨Hh, Hb⟩, HSI⟩
    icombine HSI Hb gives %hb
    ihave Hr := (pointsTo_read_all (Pipeline.ucRefs τ sig) (fun b => ((c : Thread nD τ).1, b)) (Vend m c) s') $$ [Hh HSI]
    · isplitl [Hh] <;> iassumption
    icases Hr with ⟨%h, HSI⟩
    imodintro
    isplitr
    · ipureintro
      exact ⟨⟨h (Proc.devRef .tc main_v19) (Finset.mem_filter.mpr ⟨StableHlo.devRef_mem_tcRefs main_v19, by decide⟩),
        h (Proc.devRef .tc main_arg0) (Finset.mem_filter.mpr ⟨StableHlo.devRef_mem_tcRefs main_arg0, by decide⟩),
        h (Proc.devRef .tc main_arg1) (Finset.mem_filter.mpr ⟨StableHlo.devRef_mem_tcRefs main_arg1, by decide⟩)⟩, by simpa using hb⟩
    · iexact HSI

end Cert.KernelIdeal.Ring

end
-- ==== Proof.Ring.Twin.lean ====
/-
# The program at machine words

  The same text, read at machine words and at ideal numbers: what is proved of the one text for any numbers holds of both.
-/
module

public import proofs.«01_k».proof.Proof.Ring.Run
public import proofs.«01_k».proof.Proof.Gen.Kernel

@[expose] public section

noncomputable section

namespace Cert.KernelIdeal.Ring

open Idealize.ShloMosaic
open Idealize.ShloMosaic.TcCoe
open Idealize.SL.Sem

variable {F : FTy → Type} [FloatOps F]

/-- The two readings have the same body, -/
theorem body_same : @Cert.Kernel.cc0_body F _ _ = @Cert.KernelIdeal.cc0_body F _ _ := rfl

/-- the same host code, -/
theorem main_same : Cert.Kernel.main (F := F) = Cert.KernelIdeal.main (F := F) := rfl

/-- and the same table of bodies, -/
theorem table_same : Cert.Kernel.defs₀ (F := F) = Cert.KernelIdeal.defs₀ (F := F) := by
  unfold Cert.Kernel.defs₀ Cert.KernelIdeal.defs₀
  refine congrArg Defs.onTc (funext fun l => funext fun a => ?_)
  match l, a with
  | 0, (t, s) => rfl
  | ⟨_ + 1, h⟩, _ => exact absurd h (Nat.not_lt.2 (Nat.le_add_left _ _))

/-- with the call's pipeline added. -/
theorem defs_same : Cert.Kernel.defs (F := F) = Cert.KernelIdeal.defs (F := F) := by
  unfold Cert.Kernel.defs Cert.KernelIdeal.defs
  rw [← table_same]
  rfl

/-- Every run of the program at machine words ends with the arguments as they were and every semaphore at zero. -/
theorem run_words (m : (ℓ : Loc Cert.Kernel.nD Cert.Kernel.τ Cert.Kernel.sig) → Buf (Elt F) ℓ) (ρ : Dev Cert.Kernel.nD → PrngReg) :
    θ_run (Cert.Kernel.defs (F := F)) (onTc (τ := Cert.Kernel.τ) (Cert.Kernel.main (F := F))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0) := by
  rw [defs_same, main_same]
  exact (θ_run Cert.KernelIdeal.defs _ _).mono (fun _ h => ⟨fun c => (h.1 c).2, h.2⟩) (run_main m ρ)

end Cert.KernelIdeal.Ring

end
-- ==== Proof.Ring.Frames.lean ====
/-
# Every run ends at rest

  The kernel, at machine words and at ideal numbers, and the reference run to the end, leave their arguments as they were,
  and leave every semaphore at zero.
-/
module

public import proofs.«01_k».proof.Defs
public import proofs.«01_k».proof.Proof.Ring.Twin
public import proofs.«01_k».proof.Proof.Gen.ReferenceIdeal
public import proofs.«01_k».proof.Proof.Gen.ReferenceIdeal.Run

@[expose] public section

noncomputable section

namespace Cert.KernelIdeal.Ring

open Idealize.ShloMosaic
open Idealize.ShloMosaic.TcCoe
open Idealize.SL.Sem

/-- The kernel at machine words ends at rest. -/
theorem frame_words : Cert.quiescent_Kernel := fun m g _ => run_words m g

/-- The kernel at ideal numbers ends at rest. -/
theorem frame_ideal : Cert.quiescent_KernelIdeal := fun m g _ =>
  (θ_run Cert.KernelIdeal.defs _ _).mono (fun _ h => ⟨fun c => (h.1 c).2, h.2⟩) (run_main m g)

/-- The reference ends at rest: it has no semaphore. -/
theorem frame_reference : Cert.quiescent_ReferenceIdeal := fun m g _ =>
  (θ_run Cert.ReferenceIdeal.defs _ _).mono (fun r h => ⟨fun c => (h c).2, sem_eq_zero_of_no_sems (by decide) r.2⟩) (Cert.ReferenceIdeal.Value.run m g)

end Cert.KernelIdeal.Ring

end
-- ==== Proof.Ring.Operands.lean ====
/-
# What the host code leaves for the call

Before the call every device reshapes its share of the activations, exchanges the two inner axes, and cuts the column block
of its place on the outer ring out of its share of the weights. Read element by element.
-/
module

public import proofs.«01_k».proof.Proof.Ring.Region
public import Idealize.ShloMosaic.Lib.StableHlo.RunClose
public import Idealize.ShloMosaic.Lib.WordCmp
public import Idealize.ShloMosaic.Lib.Pointwise.Contract

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ

variable (m : (ℓ : Loc nD τ sig) → Buf (Elt F) ℓ)

/-- A device's own shares, as it was handed them. -/
abbrev acts (c : Dev nD) : Vec F S4x1024x8x64 .f32 := m ((c.tc : Thread nD τ).loc main_arg0)
abbrev mats (c : Dev nD) : Vec F S512x2048 .f32 := m ((c.tc : Thread nD τ).loc main_arg1)

theorem rows_eq (c : Dev nD) : rows m c = transpose S4x512x1024 [0, 2, 1] (shapeCast S4x1024x512 (acts m c) shapeCasts_S4x1024x8x64_S4x1024x512)
    transposes_S4x1024x512_S4x512x1024_0_2_1 := by
  unfold rows V1
  after_results
  rfl

/-- The column a device's block starts at, as the program reckons it from the device's number. -/
def start (c : Dev nD) : IVec S_ 32 :=
  let word := constantI S_ 32 (Dev.word c)
  let two := constantI S_ 32 2#32
  let x := Host.remui (Host.divui word (constantI S_ 32 8#32)) two
  let y := Host.remui (Host.divui word (constantI S_ 32 4#32)) two
  let p := muli (addi (muli two x) (xori x y)) (constantI S_ 32 512#32)
  select (cmpi .slt p (constantI S_ 32 0#32)) (addi p (constantI S_ 32 2048#32)) p

theorem start_eq : ∀ c : Dev nD, (start c (Shape.Idx.first h_S_)).toInt = ((512 * (qv c).val : ℕ) : ℤ) := by decide +kernel

theorem cut_inb (c : Dev nD) : S512x2048.Slices ![0, 512 * (qv c).val] S512x512 := by revert c; decide

theorem weights_eq (c : Dev nD) : weights m c = extractStridedSlice S512x512 ![0, 512 * (qv c).val] (mats m c) (cut_inb c) := by
  unfold weights V1
  after_results_simp_entrywise
  refine WordCmp.dynamicSlice_eq_extract S512x512 (mats m c) _ _ ![0, 512 * (qv c).val] (cut_inb c) fun a => ?_
  fin_cases a
  · rfl
  · exact start_eq c

/-- Inner coordinate `k`, row `s` of batch `b`: the row's element at head `k / 64`, position `k % 64`. -/
theorem rows_apply (c : Dev nD) (b : Fin 4) (k : Fin 512) (s : Fin 1024) : rows m c (ix3 b k s)
    = acts m c (ix4 b s ⟨k.val / 64, by omega⟩ ⟨k.val % 64, by omega⟩) := by
  rw [rows_eq]
  refine (transpose_apply [0, 2, 1] _ _ (ix3 b k s) (ix3 b s k) fun a => ?_).trans ?_
  · fin_cases a <;> rfl
  · refine shapeCast_apply _ _ (ix3 b s k) _ ?_
    rw [Shape.rowMajor_val_four, Shape.rowMajor_val_three]
    show ((b.val * 1024 + s.val) * 8 + k.val / 64) * 64 + k.val % 64 = (b.val * 1024 + s.val) * 512 + k.val
    omega

/-- Element `(k, j)` of the column block. -/
theorem weights_apply (c : Dev nD) (k j : Fin 512) : weights m c (ix2 k j)
    = mats m c (ix2 k ⟨512 * (qv c).val + j.val, by have := (qv c).isLt; omega⟩) := by
  rw [weights_eq]
  refine extractStridedSlice_apply _ _ _ (ix2 k j) _ fun a => ?_
  fin_cases a
  · show k.val = 0 + k.val; omega
  · rfl

end Cert.KernelIdeal.Ring

end
-- ==== Proof.Ring.Product.lean ====
/-
# The partial sums over the reals

Over the extended reals the sum that has gone all round an inner ring is the sum, over the devices of that ring, of their
products of one chunk of rows with their column blocks. The order in which the ring adds them no longer matters.
-/
module

public import proofs.«01_k».proof.Proof.Ring.Gather
public import Idealize.ShloMosaic.PureOps.Ideal.Laws
public import Idealize.ShloMosaic.Lib.Pointwise.Contract

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

/-- A device's own product of a chunk of rows with its column block, element by element. -/
theorem dot_apply (v : Vec Ideal S1x512x256 .f32) (g : Vec Ideal S512x512 .f32) (s : Fin 256) (j : Fin 512) :
    matmul (F := Ideal) (φ₁ := .f32) (φ₂ := .f32) dot_S1x512x256_S512x512_S1x256x512_1_0_02_1_n_n none v g
      (constant S1x256x512 .f32 0x00000000#32) (ix3 0 s j) = ∑ k : Fin 512, v (ix3 0 k s) * g (ix2 k j) := by
  refine (Ideal.matmul_constant_zero_apply _ none v g _).trans ?_
  rw [DotDims.sum_contr₁ dot_S1x512x256_S512x512_S1x256x512_1_0_02_1_n_n (a := 1) rfl (K := 512) rfl]
  refine Finset.sum_congr rfl fun k _ => congrArg₂ (fun x y : EReal => x * y) (congrArg v ?_) (congrArg g ?_)
  · funext a; fin_cases a <;> rfl
  · funext a; fin_cases a <;> rfl

theorem first_apply (v : Vec Ideal S1x512x256 .f32) (g : Vec Ideal S512x512 .f32) (s : Fin 256) (j : Fin 512) :
    k0_pay1 v g (ix4 0 0 s j) = ∑ k : Fin 512, v (ix3 0 k s) * g (ix2 k j) := by
  unfold k0_pay1
  refine (shapeCast_addUnit_apply ![1, 256, 512] _ _ (ix4 0 0 s j)).trans ?_
  rw [shapeCast_self, shapeCast_self]
  refine Eq.trans (congrArg _ ?_) (dot_apply v g s j)
  funext a; fin_cases a <;> rfl

theorem next_apply (v : Vec Ideal S1x512x256 .f32) (g : Vec Ideal S512x512 .f32) (w : Vec Ideal S1x1x256x512 .f32) (s : Fin 256) (j : Fin 512) :
    k0_pay15 v g w (ix4 0 0 s j) = w (ix4 0 0 s j) + ∑ k : Fin 512, v (ix3 0 k s) * g (ix2 k j) := by
  unfold k0_pay15
  refine (shapeCast_addUnit_apply ![1, 256, 512] _ _ (ix4 0 0 s j)).trans ?_
  rw [shapeCast_self, shapeCast_self]
  refine congrArg₂ (fun x y : EReal => x + y) ?_ (Eq.trans (congrArg _ ?_) (dot_apply v g s j))
  · refine (shapeCast_dropUnit_apply ![1, 256, 512] _ _ _).trans (congrArg w ?_)
    funext a; fin_cases a <;> rfl
  · funext a; fin_cases a <;> rfl

section
variable (O : Dev nD → Vec Ideal S4x512x1024 .f32) (G : Dev nD → Vec Ideal S512x512 .f32)

/-- Row `s` of chunk `z`. -/
def row (z : Fin 4) (s : Fin 256) : Fin 1024 := ⟨256 * z.val + s.val, by omega⟩

/-- What device `d` contributes to row `s` of chunk `z` of batch `b`, column `j` of its block. -/
def part (b z : Fin 4) (s : Fin 256) (j : Fin 512) (d : Dev nD) : EReal := ∑ k : Fin 512, O d (ix3 b k (row z s)) * G d (ix2 k j)

theorem oc_apply (X : Vec Ideal S4x512x1024 .f32) (b z : Fin 4) (k : Fin 512) (s : Fin 256) : oc X b z (ix3 0 k s) = X (ix3 b k (row z s)) := by
  unfold oc
  refine congrArg X (funext fun a => Fin.ext ?_)
  fin_cases a
  · show b.val + 1 * 0 = b.val; omega
  · show 0 + 1 * k.val = k.val; omega
  · show 256 * z.val + 1 * s.val = 256 * z.val + s.val; omega

theorem gl_apply (X : Vec Ideal S512x512 .f32) (k j : Fin 512) : gl X (ix2 k j) = X (ix2 k j) := by
  unfold gl
  refine congrArg X (funext fun a => Fin.ext ?_)
  fin_cases a
  · show 0 + 1 * k.val = k.val; omega
  · show 0 + 1 * j.val = j.val; omega

theorem own (b z : Fin 4) (s : Fin 256) (j : Fin 512) (d : Dev nD) :
    (∑ k : Fin 512, oc (O d) b z (ix3 0 k s) * gl (G d) (ix2 k j) : EReal) = part O G b z s j d :=
  Finset.sum_congr rfl fun k _ => by rw [oc_apply, gl_apply]

/-- On the way to device `c` every device works on `c`'s chunk. -/
theorem ch_way : ∀ c : Dev nD, ch 3 c = zv c ∧ ch 2 (zl c) = zv c ∧ ch 1 (zl (zl c)) = zv c ∧ ch 0 (zl (zl (zl c))) = zv c := by decide +kernel
/-- The devices on the way, by their places. -/
theorem way : ∀ c : Dev nD, zl c = dv (qv c) (zv c + 3) ∧ zl (zl c) = dv (qv c) (zv c + 2) ∧ zl (zl (zl c)) = dv (qv c) (zv c + 1)
    ∧ c = dv (qv c) (zv c) := by decide +kernel

theorem sum_way (f : Fin 4 → EReal) (z : Fin 4) : f (z + 1) + f (z + 2) + f (z + 3) + f z = ∑ i, f i := by
  rw [Fin.sum_univ_four]
  fin_cases z
  · show f 1 + f 2 + f 3 + f 0 = _; abel
  · show f 2 + f 3 + f 0 + f 1 = _; abel
  · show f 3 + f 0 + f 1 + f 2 = _; abel
  · show f 0 + f 1 + f 2 + f 3 = _; rfl

/-- The finished sum of batch `b` on device `c`. -/
theorem pv_apply (b : Fin 4) (c : Dev nD) (s : Fin 256) (j : Fin 512) :
    pv O G b 3 c (ix4 0 0 s j) = ∑ z : Fin 4, part O G b (zv c) s j (dv (qv c) z) := by
  obtain ⟨c3, c2, c1, c0⟩ := ch_way c
  obtain ⟨d3, d2, d1, d0⟩ := way c
  rw [← sum_way (fun z => part O G b (zv c) s j (dv (qv c) z)) (zv c)]
  show k0_pay15 (oc (O c) b (ch 3 c)) (gl (G c)) (k0_pay15 (oc (O (zl c)) b (ch 2 (zl c))) (gl (G (zl c)))
    (k0_pay15 (oc (O (zl (zl c))) b (ch 1 (zl (zl c)))) (gl (G (zl (zl c))))
      (k0_pay1 (oc (O (zl (zl (zl c)))) b (ch 0 (zl (zl (zl c))))) (gl (G (zl (zl (zl c)))))))) (ix4 0 0 s j) = _
  rw [next_apply, next_apply, next_apply, first_apply, c3, c2, c1, c0, own, own, own, own, ← d3, ← d2, ← d1, ← d0]

/-- The output of device `c`: column `j` comes from the block of place `j / 512`. -/
theorem out_apply (c : Dev nD) (b : Fin 4) (s : Fin 256) (j : Fin 2048) :
    laid (Blk O G c) (ix3 b s j) = ∑ z : Fin 4, part O G b (zv c) s ⟨j.val % 512, Nat.mod_lt _ (by decide)⟩ (dv ⟨j.val / 512, by omega⟩ z) := by
  have h := pv_apply O G b (dv ⟨j.val / 512, by omega⟩ (zv c)) s ⟨j.val % 512, Nat.mod_lt _ (by decide)⟩
  rw [qv_dv, zv_dv] at h
  refine Eq.trans ?_ h
  show pv O G b 3 (dv ⟨j.val / 512, _⟩ (zv c)) (low (from4 (ix3 b s j))) = _
  refine congrArg _ (funext fun a => ?_)
  fin_cases a <;> rfl

end

end Cert.KernelIdeal.Ring

end
-- ==== Proof.Ring.Value.lean ====
/-
# The kernel's result is the product

The blocks of the output, put together, are the one product the reference forms: a sum over four devices of sums over their
512 inner coordinates is the sum over all 2048.
-/
module

public import proofs.«01_k».proof.Defs
public import proofs.«01_k».proof.Proof.Ring.Run
public import proofs.«01_k».proof.Proof.Ring.Operands
public import proofs.«01_k».proof.Proof.Ring.Product
public import proofs.«01_k».proof.Proof.Gen.ReferenceIdeal
public import proofs.«01_k».proof.Proof.Gen.ReferenceIdeal.Run
public import Idealize.ShloMosaic.Lib.Layout

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

/-- The activations and the weights as wholes, and the reference's product of them. -/
abbrev Acts := FVec Ideal ReferenceIdeal.S4x1024x32x64 .f32
abbrev Mats := FVec Ideal ReferenceIdeal.S2048x2048 .f32
def product (A : Acts) (W : Mats) : FVec Ideal ReferenceIdeal.S4x1024x2048 .f32 :=
  Host.dotGeneral ReferenceIdeal.dot_S4x1024x2048_S2048x2048_S4x1024x2048_2_0_01_1_n_n none
    (shapeCast _ A ReferenceIdeal.Gen.shapeCasts_S4x1024x32x64_S4x1024x2048) W

/-- What the inner coordinate `k` adds to row `s` of batch `b`, column `j`. -/
def term (A : Acts) (W : Mats) (b : Fin 4) (s : Fin 1024) (j : Fin 2048) (k : Fin 2048) : EReal :=
  A (ix4 b s ⟨k.val / 64, by omega⟩ ⟨k.val % 64, by omega⟩) * W (ix2 k j)

theorem product_apply (A : Acts) (W : Mats) (b : Fin 4) (s : Fin 1024) (j : Fin 2048) :
    product A W (ix3 b s j) = ∑ k : Fin 2048, term A W b s j k := by
  unfold product
  simp only [Host.dotGeneral]
  refine (Ideal.dotGeneral_apply _ none _ _ W _).trans ?_
  rw [DotDims.sum_contr₁ ReferenceIdeal.dot_S4x1024x2048_S2048x2048_S4x1024x2048_2_0_01_1_n_n (a := 2) rfl (K := 2048) rfl]
  refine Finset.sum_congr rfl fun k _ => congrArg₂ (fun x y : EReal => x * y) ?_ (congrArg W ?_)
  · refine shapeCast_apply A _ _ _ ?_
    rw [Shape.rowMajor_val_four, Shape.rowMajor_val_three]
    show ((b.val * 1024 + s.val) * 32 + k.val / 64) * 64 + k.val % 64 = (b.val * 1024 + s.val) * 2048 + k.val
    omega
  · funext a; fin_cases a <;> rfl

/-- A sum over four stretches of 512. -/
theorem sum_stretches (f : Fin 2048 → EReal) : ∑ z : Fin 4, ∑ k : Fin 512, f ⟨512 * z.val + k.val, by omega⟩ = ∑ k, f k := by
  rw [← Fintype.sum_prod_type']
  refine Fintype.sum_equiv (finProdFinEquiv (m := 4) (n := 512)) _ _ fun p => congrArg f (Fin.ext ?_)
  show 512 * p.1.val + p.2.val = p.2.val + 512 * p.1.val
  omega

/-! ## The shares of the devices -/

section
variable {m : (ℓ : Loc nD τ sig) → Buf (Elt Ideal) ℓ} {A : Acts} {W : Mats}

/-- Every device holds its share of the activations and of the weights: the heads and the rows of its inner place. -/
def Shares (m : (ℓ : Loc nD τ sig) → Buf (Elt Ideal) ℓ) (A : Acts) (W : Mats) : Prop := ∀ c : Dev nD,
  acts m c = Layout.blockN ⟨4, ![4, 1024, 8, 64]⟩ ⟨4, ![4, 1024, 32, 64]⟩ (Layout.meshBlock [2, 2, 4] ![[], [], [2], []] c) A
  ∧ mats m c = Layout.blockN ⟨2, ![512, 2048]⟩ ⟨2, ![2048, 2048]⟩ (Layout.meshBlock [2, 2, 4] ![[2], []] c) W

theorem lin_z : ∀ c : Dev nD, Layout.meshLin [2, 2, 4] c.val [2] = (zv c).val := by decide +kernel
theorem lin_none (c : Dev nD) : Layout.meshLin [2, 2, 4] c.val [] = 0 := rfl

theorem acts_apply (h : Shares m A W) (c : Dev nD) (b : Fin 4) (s : Fin 1024) (g : Fin 8) (e : Fin 64) :
    acts m c (ix4 b s g e) = A (ix4 b s ⟨8 * (zv c).val + g.val, by have := (zv c).isLt; omega⟩ e) := by
  have hz := lin_z c
  rw [(h c).1]
  refine congrArg A (funext fun a => Fin.ext ?_)
  fin_cases a
  · show 0 * 4 + b.val = b.val; omega
  · show 0 * 1024 + s.val = s.val; omega
  · show Layout.meshLin [2, 2, 4] c.val [2] * 8 + g.val = 8 * (zv c).val + g.val; omega
  · show 0 * 64 + e.val = e.val; omega

theorem mats_apply (h : Shares m A W) (c : Dev nD) (k : Fin 512) (j : Fin 2048) :
    mats m c (ix2 k j) = W (ix2 ⟨512 * (zv c).val + k.val, by have := (zv c).isLt; omega⟩ j) := by
  have hz := lin_z c
  rw [(h c).2]
  refine congrArg W (funext fun a => Fin.ext ?_)
  fin_cases a
  · show Layout.meshLin [2, 2, 4] c.val [2] * 512 + k.val = 512 * (zv c).val + k.val; omega
  · show 0 * 2048 + j.val = j.val; omega

/-- What a device contributes is a stretch of the reference's sum. -/
theorem part_apply (h : Shares m A W) (b z o y : Fin 4) (s : Fin 256) (j : Fin 512) :
    part (rows m) (weights m) b z s j (dv o y)
      = ∑ k : Fin 512, term A W b (row z s) ⟨512 * o.val + j.val, by omega⟩ ⟨512 * y.val + k.val, by omega⟩ := by
  unfold part
  refine Finset.sum_congr rfl fun k _ => congrArg₂ (fun x y : EReal => x * y) ?_ ?_
  · rw [rows_apply, acts_apply h]
    refine congrArg A (funext fun a => Fin.ext ?_)
    fin_cases a
    · rfl
    · rfl
    · show 8 * (zv (dv o y)).val + k.val / 64 = (512 * y.val + k.val) / 64
      rw [zv_dv]; omega
    · show k.val % 64 = (512 * y.val + k.val) % 64
      omega
  · rw [weights_apply, mats_apply h]
    refine congrArg W (funext fun a => Fin.ext ?_)
    fin_cases a
    · show 512 * (zv (dv o y)).val + k.val = 512 * y.val + k.val
      rw [zv_dv]
    · show 512 * (qv (dv o y)).val + j.val = 512 * o.val + j.val
      rw [qv_dv]

theorem result_apply (h : Shares m A W) (c : Dev nD) (b : Fin 4) (s : Fin 256) (j : Fin 2048) :
    result m c (ix3 b s j) = product A W (ix3 b (row (zv c) s) j) := by
  unfold result
  rw [out_apply, product_apply, ← sum_stretches]
  refine Finset.sum_congr rfl fun y _ => (part_apply h b (zv c) _ y s _).trans ?_
  refine Finset.sum_congr rfl fun k _ => congrArg (fun i => term A W b (row (zv c) s) i _) (Fin.ext ?_)
  show 512 * (j.val / 512) + j.val % 512 = j.val
  omega

/-- A device ends with the rows of its own chunk of the product. -/
theorem result_eq (h : Shares m A W) (c : Dev nD) : result m c
    = Layout.blockN ⟨3, ![4, 256, 2048]⟩ ⟨3, ![4, 1024, 2048]⟩ (Layout.meshBlock [2, 2, 4] ![[], [2], []] c) (product A W) := by
  have hz := lin_z c
  funext i
  rw [eq_ix3 i]
  refine (result_apply h c (i 0) (i 1) (i 2)).trans (congrArg (product A W) (funext fun a => Fin.ext ?_))
  fin_cases a
  · show (i 0).val = 0 * 4 + (i 0).val; omega
  · show 256 * (zv c).val + (i 1).val = Layout.meshLin [2, 2, 4] c.val [2] * 256 + (i 1).val; omega
  · show (i 2).val = 0 * 2048 + (i 2).val; omega

end

/-- Over the reals the kernel computes what the reference computes: on every device, the rows of its chunk. -/
theorem same_product : Cert.algebraic_KernelIdeal_ReferenceIdeal := by
  intro m g m' g' _ h
  refine ⟨product (m' ((0 : Dev Cert.ReferenceIdeal.nD).tc.loc Cert.ReferenceIdeal.main_arg0)) (m' ((0 : Dev Cert.ReferenceIdeal.nD).tc.loc Cert.ReferenceIdeal.main_arg1)),
    (θ_run Cert.KernelIdeal.defs _ _).mono (fun _ hr c => ?_) (run_main m g),
    (θ_run Cert.ReferenceIdeal.defs _ _).mono (fun _ hr => hr 0) (Cert.ReferenceIdeal.Value.run m' g')⟩
  exact ⟨(hr.1 c).1.trans (result_eq h c), (hr.1 c).2⟩

end Cert.KernelIdeal.Ring

end
-- ==== Proof.lean ====
/-
# The certificate

  The claims about the kernel, put together from the modules under `Proof/Ring`.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Ring.Frames
public import proofs.«01_k».proof.Proof.Ring.Value

@[expose] public section

noncomputable section

namespace Cert.Proof

open Cert.KernelIdeal.Ring

/-- Every claim. -/
theorem claim : Cert.Claim :=
  ⟨Cert.Kernel.Gen.facts, Cert.KernelIdeal.Gen.facts, Cert.ReferenceIdeal.Gen.facts, frame_words, frame_ideal, frame_reference, trivial,
    same_product⟩

end Cert.Proof

end
